-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Index (m : (ℓ : Loc Cert.Index.nD Cert.Index.τ Cert.Index.sig) → Buf (Elt Bits) ℓ) : Prop :=
  True

def Pre_IndexIdeal (m : (ℓ : Loc Cert.IndexIdeal.nD Cert.IndexIdeal.τ Cert.IndexIdeal.sig) → Buf (Elt Ideal) ℓ) : Prop :=
  True

def Pre_IndexReferenceIdeal (m : (ℓ : Loc Cert.IndexReferenceIdeal.nD Cert.IndexReferenceIdeal.τ Cert.IndexReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerReferenceIdeal (m : (ℓ : Loc Cert.LayerReferenceIdeal.nD Cert.LayerReferenceIdeal.τ Cert.LayerReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Index [hIndex : Cert.Index.Facts] : Prop :=
  ∀ (m : (ℓ : Loc Cert.Index.nD Cert.Index.τ Cert.Index.sig) → Buf (Elt Bits) ℓ) (g : Dev Cert.Index.nD → PrngReg), Pre_Index m →
    θ_run (Cert.Index.defs (F := Bits)) (onTc (τ := Cert.Index.τ) (Cert.Index.main (F := Bits))) ⟨m, fun _ => 0, g⟩ (fun r => (∀ c : Dev Cert.Index.nD,
      r.2.mem ((c.tc : Thread Cert.Index.nD Cert.Index.τ).loc Cert.Index.main_arg0) = m ((c.tc : Thread Cert.Index.nD Cert.Index.τ).loc Cert.Index.main_arg0)
      ∧ r.2.mem ((c.tc : Thread Cert.Index.nD Cert.Index.τ).loc Cert.Index.main_arg1) = m ((c.tc : Thread Cert.Index.nD Cert.Index.τ).loc Cert.Index.main_arg1))
      ∧ r.2.sem = fun _ => 0)

def quiescent_IndexIdeal [hIndexIdeal : Cert.IndexIdeal.Facts] : Prop :=
  ∀ (m : (ℓ : Loc Cert.IndexIdeal.nD Cert.IndexIdeal.τ Cert.IndexIdeal.sig) → Buf (Elt Ideal) ℓ) (g : Dev Cert.IndexIdeal.nD → PrngReg), Pre_IndexIdeal m →
    θ_run (Cert.IndexIdeal.defs (F := Ideal)) (onTc (τ := Cert.IndexIdeal.τ) (Cert.IndexIdeal.main (F := Ideal))) ⟨m, fun _ => 0, g⟩ (fun r => (∀ c : Dev Cert.IndexIdeal.nD,
      r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
      ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1))
      ∧ r.2.sem = fun _ => 0)

def quiescent_IndexReferenceIdeal [hIndexReferenceIdeal : Cert.IndexReferenceIdeal.Facts] : Prop :=
  ∀ (m : (ℓ : Loc Cert.IndexReferenceIdeal.nD Cert.IndexReferenceIdeal.τ Cert.IndexReferenceIdeal.sig) → Buf (Elt Ideal) ℓ) (g : Dev Cert.IndexReferenceIdeal.nD → PrngReg), Pre_IndexReferenceIdeal m →
    θ_run (Cert.IndexReferenceIdeal.defs (F := Ideal)) (onTc (τ := Cert.IndexReferenceIdeal.τ) (Cert.IndexReferenceIdeal.main (F := Ideal))) ⟨m, fun _ => 0, g⟩ (fun r => (∀ c : Dev Cert.IndexReferenceIdeal.nD,
      r.2.mem ((c.tc : Thread Cert.IndexReferenceIdeal.nD Cert.IndexReferenceIdeal.τ).loc Cert.IndexReferenceIdeal.main_arg0) = m ((c.tc : Thread Cert.IndexReferenceIdeal.nD Cert.IndexReferenceIdeal.τ).loc Cert.IndexReferenceIdeal.main_arg0)
      ∧ r.2.mem ((c.tc : Thread Cert.IndexReferenceIdeal.nD Cert.IndexReferenceIdeal.τ).loc Cert.IndexReferenceIdeal.main_arg1) = m ((c.tc : Thread Cert.IndexReferenceIdeal.nD Cert.IndexReferenceIdeal.τ).loc Cert.IndexReferenceIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v10) = v0 c
          ∧ r.2.mem ((c.tc : Thread Cert.MergeReferenceIdeal.nD Cert.MergeReferenceIdeal.τ).loc Cert.MergeReferenceIdeal.main_v24) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v11) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Index_IndexIdeal : Prop :=
  True

def algebraic_IndexIdeal_IndexReferenceIdeal [hIndexIdeal : Cert.IndexIdeal.Facts] [hIndexReferenceIdeal : Cert.IndexReferenceIdeal.Facts] : Prop :=
  ∀ (m : (ℓ : Loc Cert.IndexIdeal.nD Cert.IndexIdeal.τ Cert.IndexIdeal.sig) → Buf (Elt Ideal) ℓ) (g : Dev Cert.IndexIdeal.nD → PrngReg)
    (m' : (ℓ : Loc Cert.IndexReferenceIdeal.nD Cert.IndexReferenceIdeal.τ Cert.IndexReferenceIdeal.sig) → Buf (Elt Ideal) ℓ) (g' : Dev Cert.IndexReferenceIdeal.nD → PrngReg), Pre_IndexIdeal m →
    (∀ c : Dev Cert.IndexIdeal.nD,
      m' ((c.tc : Thread Cert.IndexReferenceIdeal.nD Cert.IndexReferenceIdeal.τ).loc Cert.IndexReferenceIdeal.main_arg0) = m ((c.tc : Thread Cert.IndexIdeal.nD Cert.IndexIdeal.τ).loc Cert.IndexIdeal.main_arg0)
      ∧ m' ((c.tc : Thread Cert.IndexReferenceIdeal.nD Cert.IndexReferenceIdeal.τ).loc Cert.IndexReferenceIdeal.main_arg1) = m ((c.tc : Thread Cert.IndexIdeal.nD Cert.IndexIdeal.τ).loc Cert.IndexIdeal.main_arg1)) →
    ∃ (v0 : (c : Dev Cert.IndexIdeal.nD) → Buf (Elt Ideal) ((c.tc : Thread Cert.IndexIdeal.nD Cert.IndexIdeal.τ).loc Cert.IndexIdeal.main_v2)),
      θ_run (Cert.IndexIdeal.defs (F := Ideal)) (onTc (τ := Cert.IndexIdeal.τ) (Cert.IndexIdeal.main (F := Ideal))) ⟨m, fun _ => 0, g⟩ (fun r => ∀ c : Dev Cert.IndexIdeal.nD,
          r.2.mem ((c.tc : Thread Cert.IndexIdeal.nD Cert.IndexIdeal.τ).loc Cert.IndexIdeal.main_v2) = v0 c
          ∧ r.2.mem ((c.tc : Thread Cert.IndexIdeal.nD Cert.IndexIdeal.τ).loc Cert.IndexIdeal.main_arg0) = m ((c.tc : Thread Cert.IndexIdeal.nD Cert.IndexIdeal.τ).loc Cert.IndexIdeal.main_arg0)
          ∧ r.2.mem ((c.tc : Thread Cert.IndexIdeal.nD Cert.IndexIdeal.τ).loc Cert.IndexIdeal.main_arg1) = m ((c.tc : Thread Cert.IndexIdeal.nD Cert.IndexIdeal.τ).loc Cert.IndexIdeal.main_arg1))
      ∧ θ_run (Cert.IndexReferenceIdeal.defs (F := Ideal)) (onTc (τ := Cert.IndexReferenceIdeal.τ) (Cert.IndexReferenceIdeal.main (F := Ideal))) ⟨m', fun _ => 0, g'⟩ (fun r => ∀ c : Dev Cert.IndexReferenceIdeal.nD,
          r.2.mem ((c.tc : Thread Cert.IndexReferenceIdeal.nD Cert.IndexReferenceIdeal.τ).loc Cert.IndexReferenceIdeal.main_v2) = v0 c
          ∧ r.2.mem ((c.tc : Thread Cert.IndexReferenceIdeal.nD Cert.IndexReferenceIdeal.τ).loc Cert.IndexReferenceIdeal.main_arg0) = m' ((c.tc : Thread Cert.IndexReferenceIdeal.nD Cert.IndexReferenceIdeal.τ).loc Cert.IndexReferenceIdeal.main_arg0)
          ∧ r.2.mem ((c.tc : Thread Cert.IndexReferenceIdeal.nD Cert.IndexReferenceIdeal.τ).loc Cert.IndexReferenceIdeal.main_arg1) = m' ((c.tc : Thread Cert.IndexReferenceIdeal.nD Cert.IndexReferenceIdeal.τ).loc Cert.IndexReferenceIdeal.main_arg1))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)
      ∧ m' ((c.tc : Thread Cert.SmallReferenceIdeal.nD Cert.SmallReferenceIdeal.τ).loc Cert.SmallReferenceIdeal.main_arg4) = m ((c.tc : Thread Cert.SmallIdeal.nD Cert.SmallIdeal.τ).loc Cert.SmallIdeal.main_arg4)) →
    ∃ (v0 : (c : Dev Cert.SmallIdeal.nD) → Buf (Elt Ideal) ((c.tc : Thread Cert.SmallIdeal.nD Cert.SmallIdeal.τ).loc Cert.SmallIdeal.main_v7)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v7) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v9) = v0 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v39) = v0 c
          ∧ r.2.mem ((c.tc : Thread Cert.QkvReferenceIdeal.nD Cert.QkvReferenceIdeal.τ).loc Cert.QkvReferenceIdeal.main_v38) = v1 c
          ∧ r.2.mem ((c.tc : Thread Cert.QkvReferenceIdeal.nD Cert.QkvReferenceIdeal.τ).loc Cert.QkvReferenceIdeal.main_v40) = v2 c
          ∧ r.2.mem ((c.tc : Thread Cert.QkvReferenceIdeal.nD Cert.QkvReferenceIdeal.τ).loc Cert.QkvReferenceIdeal.main_v4) = v3 c
          ∧ r.2.mem ((c.tc : Thread Cert.QkvReferenceIdeal.nD Cert.QkvReferenceIdeal.τ).loc Cert.QkvReferenceIdeal.main_v41) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v25) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Layer_LayerIdeal : Prop :=
  True

def algebraic_LayerIdeal_LayerReferenceIdeal [hLayerIdeal : Cert.LayerIdeal.Facts] [hLayerReferenceIdeal : Cert.LayerReferenceIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)) →
    ∃ (v0 : (c : Dev Cert.LayerIdeal.nD) → Buf (Elt Ideal) ((c.tc : Thread Cert.LayerIdeal.nD Cert.LayerIdeal.τ).loc Cert.LayerIdeal.main_v23)) (v1 : (c : Dev Cert.LayerIdeal.nD) → Buf (Elt Ideal) ((c.tc : Thread Cert.LayerIdeal.nD Cert.LayerIdeal.τ).loc Cert.LayerIdeal.main_v24)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v23) = v0 c
          ∧ r.2.mem ((c.tc : Thread Cert.LayerIdeal.nD Cert.LayerIdeal.τ).loc Cert.LayerIdeal.main_v24) = v1 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v22) = v0 c
          ∧ r.2.mem ((c.tc : Thread Cert.LayerReferenceIdeal.nD Cert.LayerReferenceIdeal.τ).loc Cert.LayerReferenceIdeal.main_v24) = v1 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v23)) (v1 : (c : Dev Cert.SampleIdeal.nD) → Buf (Elt Ideal) ((c.tc : Thread Cert.SampleIdeal.nD Cert.SampleIdeal.τ).loc Cert.SampleIdeal.main_v24)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v23) = v0 c
          ∧ r.2.mem ((c.tc : Thread Cert.SampleIdeal.nD Cert.SampleIdeal.τ).loc Cert.SampleIdeal.main_v24) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v22) = v0 c
          ∧ r.2.mem ((c.tc : Thread Cert.SampleReferenceIdeal.nD Cert.SampleReferenceIdeal.τ).loc Cert.SampleReferenceIdeal.main_v24) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hGates : Cert.Gates.Facts) (hGatesIdeal : Cert.GatesIdeal.Facts) (hGatesReferenceIdeal : Cert.GatesReferenceIdeal.Facts) (hIndex : Cert.Index.Facts) (hIndexIdeal : Cert.IndexIdeal.Facts) (hIndexReferenceIdeal : Cert.IndexReferenceIdeal.Facts) (hSmall : Cert.Small.Facts) (hSmallIdeal : Cert.SmallIdeal.Facts) (hSmallReferenceIdeal : Cert.SmallReferenceIdeal.Facts) (hQkv : Cert.Qkv.Facts) (hQkvIdeal : Cert.QkvIdeal.Facts) (hQkvReferenceIdeal : Cert.QkvReferenceIdeal.Facts) (hNorm : Cert.Norm.Facts) (hNormIdeal : Cert.NormIdeal.Facts) (hNormReferenceIdeal : Cert.NormReferenceIdeal.Facts) (hExperts : Cert.Experts.Facts) (hExpertsIdeal : Cert.ExpertsIdeal.Facts) (hExpertsReferenceIdeal : Cert.ExpertsReferenceIdeal.Facts) (hLayer : Cert.Layer.Facts) (hLayerIdeal : Cert.LayerIdeal.Facts) (hLayerReferenceIdeal : Cert.LayerReferenceIdeal.Facts) (hSample : Cert.Sample.Facts) (hSampleIdeal : Cert.SampleIdeal.Facts) (hSampleReferenceIdeal : Cert.SampleReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Index (hIndex := hIndex)
    ∧ quiescent_IndexIdeal (hIndexIdeal := hIndexIdeal)
    ∧ quiescent_IndexReferenceIdeal (hIndexReferenceIdeal := hIndexReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Layer (hLayer := hLayer)
    ∧ quiescent_LayerIdeal (hLayerIdeal := hLayerIdeal)
    ∧ quiescent_LayerReferenceIdeal (hLayerReferenceIdeal := hLayerReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeReferenceIdeal (hMergeIdeal := hMergeIdeal) (hMergeReferenceIdeal := hMergeReferenceIdeal)
    ∧ preserves_Gates_GatesIdeal
    ∧ algebraic_GatesIdeal_GatesReferenceIdeal (hGatesIdeal := hGatesIdeal) (hGatesReferenceIdeal := hGatesReferenceIdeal)
    ∧ preserves_Index_IndexIdeal
    ∧ algebraic_IndexIdeal_IndexReferenceIdeal (hIndexIdeal := hIndexIdeal) (hIndexReferenceIdeal := hIndexReferenceIdeal)
    ∧ preserves_Small_SmallIdeal
    ∧ algebraic_SmallIdeal_SmallReferenceIdeal (hSmallIdeal := hSmallIdeal) (hSmallReferenceIdeal := hSmallReferenceIdeal)
    ∧ preserves_Qkv_QkvIdeal
    ∧ algebraic_QkvIdeal_QkvReferenceIdeal (hQkvIdeal := hQkvIdeal) (hQkvReferenceIdeal := hQkvReferenceIdeal)
    ∧ preserves_Norm_NormIdeal
    ∧ algebraic_NormIdeal_NormReferenceIdeal (hNormIdeal := hNormIdeal) (hNormReferenceIdeal := hNormReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Layer_LayerIdeal
    ∧ algebraic_LayerIdeal_LayerReferenceIdeal (hLayerIdeal := hLayerIdeal) (hLayerReferenceIdeal := hLayerReferenceIdeal)
    ∧ preserves_Sample_SampleIdeal
    ∧ algebraic_SampleIdeal_SampleReferenceIdeal (hSampleIdeal := hSampleIdeal) (hSampleReferenceIdeal := hSampleReferenceIdeal)
-- ==== Pre_finite_scores.lean ====
abbrev S8192x1024 : Shape := ⟨2, ![8192, 1024]⟩
abbrev S4x2048x8 : Shape := ⟨3, ![4, 2048, 8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn_part1 {F : FTy → Type} [FloatOps F] (main_arg3 : FVec F S4x2048x8 .f32) (main_v16 : IVec S_ 1) (main_cst_4 : FVec F S_ .f32) : IVec S_ 1 :=
  let main_v17 : FVec F S4x2048x8 .f32 := broadcastInDim S4x2048x8 ![] bcast_S_S4x2048x8 main_cst_4
  let main_v18 : IVec S4x2048x8 1 := cmpf .olt main_arg3 main_v17
  let main_cst_5 : FVec F S_ .f32 := constant S_ .f32 0xFF800000#32
  let main_v19 : FVec F S4x2048x8 .f32 := broadcastInDim S4x2048x8 ![] bcast_S_S4x2048x8 main_cst_5
  let main_v20 : IVec S4x2048x8 1 := cmpf .ogt main_arg3 main_v19
  let main_v21 : IVec S4x2048x8 1 := andi main_v18 main_v20
  let main_c_6 : IVec S_ 1 := constantI S_ 1 1#1
  let main_v22 : IVec S_ 1 := (fun x v => Host.reduce IntOp.andi x v reducesTo_S4x2048x8_S_d0_1_2 h_S_) main_v21 main_c_6
  let main_v23 : IVec S_ 1 := andi main_v16 main_v22
  main_v23

def fn {F : FTy → Type} [FloatOps F] (main_arg0 : FVec F S8192x1024 .bf16) (main_arg1 : FVec F S8192x1024 .bf16) (main_arg2 : FVec F S8192x1024 .bf16) (main_arg3 : FVec F S4x2048x8 .f32) : IVec S_ 1 :=
  let main_v0 : FVec F S8192x1024 .f32 := (extf .f32 · bitsLt_bf16_f32) main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg0
  let main_cst_0 : FVec F S_ .f32 := constant S_ .f32 0xFF800000#32
  let main_v4 : FVec F S8192x1024 .f32 := broadcastInDim S8192x1024 ![] bcast_S_S8192x1024 main_cst_0
  let main_v5 : IVec S8192x1024 1 := cmpf .ogt main_v3 main_v4
  let main_v6 : IVec S8192x1024 1 := andi main_v2 main_v5
  let main_c : IVec S_ 1 := constantI S_ 1 1#1
  let main_v7 : IVec S_ 1 := (fun x v => Host.reduce IntOp.andi x v reducesTo_S8192x1024_S_d0_1 h_S_) main_v6 main_c
  let main_v8 : FVec F S8192x1024 .f32 := (extf .f32 · bitsLt_bf16_f32) main_arg1
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := (extf .f32 · bitsLt_bf16_f32) main_arg1
  let main_cst_2 : FVec F S_ .f32 := constant S_ .f32 0xFF800000#32
  let main_v12 : FVec F S8192x1024 .f32 := broadcastInDim S8192x1024 ![] bcast_S_S8192x1024 main_cst_2
  let main_v13 : IVec S8192x1024 1 := cmpf .ogt main_v11 main_v12
  let main_v14 : IVec S8192x1024 1 := andi main_v10 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v7 main_v15
  let main_cst_4 : FVec F S_ .f32 := constant S_ .f32 0x7F800000#32
  fn_part1 (F := F) main_arg3 main_v16 main_cst_4
-- ==== Kernel.lean ====
abbrev S8192x1024 : Shape := ⟨2, ![8192, 1024]⟩
abbrev S4x2048x8 : Shape := ⟨3, ![4, 2048, 8]⟩
abbrev S_ : Shape := ⟨0, ![]⟩
abbrev S4x8x2048 : Shape := ⟨3, ![4, 8, 2048]⟩
abbrev S512x1024 : Shape := ⟨2, ![512, 1024]⟩
abbrev S1x8x512 : Shape := ⟨3, ![1, 8, 512]⟩
abbrev S8x512x128 : Shape := ⟨3, ![8, 512, 128]⟩
abbrev S512x512 : Shape := ⟨2, ![512, 512]⟩
abbrev S512x128 : Shape := ⟨2, ![512, 128]⟩
abbrev S1x1x512 : Shape := ⟨3, ![1, 1, 512]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x2048x8, .f32⟩
  | .hbm, ⟨4, _⟩ => ⟨S_, .f32⟩
  | .hbm, ⟨5, _⟩ => ⟨S_, .f32⟩
  | .hbm, ⟨6, _⟩ => ⟨S4x2048x8, .f32⟩
  | .hbm, ⟨7, _⟩ => ⟨S4x8x2048, .f32⟩
  | .hbm, ⟨8, _⟩ => ⟨S4x8x2048, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x8x512, .f32⟩
  | .local _ .vmem, ⟨7, _⟩ => ⟨S1x8x512, .f32⟩
  | .local _ .vmem, ⟨8, _⟩ => ⟨S512x1024, .bf16⟩
  | .local _ .vmem, ⟨9, _⟩ => ⟨S512x1024, .bf16⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S4x2048x8 : Shape := ⟨3, ![4, 2048, 8]⟩
abbrev S4x2048x8x128 : Shape := ⟨4, ![4, 2048, 8, 128]⟩
abbrev S_ : Shape := ⟨0, ![]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S4x8x128x2048 : Shape := ⟨4, ![4, 8, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S4x2048x8, .f32⟩
  | .hbm, ⟨4, _⟩ => ⟨S8192x1024, .f32⟩
  | .hbm, ⟨5, _⟩ => ⟨S4x2048x8x128, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S_, .f32⟩
  | .hbm, ⟨11, _⟩ => ⟨S_, .f32⟩
  | .hbm, ⟨12, _⟩ => ⟨S4x2048x8, .f32⟩
  | .hbm, ⟨13, _⟩ => ⟨S4x8x2048, .f32⟩
  | .hbm, ⟨14, _⟩ => ⟨S4x8x2048x2048, .f32⟩
  | .hbm, ⟨15, _⟩ => ⟨S_, .f32⟩
  | .hbm, ⟨16, _⟩ => ⟨S4x8x2048x2048, .f32⟩
  | .hbm, ⟨17, _⟩ => ⟨S4x8x2048x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x1x2048, .f32⟩
  | .hbm, ⟨22, _⟩ => ⟨S4x8x2048x2048, .f32⟩
  | .hbm, ⟨23, _⟩ => ⟨S4x8x2048x2048, .f32⟩
  | .hbm, ⟨24, _⟩ => ⟨S2048, .i32⟩
  | .hbm, ⟨25, _⟩ => ⟨S1x1x1x2048, .i32⟩
  | .hbm, ⟨26, _⟩ => ⟨S1x1x2048x1, .i32⟩
  | .hbm, ⟨27, _⟩ => ⟨S1x1x2048x2048, .i32⟩
  | .hbm, ⟨28, _⟩ => ⟨S1x1x2048x2048, .i32⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x128x2048, .f32⟩
  | .hbm, ⟨50, _⟩ => ⟨S4x2048x8x128, .f32⟩
  | .hbm, ⟨51, _⟩ => ⟨S8192x1024, .f32⟩
  | .hbm, ⟨52, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Merge.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S8192x1024 : Shape := ⟨2, ![8192, 1024]⟩
abbrev S8192x4096 : Shape := ⟨2, ![8192, 4096]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x2048, .f32⟩
  | .hbm, ⟨12, _⟩ => ⟨S8192x1024, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Gates.lean ====
abbrev S8192x2048 : Shape := ⟨2, ![8192, 2048]⟩
abbrev S2048x4096 : Shape := ⟨2, ![2048, 4096]⟩
abbrev S2x2048 : Shape := ⟨2, ![2, 2048]⟩
abbrev S1x4096 : Shape := ⟨2, ![1, 4096]⟩
abbrev S8192x4096 : Shape := ⟨2, ![8192, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S2x2048, .f32⟩
  | .hbm, ⟨3, _⟩ => ⟨S2048x4096, .bf16⟩
  | .hbm, ⟨4, _⟩ => ⟨S1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S8192x2048 : Shape := ⟨2, ![8192, 2048]⟩
abbrev S2048x4096 : Shape := ⟨2, ![2048, 4096]⟩
abbrev S2x2048 : Shape := ⟨2, ![2, 2048]⟩
abbrev S8192x4096 : Shape := ⟨2, ![8192, 4096]⟩
abbrev S4096 : Shape := ⟨1, ![4096]⟩
abbrev S1x4096 : Shape := ⟨2, ![1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S2x2048, .f32⟩
  | .hbm, ⟨3, _⟩ => ⟨S8192x2048, .f32⟩
  | .hbm, ⟨4, _⟩ => ⟨S8192x4096, .f32⟩
  | .hbm, ⟨5, _⟩ => ⟨S4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Index.lean ====
abbrev S8192x2048 : Shape := ⟨2, ![8192, 2048]⟩
abbrev S2048x1024 : Shape := ⟨2, ![2048, 1024]⟩
abbrev S_ : Shape := ⟨0, ![]⟩
abbrev S1x1024 : Shape := ⟨2, ![1, 1024]⟩
abbrev S8192x1024 : Shape := ⟨2, ![8192, 1024]⟩
abbrev S1024x2048 : Shape := ⟨2, ![1024, 2048]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S_, .f32⟩
  | .hbm, ⟨3, _⟩ => ⟨S1x1024, .f32⟩
  | .hbm, ⟨4, _⟩ => ⟨S2048x1024, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== IndexReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x2048, .f32⟩
  | .hbm, ⟨3, _⟩ => ⟨S8192x1024, .f32⟩
  | .hbm, ⟨4, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Small.lean ====
abbrev S8192x2048 : Shape := ⟨2, ![8192, 2048]⟩
abbrev S2048x64 : Shape := ⟨2, ![2048, 64]⟩
abbrev S2048x16 : Shape := ⟨2, ![2048, 16]⟩
abbrev S2048x8 : Shape := ⟨2, ![2048, 8]⟩
abbrev S8 : Shape := ⟨1, ![8]⟩
abbrev S_ : Shape := ⟨0, ![]⟩
abbrev S2048x40 : Shape := ⟨2, ![2048, 40]⟩
abbrev S2048x128 : Shape := ⟨2, ![2048, 128]⟩
abbrev S80 : Shape := ⟨1, ![80]⟩
abbrev S40 : Shape := ⟨1, ![40]⟩
abbrev S128 : Shape := ⟨1, ![128]⟩
abbrev S1x128 : Shape := ⟨2, ![1, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x64, .f32⟩
  | .hbm, ⟨2, _⟩ => ⟨S2048x16, .f32⟩
  | .hbm, ⟨3, _⟩ => ⟨S2048x8, .f32⟩
  | .hbm, ⟨4, _⟩ => ⟨S8, .f32⟩
  | .hbm, ⟨5, _⟩ => ⟨S_, .f32⟩
  | .hbm, ⟨6, _⟩ => ⟨S2048x40, .f32⟩
  | .hbm, ⟨7, _⟩ => ⟨S2048x128, .f32⟩
  | .hbm, ⟨8, _⟩ => ⟨S2048x128, .bf16⟩
  | .hbm, ⟨9, _⟩ => ⟨S_, .f32⟩
  | .hbm, ⟨10, _⟩ => ⟨S80, .f32⟩
  | .hbm, ⟨11, _⟩ => ⟨S_, .f32⟩
  | .hbm, ⟨12, _⟩ => ⟨S40, .f32⟩
  | .hbm, ⟨13, _⟩ => ⟨S128, .f32⟩
  | .hbm, ⟨14, _⟩ => ⟨S1x128, .f32⟩
  | .hbm, ⟨15, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SmallReferenceIdeal.lean ====
abbrev S8192x2048 : Shape := ⟨2, ![8192, 2048]⟩
abbrev S2048x64 : Shape := ⟨2, ![2048, 64]⟩
abbrev S2048x16 : Shape := ⟨2, ![2048, 16]⟩
abbrev S2048x8 : Shape := ⟨2, ![2048, 8]⟩
abbrev S8 : Shape := ⟨1, ![8]⟩
abbrev S8192x8 : Shape := ⟨2, ![8192, 8]⟩
abbrev S1x8 : Shape := ⟨2, ![1, 8]⟩
abbrev S_ : Shape := ⟨0, ![]⟩
abbrev S8192x40 : Shape := ⟨2, ![8192, 40]⟩
abbrev S8192x64 : Shape := ⟨2, ![8192, 64]⟩
abbrev S8192x16 : Shape := ⟨2, ![8192, 16]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x64, .f32⟩
  | .hbm, ⟨2, _⟩ => ⟨S2048x16, .f32⟩
  | .hbm, ⟨3, _⟩ => ⟨S2048x8, .f32⟩
  | .hbm, ⟨4, _⟩ => ⟨S8, .f32⟩
  | .hbm, ⟨5, _⟩ => ⟨S8192x2048, .f32⟩
  | .hbm, ⟨6, _⟩ => ⟨S8192x8, .f32⟩
  | .hbm, ⟨7, _⟩ => ⟨S1x8, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S_, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .i1⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192x40, .f32⟩
  | .hbm, ⟨28, _⟩ => ⟨S8192x64, .f32⟩
  | .hbm, ⟨29, _⟩ => ⟨S8192x16, .f32⟩
  | .hbm, ⟨30, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Qkv.lean ====
abbrev S8192x2048 : Shape := ⟨2, ![8192, 2048]⟩
abbrev S2048x3072 : Shape := ⟨2, ![2048, 3072]⟩
abbrev S2x128 : Shape := ⟨2, ![2, 128]⟩
abbrev S1x2x1x128 : Shape := ⟨4, ![1, 2, 1, 128]⟩
abbrev S1x2x8x128 : Shape := ⟨4, ![1, 2, 8, 128]⟩
abbrev S2x1024 : Shape := ⟨2, ![2, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩
abbrev S1x256 : Shape := ⟨2, ![1, 256]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S2x128, .f32⟩
  | .hbm, ⟨3, _⟩ => ⟨S2048x3072, .bf16⟩
  | .hbm, ⟨4, _⟩ => ⟨S1x2x1x128, .f32⟩
  | .hbm, ⟨5, _⟩ => ⟨S1x2x8x128, .f32⟩
  | .hbm, ⟨6, _⟩ => ⟨S2x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QkvReferenceIdeal.lean ====
abbrev S8192x2048 : Shape := ⟨2, ![8192, 2048]⟩
abbrev S2048x3072 : Shape := ⟨2, ![2048, 3072]⟩
abbrev S2x128 : Shape := ⟨2, ![2, 128]⟩
abbrev S8192x3072 : Shape := ⟨2, ![8192, 3072]⟩
abbrev S8192x1024 : Shape := ⟨2, ![8192, 1024]⟩
abbrev S8192x8x128 : Shape := ⟨3, ![8192, 8, 128]⟩
abbrev S1x128 : Shape := ⟨2, ![1, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S2x128, .f32⟩
  | .hbm, ⟨3, _⟩ => ⟨S8192x2048, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S1x128, .f32⟩
  | .hbm, ⟨10, _⟩ => ⟨S128, .f32⟩
  | .hbm, ⟨11, _⟩ => ⟨S8192x8x128, .f32⟩
  | .hbm, ⟨12, _⟩ => ⟨S_, .f32⟩
  | .hbm, ⟨13, _⟩ => ⟨S8192x8, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S1x1x128, .f32⟩
  | .hbm, ⟨25, _⟩ => ⟨S8192x8x128, .f32⟩
  | .hbm, ⟨26, _⟩ => ⟨S8192x8x128, .f32⟩
  | .hbm, ⟨27, _⟩ => ⟨S8192x1024, .f32⟩
  | .hbm, ⟨28, _⟩ => ⟨S8192x8x128, .f32⟩
  | .hbm, ⟨29, _⟩ => ⟨S1x128, .f32⟩
  | .hbm, ⟨30, _⟩ => ⟨S128, .f32⟩
  | .hbm, ⟨31, _⟩ => ⟨S8192x8x128, .f32⟩
  | .hbm, ⟨32, _⟩ => ⟨S_, .f32⟩
  | .hbm, ⟨33, _⟩ => ⟨S8192x8, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S8192x8x1, .f32⟩
  | .hbm, ⟨42, _⟩ => ⟨S8192x8x128, .f32⟩
  | .hbm, ⟨43, _⟩ => ⟨S8192x8x128, .f32⟩
  | .hbm, ⟨44, _⟩ => ⟨S1x1x128, .f32⟩
  | .hbm, ⟨45, _⟩ => ⟨S8192x8x128, .f32⟩
  | .hbm, ⟨46, _⟩ => ⟨S8192x8x128, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Experts.lean ====
abbrev S8192x2048 : Shape := ⟨2, ![8192, 2048]⟩
abbrev S16384x2048 : Shape := ⟨2, ![16384, 2048]⟩
abbrev S8x128x8192 : Shape := ⟨3, ![8, 128, 8192]⟩
abbrev S512x2048 : Shape := ⟨2, ![512, 2048]⟩
abbrev S1024x2048 : Shape := ⟨2, ![1024, 2048]⟩
abbrev S8x8x512 : Shape := ⟨3, ![8, 8, 512]⟩
abbrev S8x128x512 : Shape := ⟨3, ![8, 128, 512]⟩
abbrev S1024x512 : Shape := ⟨2, ![1024, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S512x1024 : Shape := ⟨2, ![512, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S16384x2048, .f32⟩
  | .hbm, ⟨3, _⟩ => ⟨S16384x2048, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x128x8192, .f32⟩
  | .hbm, ⟨8, _⟩ => ⟨S16384x2048, .bf16⟩
  | .hbm, ⟨9, _⟩ => ⟨S16384x2048, .bf16⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x8x512, .f32⟩
  | .local _ .vmem, ⟨9, _⟩ => ⟨S8x8x512, .f32⟩
  | .local _ .vmem, ⟨10, _⟩ => ⟨S8x8x512, .f32⟩
  | .local _ .vmem, ⟨11, _⟩ => ⟨S8x8x512, .f32⟩
  | .local _ .vmem, ⟨12, _⟩ => ⟨S8x128x512, .f32⟩
  | .local _ .vmem, ⟨13, _⟩ => ⟨S8x128x512, .f32⟩
  | .local _ .vmem, ⟨14, _⟩ => ⟨S8x128x512, .f32⟩
  | .local _ .vmem, ⟨15, _⟩ => ⟨S8x128x512, .f32⟩
  | .local _ .vmem, ⟨16, _⟩ => ⟨S512x2048, .f32⟩
  | .local _ .vmem, ⟨17, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_off1 (i : grid0.Coords) (c0_i32_7 : BitVec 32) : Fin 3 → Nat :=
  let c0_8 : Index := 0#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v15 : BitVec 32 := Scalar.addi v10 c0_i32_7
  let v16 : Index := Scalar.indexCast v15
  let c0_9 : Index := 0#32
  ![0, v16.toNat, 0]
def k0_off2 (i : grid0.Coords) (c0_i32_20 : BitVec 32) : Fin 3 → Nat :=
  let c1 : Index := 1#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v33 : BitVec 32 := Scalar.addi v10 c0_i32_20
  let v34 : Index := Scalar.indexCast v33
  let c0_21 : Index := 0#32
  ![1, v34.toNat, 0]
def k0_off3 (i : grid0.Coords) (c0_i32_32 : BitVec 32) : Fin 3 → Nat :=
  let c2 : Index := 2#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v52 : BitVec 32 := Scalar.addi v10 c0_i32_32
  let v53 : Index := Scalar.indexCast v52
  let c0_33 : Index := 0#32
  ![2, v53.toNat, 0]
def k0_off4 (i : grid0.Coords) (c0_i32_44 : BitVec 32) : Fin 3 → Nat :=
  let c3 : Index := 3#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v71 : BitVec 32 := Scalar.addi v10 c0_i32_44
  let v72 : Index := Scalar.indexCast v71
  let c0_45 : Index := 0#32
  ![3, v72.toNat, 0]
def k0_off5 (i : grid0.Coords) (c0_i32_56 : BitVec 32) : Fin 3 → Nat :=
  let c4 : Index := 4#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v90 : BitVec 32 := Scalar.addi v10 c0_i32_56
  let v91 : Index := Scalar.indexCast v90
  let c0_57 : Index := 0#32
  ![4, v91.toNat, 0]
def k0_off6 (i : grid0.Coords) (c0_i32_68 : BitVec 32) : Fin 3 → Nat :=
  let c5 : Index := 5#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v109 : BitVec 32 := Scalar.addi v10 c0_i32_68
  let v110 : Index := Scalar.indexCast v109
  let c0_69 : Index := 0#32
  ![5, v110.toNat, 0]
def k0_off7 (i : grid0.Coords) (c0_i32_80 : BitVec 32) : Fin 3 → Nat :=
  let c6 : Index := 6#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v128 : BitVec 32 := Scalar.addi v10 c0_i32_80
  let v129 : Index := Scalar.indexCast v128
  let c0_81 : Index := 0#32
  ![6, v129.toNat, 0]
def k0_off8 (i : grid0.Coords) (c0_i32_92 : BitVec 32) : Fin 3 → Nat :=
  let c7 : Index := 7#32
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v147 : BitVec 32 := Scalar.addi v10 c0_i32_92
  let v148 : Index := Scalar.indexCast v147
  let c0_93 : Index := 0#32
  ![7, v148.toNat, 0]
def k0_cond1 (i : grid0.Coords) : BitVec 1 :=
  let arg1 : BitVec 32 := BitVec.ofNat 32 (i 1).val
  let c0_i32_832 : BitVec 32 := 0#32
  let v1238 : BitVec 1 := Scalar.cmpi .eq arg1 c0_i32_832
  let v1239 : BitVec 32 := Scalar.extui v1238
  let c0_i32_833 : BitVec 32 := 0#32
  let v1240 : BitVec 1 := Scalar.cmpi .ne v1239 c0_i32_833
  v1240

def k0_cond2 (i : grid0.Coords) : BitVec 1 :=
  let arg1 : BitVec 32 := BitVec.ofNat 32 (i 1).val
  let c0_i32_834 : BitVec 32 := 0#32
  let v1241 : BitVec 1 := Scalar.cmpi .sgt arg1 c0_i32_834
  let v1242 : BitVec 32 := Scalar.extui v1241
  let c0_i32_835 : BitVec 32 := 0#32
  let v1243 : BitVec 1 := Scalar.cmpi .ne v1242 c0_i32_835
  v1243

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![c0_i32_5.toNat, v17.toNat, arg0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![c0_i32_5.toNat, v17.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ExpertsReferenceIdeal.lean ====
abbrev S8192x2048 : Shape := ⟨2, ![8192, 2048]⟩
abbrev S16384x2048 : Shape := ⟨2, ![16384, 2048]⟩
abbrev S8x128x8192 : Shape := ⟨3, ![8, 128, 8192]⟩
abbrev S8192x16384 : Shape := ⟨2, ![8192, 16384]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S16384x8192 : Shape := ⟨2, ![16384, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S16384x2048, .f32⟩
  | .hbm, ⟨3, _⟩ => ⟨S16384x2048, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8x128x8192, .f32⟩
  | .hbm, ⟨8, _⟩ => ⟨S8192x2048, .f32⟩
  | .hbm, ⟨9, _⟩ => ⟨S8192x16384, .f32⟩
  | .hbm, ⟨10, _⟩ => ⟨S8x1x128x8192, .f32⟩
  | .hbm, ⟨11, _⟩ => ⟨S8x128x1x8192, .f32⟩
  | .hbm, ⟨12, _⟩ => ⟨S8x128x128x8192, .f32⟩
  | .hbm, ⟨13, _⟩ => ⟨S8x128x128x8192, .f32⟩
  | .hbm, ⟨14, _⟩ => ⟨S8x128x128x8192, .i1⟩
  | .hbm, ⟨15, _⟩ => ⟨S8x1x128x8192, .f32⟩
  | .hbm, ⟨16, _⟩ => ⟨S_, .f32⟩
  | .hbm, ⟨17, _⟩ => ⟨S_, .f32⟩
  | .hbm, ⟨18, _⟩ => ⟨S8x128x128x8192, .f32⟩
  | .hbm, ⟨19, _⟩ => ⟨S8x128x128x8192, .f32⟩
  | .hbm, ⟨20, _⟩ => ⟨S8x128x128x8192, .f32⟩
  | .hbm, ⟨21, _⟩ => ⟨S8x128x1x8192, .f32⟩
  | .hbm, ⟨22, _⟩ => ⟨S8x128x128x8192, .f32⟩
  | .hbm, ⟨23, _⟩ => ⟨S8x128x128x8192, .f32⟩
  | .hbm, ⟨24, _⟩ => ⟨S_, .f32⟩
  | .hbm, ⟨25, _⟩ => ⟨S128x128x8192, .f32⟩
  | .hbm, ⟨26, _⟩ => ⟨S16384x8192, .f32⟩
  | .hbm, ⟨27, _⟩ => ⟨S8192x16384, .f32⟩
  | .hbm, ⟨28, _⟩ => ⟨S_, .f32⟩
  | .hbm, ⟨29, _⟩ => ⟨S8192x16384, .f32⟩
  | .hbm, ⟨30, _⟩ => ⟨S8192x16384, .f32⟩
  | .hbm, ⟨31, _⟩ => ⟨S_, .f32⟩
  | .hbm, ⟨32, _⟩ => ⟨S8192x16384, .f32⟩
  | .hbm, ⟨33, _⟩ => ⟨S8192x16384, .f32⟩
  | .hbm, ⟨34, _⟩ => ⟨S8192x16384, .f32⟩
  | .hbm, ⟨35, _⟩ => ⟨S_, .f32⟩
  | .hbm, ⟨36, _⟩ => ⟨S8192x16384, .f32⟩
  | .hbm, ⟨37, _⟩ => ⟨S8192x16384, .f32⟩
  | .hbm, ⟨38, _⟩ => ⟨S8192x16384, .f32⟩
  | .hbm, ⟨39, _⟩ => ⟨S8192x16384, .f32⟩
  | .hbm, ⟨40, _⟩ => ⟨S8192x2048, .f32⟩
  | .hbm, ⟨41, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Layer.lean ====
abbrev S4x2048x2048 : Shape := ⟨3, ![4, 2048, 2048]⟩
abbrev S1x2048 : Shape := ⟨2, ![1, 2048]⟩
abbrev S1x2048x11352 : Shape := ⟨3, ![1, 2048, 11352]⟩
abbrev S1x8 : Shape := ⟨2, ![1, 8]⟩
abbrev S8192x2048 : Shape := ⟨2, ![8192, 2048]⟩
abbrev S2048 : Shape := ⟨1, ![2048]⟩
abbrev S1024x2048 : Shape := ⟨2, ![1024, 2048]⟩
abbrev S1024 : Shape := ⟨1, ![1024]⟩
abbrev S1024x1 : Shape := ⟨2, ![1024, 1]⟩
abbrev S2048x11352 : Shape := ⟨2, ![2048, 11352]⟩
abbrev S2048x64 : Shape := ⟨2, ![2048, 64]⟩
abbrev S2048x16 : Shape := ⟨2, ![2048, 16]⟩
abbrev S2048x8 : Shape := ⟨2, ![2048, 8]⟩
abbrev S8 : Shape := ⟨1, ![8]⟩
abbrev S_ : Shape := ⟨0, ![]⟩
abbrev S2048x40 : Shape := ⟨2, ![2048, 40]⟩
abbrev S2048x128 : Shape := ⟨2, ![2048, 128]⟩
abbrev S80 : Shape := ⟨1, ![80]⟩
abbrev S40 : Shape := ⟨1, ![40]⟩
abbrev S128 : Shape := ⟨1, ![128]⟩
abbrev S1x128 : Shape := ⟨2, ![1, 128]⟩
abbrev S8192x128 : Shape := ⟨2, ![8192, 128]⟩
abbrev S1024x128 : Shape := ⟨2, ![1024, 128]⟩
abbrev S8192x8 : Shape := ⟨2, ![8192, 8]⟩
abbrev S4x2048x8 : Shape := ⟨3, ![4, 2048, 8]⟩
abbrev S8192x64 : Shape := ⟨2, ![8192, 64]⟩
abbrev S4x2048x64 : Shape := ⟨3, ![4, 2048, 64]⟩
abbrev S1x4x2048x8 : Shape := ⟨4, ![1, 4, 2048, 8]⟩
abbrev S1x4x2048x64 : Shape := ⟨4, ![1, 4, 2048, 64]⟩

abbrev nBuf : Space → Nat
  | .hbm => 32
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11352, .f32⟩
  | .hbm, ⟨3, _⟩ => ⟨S1x8, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S2048x11352, .f32⟩
  | .hbm, ⟨9, _⟩ => ⟨S2048x64, .f32⟩
  | .hbm, ⟨10, _⟩ => ⟨S2048x11352, .f32⟩
  | .hbm, ⟨11, _⟩ => ⟨S2048x16, .f32⟩
  | .hbm, ⟨12, _⟩ => ⟨S2048x11352, .f32⟩
  | .hbm, ⟨13, _⟩ => ⟨S2048x8, .f32⟩
  | .hbm, ⟨14, _⟩ => ⟨S8, .f32⟩
  | .hbm, ⟨15, _⟩ => ⟨S_, .f32⟩
  | .hbm, ⟨16, _⟩ => ⟨S2048x40, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S80, .f32⟩
  | .hbm, ⟨21, _⟩ => ⟨S_, .f32⟩
  | .hbm, ⟨22, _⟩ => ⟨S40, .f32⟩
  | .hbm, ⟨23, _⟩ => ⟨S128, .f32⟩
  | .hbm, ⟨24, _⟩ => ⟨S1x128, .f32⟩
  | .hbm, ⟨25, _⟩ => ⟨S8192x128, .f32⟩
  | .hbm, ⟨26, _⟩ => ⟨S8192x8, .f32⟩
  | .hbm, ⟨27, _⟩ => ⟨S4x2048x8, .f32⟩
  | .hbm, ⟨28, _⟩ => ⟨S8192x64, .f32⟩
  | .hbm, ⟨29, _⟩ => ⟨S4x2048x64, .f32⟩
  | .hbm, ⟨30, _⟩ => ⟨S1x4x2048x8, .f32⟩
  | .hbm, ⟨31, _⟩ => ⟨S1x4x2048x64, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x128, .bf16⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== LayerReferenceIdeal.lean ====
abbrev S4x2048x2048 : Shape := ⟨3, ![4, 2048, 2048]⟩
abbrev S1x2048 : Shape := ⟨2, ![1, 2048]⟩
abbrev S1x2048x11352 : Shape := ⟨3, ![1, 2048, 11352]⟩
abbrev S1x8 : Shape := ⟨2, ![1, 8]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11352 : Shape := ⟨2, ![2048, 11352]⟩
abbrev S4x2048x11352 : Shape := ⟨3, ![4, 2048, 11352]⟩
abbrev S4x2048x8 : Shape := ⟨3, ![4, 2048, 8]⟩
abbrev S8 : Shape := ⟨1, ![8]⟩
abbrev S1x1x8 : Shape := ⟨3, ![1, 1, 8]⟩
abbrev S1x4x2048x8 : Shape := ⟨4, ![1, 4, 2048, 8]⟩
abbrev S4x2048x64 : Shape := ⟨3, ![4, 2048, 64]⟩
abbrev S1x4x2048x64 : Shape := ⟨4, ![1, 4, 2048, 64]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11352, .f32⟩
  | .hbm, ⟨3, _⟩ => ⟨S1x8, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x11352, .f32⟩
  | .hbm, ⟨22, _⟩ => ⟨S4x2048x11352, .f32⟩
  | .hbm, ⟨23, _⟩ => ⟨S4x2048x8, .f32⟩
  | .hbm, ⟨24, _⟩ => ⟨S8, .f32⟩
  | .hbm, ⟨25, _⟩ => ⟨S1x1x8, .f32⟩
  | .hbm, ⟨26, _⟩ => ⟨S4x2048x8, .f32⟩
  | .hbm, ⟨27, _⟩ => ⟨S4x2048x8, .f32⟩
  | .hbm, ⟨28, _⟩ => ⟨S4x2048x8, .f32⟩
  | .hbm, ⟨29, _⟩ => ⟨S_, .f32⟩
  | .hbm, ⟨30, _⟩ => ⟨S4x2048x8, .f32⟩
  | .hbm, ⟨31, _⟩ => ⟨S4x2048x8, .f32⟩
  | .hbm, ⟨32, _⟩ => ⟨S4x2048x8, .f32⟩
  | .hbm, ⟨33, _⟩ => ⟨S4x2048x8, .f32⟩
  | .hbm, ⟨34, _⟩ => ⟨S4x2048x8, .i1⟩
  | .hbm, ⟨35, _⟩ => ⟨S4x2048x8, .f32⟩
  | .hbm, ⟨36, _⟩ => ⟨S4x2048x8, .f32⟩
  | .hbm, ⟨37, _⟩ => ⟨S4x2048x8, .f32⟩
  | .hbm, ⟨38, _⟩ => ⟨S4x2048x8, .f32⟩
  | .hbm, ⟨39, _⟩ => ⟨S4x2048x8, .f32⟩
  | .hbm, ⟨40, _⟩ => ⟨S4x2048x8, .f32⟩
  | .hbm, ⟨41, _⟩ => ⟨S4x2048x8, .f32⟩
  | .hbm, ⟨42, _⟩ => ⟨S4x2048x8, .f32⟩
  | .hbm, ⟨43, _⟩ => ⟨S4x2048x8, .f32⟩
  | .hbm, ⟨44, _⟩ => ⟨S1x4x2048x8, .f32⟩
  | .hbm, ⟨45, _⟩ => ⟨S4x2048x64, .f32⟩
  | .hbm, ⟨46, _⟩ => ⟨S1x4x2048x64, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Sample.lean ====
abbrev S128x4x2048 : Shape := ⟨3, ![128, 4, 2048]⟩
abbrev S1x2048 : Shape := ⟨2, ![1, 2048]⟩
abbrev S1x2048x11352 : Shape := ⟨3, ![1, 2048, 11352]⟩
abbrev S1x8 : Shape := ⟨2, ![1, 8]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S2048x11352 : Shape := ⟨2, ![2048, 11352]⟩
abbrev S2048x64 : Shape := ⟨2, ![2048, 64]⟩
abbrev S2048x16 : Shape := ⟨2, ![2048, 16]⟩
abbrev S2048x8 : Shape := ⟨2, ![2048, 8]⟩
abbrev S8 : Shape := ⟨1, ![8]⟩
abbrev S_ : Shape := ⟨0, ![]⟩
abbrev S2048x40 : Shape := ⟨2, ![2048, 40]⟩
abbrev S2048x128 : Shape := ⟨2, ![2048, 128]⟩
abbrev S80 : Shape := ⟨1, ![80]⟩
abbrev S40 : Shape := ⟨1, ![40]⟩
abbrev S128 : Shape := ⟨1, ![128]⟩
abbrev S1x128 : Shape := ⟨2, ![1, 128]⟩
abbrev S512x128 : Shape := ⟨2, ![512, 128]⟩
abbrev S512x8 : Shape := ⟨2, ![512, 8]⟩
abbrev S128x4x8 : Shape := ⟨3, ![128, 4, 8]⟩
abbrev S512x64 : Shape := ⟨2, ![512, 64]⟩
abbrev S128x4x64 : Shape := ⟨3, ![128, 4, 64]⟩
abbrev S1x128x4x8 : Shape := ⟨4, ![1, 128, 4, 8]⟩
abbrev S1x128x4x64 : Shape := ⟨4, ![1, 128, 4, 64]⟩

abbrev nBuf : Space → Nat
  | .hbm => 32
  | .vmem => 7
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x11352, .f32⟩
  | .hbm, ⟨3, _⟩ => ⟨S1x8, .f32⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S512x2048, .bf16⟩
  | .hbm, ⟨8, _⟩ => ⟨S2048x11352, .f32⟩
  | .hbm, ⟨9, _⟩ => ⟨S2048x64, .f32⟩
  | .hbm, ⟨10, _⟩ => ⟨S2048x11352, .f32⟩
  | .hbm, ⟨11, _⟩ => ⟨S2048x16, .f32⟩
  | .hbm, ⟨12, _⟩ => ⟨S2048x11352, .f32⟩
  | .hbm, ⟨13, _⟩ => ⟨S2048x8, .f32⟩
  | .hbm, ⟨14, _⟩ => ⟨S8, .f32⟩
  | .hbm, ⟨15, _⟩ => ⟨S_, .f32⟩
  | .hbm, ⟨16, _⟩ => ⟨S2048x40, .f32⟩
  | .hbm, ⟨17, _⟩ => ⟨S2048x128, .f32⟩
  | .hbm, ⟨18, _⟩ => ⟨S2048x128, .bf16⟩
  | .hbm, ⟨19, _⟩ => ⟨S_, .f32⟩
  | .hbm, ⟨20, _⟩ => ⟨S80, .f32⟩
  | .hbm, ⟨21, _⟩ => ⟨S_, .f32⟩
  | .hbm, ⟨22, _⟩ => ⟨S40, .f32⟩
  | .hbm, ⟨23, _⟩ => ⟨S128, .f32⟩
  | .hbm, ⟨24, _⟩ => ⟨S1x128, .f32⟩
  | .hbm, ⟨25, _⟩ => ⟨S512x128, .f32⟩
  | .hbm, ⟨26, _⟩ => ⟨S512x8, .f32⟩
  | .hbm, ⟨27, _⟩ => ⟨S128x4x8, .f32⟩
  | .hbm, ⟨28, _⟩ => ⟨S512x64, .f32⟩
  | .hbm, ⟨29, _⟩ => ⟨S128x4x64, .f32⟩
  | .hbm, ⟨30, _⟩ => ⟨S1x128x4x8, .f32⟩
  | .hbm, ⟨31, _⟩ => ⟨S1x128x4x64, .f32⟩
  | .local _ .vmem, ⟨0, _⟩ => ⟨S512x2048, .f32⟩
  | .local _ .vmem, ⟨1, _⟩ => ⟨S1x2048, .f32⟩
  | .local _ .vmem, ⟨2, _⟩ => ⟨S512x2048, .bf16⟩
  | .local _ .vmem, ⟨3, _⟩ => ⟨S512x2048, .bf16⟩
  | .local _ .vmem, ⟨4, _⟩ => ⟨S2048x128, .bf16⟩
  | .local _ .vmem, ⟨5, _⟩ => ⟨S1x128, .f32⟩
  | .local _ .vmem, ⟨6, _⟩ => ⟨S512x128, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]
-- ==== SampleReferenceIdeal.lean ====
abbrev S128x4x2048 : Shape := ⟨3, ![128, 4, 2048]⟩
abbrev S1x2048 : Shape := ⟨2, ![1, 2048]⟩
abbrev S1x2048x11352 : Shape := ⟨3, ![1, 2048, 11352]⟩
abbrev S1x8 : Shape := ⟨2, ![1, 8]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x11352 : Shape := ⟨2, ![2048, 11352]⟩
abbrev S128x4x11352 : Shape := ⟨3, ![128, 4, 11352]⟩
abbrev S128x4x8 : Shape := ⟨3, ![128, 4, 8]⟩
abbrev S8 : Shape := ⟨1, ![8]⟩
abbrev S1x1x8 : Shape := ⟨3, ![1, 1, 8]⟩
abbrev S1x128x4x8 : Shape := ⟨4, ![1, 128, 4, 8]⟩
abbrev S128x4x64 : Shape := ⟨3, ![128, 4, 64]⟩
abbrev S1x128x4x64 : Shape := ⟨4, ![1, 128, 4, 64]⟩

abbrev nBuf : Space → Nat
  | .hbm => 47
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x11352, .f32⟩
  | .hbm, ⟨3, _⟩ => ⟨S1x8, .f32⟩
  | .hbm, ⟨4, _⟩ => ⟨S2048, .f32⟩
  | .hbm, ⟨5, _⟩ => ⟨S128x4x2048, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S1x1x2048, .f32⟩
  | .hbm, ⟨19, _⟩ => ⟨S128x4x2048, .f32⟩
  | .hbm, ⟨20, _⟩ => ⟨S128x4x2048, .f32⟩
  | .hbm, ⟨21, _⟩ => ⟨S2048x11352, .f32⟩
  | .hbm, ⟨22, _⟩ => ⟨S128x4x11352, .f32⟩
  | .hbm, ⟨23, _⟩ => ⟨S128x4x8, .f32⟩
  | .hbm, ⟨24, _⟩ => ⟨S8, .f32⟩
  | .hbm, ⟨25, _⟩ => ⟨S1x1x8, .f32⟩
  | .hbm, ⟨26, _⟩ => ⟨S128x4x8, .f32⟩
  | .hbm, ⟨27, _⟩ => ⟨S128x4x8, .f32⟩
  | .hbm, ⟨28, _⟩ => ⟨S128x4x8, .f32⟩
  | .hbm, ⟨29, _⟩ => ⟨S_, .f32⟩
  | .hbm, ⟨30, _⟩ => ⟨S128x4x8, .f32⟩
  | .hbm, ⟨31, _⟩ => ⟨S128x4x8, .f32⟩
  | .hbm, ⟨32, _⟩ => ⟨S128x4x8, .f32⟩
  | .hbm, ⟨33, _⟩ => ⟨S128x4x8, .f32⟩
  | .hbm, ⟨34, _⟩ => ⟨S128x4x8, .i1⟩
  | .hbm, ⟨35, _⟩ => ⟨S128x4x8, .f32⟩
  | .hbm, ⟨36, _⟩ => ⟨S128x4x8, .f32⟩
  | .hbm, ⟨37, _⟩ => ⟨S128x4x8, .f32⟩
  | .hbm, ⟨38, _⟩ => ⟨S128x4x8, .f32⟩
  | .hbm, ⟨39, _⟩ => ⟨S128x4x8, .f32⟩
  | .hbm, ⟨40, _⟩ => ⟨S128x4x8, .f32⟩
  | .hbm, ⟨41, _⟩ => ⟨S128x4x8, .f32⟩
  | .hbm, ⟨42, _⟩ => ⟨S128x4x8, .f32⟩
  | .hbm, ⟨43, _⟩ => ⟨S128x4x8, .f32⟩
  | .hbm, ⟨44, _⟩ => ⟨S1x128x4x8, .f32⟩
  | .hbm, ⟨45, _⟩ => ⟨S128x4x64, .f32⟩
  | .hbm, ⟨46, _⟩ => ⟨S1x128x4x64, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Proof.OnlineSoftmax.lean ====
/-
  The mathematics of softmax attention computed one block of keys at a time, over the extended reals, for ONE query row.
  `x s` is the score of key `s` (`⊥` where the key is masked) and `v s` a coordinate of its value. Over a finite set `S` of keys
  the row keeps the maximum `rowMax x S`, the sum of exponentials `rowSum x S` and the weighted sum `rowAcc x v S`, both relative
  to that maximum. `rowMax_step`, `rowSum_step`, `rowAcc_step` add a block of keys; `row_mask` says masked keys change nothing;
  `row_finish` says that the quotient is the plain softmax-weighted sum.
-/
module

public import Idealize.ShloMosaic.PureOps.Ideal.Laws

@[expose] public section

noncomputable section

open Idealize.ShloMosaic

namespace Cert.Proof.Row

/-- A finite extended real. -/
def IsReal (x : EReal) : Prop := x ≠ ⊥ ∧ x ≠ ⊤

theorem isReal_iff (x : EReal) : IsReal x ↔ ∃ r : ℝ, x = r :=
  ⟨fun h => ⟨x.toReal, (EReal.coe_toReal h.2 h.1).symm⟩, fun ⟨r, h⟩ => h ▸ ⟨EReal.coe_ne_bot r, EReal.coe_ne_top r⟩⟩

theorem IsReal.add {x y : EReal} (hx : IsReal x) (hy : IsReal y) : IsReal (x + y) := by
  obtain ⟨a, rfl⟩ := (isReal_iff x).1 hx
  obtain ⟨b, rfl⟩ := (isReal_iff y).1 hy
  exact (isReal_iff _).2 ⟨a + b, rfl⟩

theorem IsReal.mul {x y : EReal} (hx : IsReal x) (hy : IsReal y) : IsReal (x * y) := by
  obtain ⟨a, rfl⟩ := (isReal_iff x).1 hx
  obtain ⟨b, rfl⟩ := (isReal_iff y).1 hy
  exact (isReal_iff _).2 ⟨a * b, by rw [EReal.coe_mul]⟩

theorem IsReal.neg {x : EReal} (hx : IsReal x) : IsReal (-x) := by
  obtain ⟨a, rfl⟩ := (isReal_iff x).1 hx
  exact (isReal_iff _).2 ⟨-a, by rw [EReal.coe_neg]⟩

theorem IsReal.zero : IsReal 0 := (isReal_iff _).2 ⟨0, rfl⟩

theorem IsReal.sum {ι : Type*} (S : Finset ι) (f : ι → EReal) (h : ∀ i ∈ S, IsReal (f i)) : IsReal (∑ i ∈ S, f i) := by
  classical
  induction S using Finset.induction_on with
  | empty => exact IsReal.zero
  | insert a S ha ih =>
    rw [Finset.sum_insert ha]
    exact (h a (Finset.mem_insert_self a S)).add (ih fun i hi => h i (Finset.mem_insert_of_mem hi))

/-- A nonnegative finite factor goes into a sum of arbitrary extended reals. -/
theorem mul_sum {ι : Type*} (S : Finset ι) (f : ι → EReal) (a : EReal) (h0 : 0 ≤ a) (ht : a ≠ ⊤) :
    a * ∑ i ∈ S, f i = ∑ i ∈ S, a * f i := by
  classical
  induction S using Finset.induction_on with
  | empty => simp
  | insert b S hb ih => rw [Finset.sum_insert hb, Finset.sum_insert hb, EReal.left_distrib_of_nonneg_of_ne_top h0 ht, ih]

/-- The exponential of anything below `⊤` is a nonnegative real. -/
theorem exp_nonneg {x : EReal} (h : x ≠ ⊤) : 0 ≤ Ideal.exp x ∧ IsReal (Ideal.exp x) := by
  induction x with
  | bot => exact ⟨le_rfl, IsReal.zero⟩
  | coe r => exact ⟨EReal.coe_nonneg.2 (Real.exp_pos r).le, (isReal_iff _).2 ⟨_, rfl⟩⟩
  | top => exact absurd rfl h

/-- Rebasing a weight from the maximum `a` to the maximum `b`. -/
theorem exp_rebase {a b x : EReal} (ha : IsReal a) (hb : IsReal b) (hx : x ≠ ⊤) :
    Ideal.exp (a - b) * Ideal.exp (x - a) = Ideal.exp (x - b) := by
  obtain ⟨a, rfl⟩ := (isReal_iff a).1 ha
  obtain ⟨b, rfl⟩ := (isReal_iff b).1 hb
  induction x with
  | bot => simp [EReal.bot_sub]
  | coe r =>
    rw [← EReal.coe_sub, ← EReal.coe_sub, ← EReal.coe_sub, Ideal.exp_coe, Ideal.exp_coe, Ideal.exp_coe, ← EReal.coe_mul, ← Real.exp_add]
    congr 2; ring
  | top => exact absurd rfl hx

variable {ι : Type*}

/-- The largest score over the keys `S`. -/
def rowMax (x : ι → EReal) (S : Finset ι) : EReal := S.sup x
/-- The sum of the exponentials over the keys `S`, relative to their largest score. -/
def rowSum (x : ι → EReal) (S : Finset ι) : EReal := ∑ s ∈ S, Ideal.exp (x s - rowMax x S)
/-- The sum over the keys `S` of value times exponential, relative to their largest score. -/
def rowAcc (x v : ι → EReal) (S : Finset ι) : EReal := ∑ s ∈ S, Ideal.exp (x s - rowMax x S) * v s

theorem rowMax_ne_top (x : ι → EReal) (S : Finset ι) (hx : ∀ s, x s ≠ ⊤) : rowMax x S ≠ ⊤ :=
  ((Finset.sup_lt_iff (a := (⊤ : EReal)) (by exact bot_lt_top)).2 fun s _ => lt_top_iff_ne_top.2 (hx s)).ne

theorem rowMax_real (x : ι → EReal) (S : Finset ι) (hx : ∀ s, x s ≠ ⊤) {s : ι} (hs : s ∈ S) (hb : x s ≠ ⊥) :
    IsReal (rowMax x S) :=
  ⟨fun h => hb (le_bot_iff.1 (h ▸ Finset.le_sup (f := x) hs)), rowMax_ne_top x S hx⟩

/-- A score minus a finite maximum is below `⊤`. -/
theorem sub_ne_top {x m : EReal} (hx : x ≠ ⊤) (hm : IsReal m) : x - m ≠ ⊤ := by
  obtain ⟨m, rfl⟩ := (isReal_iff m).1 hm
  induction x with
  | bot => simp [EReal.bot_sub]
  | coe r => rw [← EReal.coe_sub]; exact EReal.coe_ne_top _
  | top => exact absurd rfl hx

/-- The maximum over the keys seen and one more block of keys. -/
theorem rowMax_step [DecidableEq ι] (x : ι → EReal) (S T : Finset ι) : rowMax x (S ∪ T) = max (rowMax x S) (rowMax x T) :=
  Finset.sup_union

/-- The first block of keys meets an empty sum; at any later one the sum seen so far is rebased to the new maximum. -/
theorem rebase (x w : ι → EReal) (S : Finset ι) (hx : ∀ s, x s ≠ ⊤) (hS : S = ∅ ∨ IsReal (rowMax x S)) (b : EReal)
    (hb : IsReal b) :
    Ideal.exp (rowMax x S - b) * ∑ s ∈ S, Ideal.exp (x s - rowMax x S) * w s = ∑ s ∈ S, Ideal.exp (x s - b) * w s := by
  rcases hS with rfl | hS
  · simp
  · have he := exp_nonneg (sub_ne_top (rowMax_ne_top x S hx) hb)
    rw [mul_sum S _ _ he.1 he.2.2]
    exact Finset.sum_congr rfl fun s _ => by rw [← mul_assoc, exp_rebase hS hb (hx s)]

theorem rowSum_eq (x : ι → EReal) (S : Finset ι) : rowSum x S = rowAcc x (fun _ => 1) S := by
  simp [rowSum, rowAcc]

/-- The weighted sum over the keys seen and one more block of keys, from the one over the keys seen. -/
theorem rowAcc_step [DecidableEq ι] (x v : ι → EReal) (S T : Finset ι) (hST : Disjoint S T) (hx : ∀ s, x s ≠ ⊤)
    (hS : S = ∅ ∨ IsReal (rowMax x S)) (hU : IsReal (rowMax x (S ∪ T))) :
    rowAcc x v (S ∪ T) = Ideal.exp (rowMax x S - rowMax x (S ∪ T)) * rowAcc x v S
      + ∑ s ∈ T, Ideal.exp (x s - rowMax x (S ∪ T)) * v s := by
  unfold rowAcc
  rw [rebase x v S hx hS _ hU, Finset.sum_union hST]

/-- The sum of exponentials over the keys seen and one more block of keys, from the one over the keys seen. -/
theorem rowSum_step [DecidableEq ι] (x : ι → EReal) (S T : Finset ι) (hST : Disjoint S T) (hx : ∀ s, x s ≠ ⊤)
    (hS : S = ∅ ∨ IsReal (rowMax x S)) (hU : IsReal (rowMax x (S ∪ T))) :
    rowSum x (S ∪ T) = Ideal.exp (rowMax x S - rowMax x (S ∪ T)) * rowSum x S
      + ∑ s ∈ T, Ideal.exp (x s - rowMax x (S ∪ T)) := by
  rw [rowSum_eq, rowAcc_step x _ S T hST hx hS hU, rowSum_eq]
  simp

/-- Keys of score `⊥` change neither the maximum nor, the maximum being finite, the weighted sum. -/
theorem row_mask [DecidableEq ι] (x v : ι → EReal) (S T : Finset ι) (hST : S ⊆ T) (hT : ∀ s ∈ T, s ∉ S → x s = ⊥)
    (hS : IsReal (rowMax x S)) : rowMax x T = rowMax x S ∧ rowAcc x v T = rowAcc x v S ∧ rowSum x T = rowSum x S := by
  have hm : rowMax x T = rowMax x S := le_antisymm
    (Finset.sup_le fun s hs => by
      by_cases h : s ∈ S
      · exact Finset.le_sup (f := x) h
      · rw [hT s hs h]; exact bot_le)
    (Finset.sup_mono hST)
  have ha : ∀ w : ι → EReal, rowAcc x w T = rowAcc x w S := fun w => by
    unfold rowAcc
    rw [hm]
    refine (Finset.sum_subset hST fun s hs h => ?_).symm
    rw [hT s hs h, EReal.bot_sub, Ideal.exp_bot, zero_mul]
  exact ⟨hm, ha v, by rw [rowSum_eq, rowSum_eq, ha]⟩

/-- The sum of exponentials is a positive real when some score is finite. -/
theorem rowSum_pos (x : ι → EReal) (S : Finset ι) (hx : ∀ s, x s ≠ ⊤) {s : ι} (hs : s ∈ S) (hb : x s ≠ ⊥) :
    0 < rowSum x S ∧ IsReal (rowSum x S) := by
  have hm := rowMax_real x S hx hs hb
  have he := fun s => exp_nonneg (sub_ne_top (hx s) hm)
  refine ⟨lt_of_lt_of_le ?_ (Finset.single_le_sum (f := fun s => Ideal.exp (x s - rowMax x S)) (fun i _ => (he i).1) hs),
    IsReal.sum S _ fun i _ => (he i).2⟩
  obtain ⟨a, ha⟩ := (isReal_iff _).1 hm
  obtain ⟨r, hr⟩ := (isReal_iff _).1 ⟨hb, hx s⟩
  show 0 < Ideal.exp (x s - rowMax x S)
  rw [ha, hr, ← EReal.coe_sub, Ideal.exp_coe]
  exact EReal.coe_pos.2 (Real.exp_pos _)

/-- Dividing by a positive real is multiplying by its inverse, a nonnegative real. -/
theorem div_pos_real {l : EReal} (h0 : 0 < l) (hl : IsReal l) :
    0 ≤ l⁻¹ ∧ l⁻¹ ≠ ⊤ ∧ ∀ a : EReal, Ideal.div a l = l⁻¹ * a := by
  obtain ⟨r, rfl⟩ := (isReal_iff l).1 hl
  refine ⟨EReal.inv_nonneg_of_nonneg h0.le, ?_, fun a => ?_⟩
  · rw [← EReal.coe_inv]; exact EReal.coe_ne_top _
  · rw [Ideal.div, if_neg h0.ne', mul_comm]

/-- The quotient of the weighted sum by the sum of exponentials is the sum of the values weighted by the softmax of the scores,
    also when the softmax is taken of the scores shifted by a finite `c`. -/
theorem row_finish (x x' v : ι → EReal) (S : Finset ι) (hx : ∀ s, x s ≠ ⊤) {s : ι} (hs : s ∈ S) (hb : x s ≠ ⊥) (c : EReal)
    (hc : IsReal c) (hx' : ∀ s, x' s = x s + c) :
    Ideal.div (rowAcc x v S) (rowSum x S)
      = ∑ s ∈ S, Ideal.div (Ideal.exp (x' s - rowMax x' S)) (rowSum x' S) * v s := by
  have hm := rowMax_real x S hx hs hb
  obtain ⟨c, rfl⟩ := (isReal_iff c).1 hc
  have hmax : rowMax x' S = rowMax x S + c := by
    refine le_antisymm (Finset.sup_le fun s hs => ?_) ?_
    · rw [hx' s]; exact add_le_add_left (Finset.le_sup (f := x) hs) _
    · obtain ⟨i, hi, he⟩ := Finset.exists_mem_eq_sup S ⟨s, hs⟩ x
      rw [rowMax, he, ← hx' i]
      exact Finset.le_sup (f := x') hi
  have hsub : ∀ s, x' s - rowMax x' S = x s - rowMax x S := fun s => by
    rw [hmax, hx' s]
    obtain ⟨a, ha⟩ := (isReal_iff _).1 hm
    rw [ha]
    have hxs := hx s
    generalize x s = y at hxs
    induction y with
    | bot => simp [EReal.bot_sub]
    | coe r => rw [← EReal.coe_add, ← EReal.coe_add, ← EReal.coe_sub, ← EReal.coe_sub]; congr 1; ring
    | top => exact absurd rfl hxs
  have hsum : rowSum x' S = rowSum x S := Finset.sum_congr rfl fun s _ => by rw [hsub s]
  have hp := rowSum_pos x S hx hs hb
  obtain ⟨h0, ht, hd⟩ := div_pos_real hp.1 hp.2
  rw [hd, rowAcc, mul_sum S _ _ h0 ht, hsum]
  exact Finset.sum_congr rfl fun s _ => by rw [hd, hsub s, mul_assoc]

end Cert.Proof.Row

end
-- ==== Proof.Block.lean ====
/-
  The kernel's arithmetic on one head of one block of keys, read element by element.
-/
module

public import proofs.«01_k».proof.Proof.Gen.KernelIdeal.Skeleton
public import proofs.«01_k».proof.Proof.OnlineSoftmax
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Proof.Block

open Cert.KernelIdeal Cert.KernelIdeal.Gen

/-- The pattern of `-∞`, from which the maxima start. -/
theorem ofBits_bot : Ideal.ofBits .f32 0xFF800000#32 = ⊥ := by simp [Ideal.ofBits, Ideal.ieee]

/-- The kernel's mask constant stands for `-∞`. -/
theorem named_mask : Named.named (F := Ideal) κ (φ := .f32) "mask" 0xF149F2CA#32 = (⊥ : EReal) := rfl

/-- A row's maximum started from `-∞`. -/
theorem fold_max (n : ℕ) (f : Fin n → EReal) (b : EReal) (hb : b = ⊥) :
    Finset.fold max b f Finset.univ = Row.rowMax f Finset.univ := by subst hb; rfl

/-- The causal comparison of two positions, each a block number times 512 plus an offset. -/
theorem select_le {α : Type} (i j : ℕ) (hi : i < 4) (hj : j < 4) (r s : Fin 512) (a b : α) :
    Scalar.select (IntOp.cmpi .sle (IntOp.addi (Scalar.muli (BitVec.ofNat 32 j) 512#32) (BitVec.ofNat 32 s))
        (IntOp.addi (Scalar.muli (BitVec.ofNat 32 i) 512#32) (BitVec.ofNat 32 r))) a b
      = if j * 512 + s.val ≤ i * 512 + r.val then a else b := by
  have e : ∀ (k : ℕ) (q : Fin 512), IntOp.addi (Scalar.muli (BitVec.ofNat 32 k) 512#32) (BitVec.ofNat 32 q) = BitVec.ofNat 32 (k * 512 + q.val) := fun k q => by
    show BitVec.ofNat 32 k * BitVec.ofNat 32 512 + BitVec.ofNat 32 q = _
    rw [← BitVec.ofNat_mul, ← BitVec.ofNat_add]
  have hr := r.isLt
  have hs := s.isLt
  rw [e, e, Scalar.select]
  refine if_congr (WordCmp.cmpi_sle_ofNat_eq_one_iff (w := 32) (by omega) (by omega)) rfl rfl

/-- A masked score of one head: `(Σ_d q·k)·scale + n` where the key is not after the query, `-∞` elsewhere. -/
def score (i j : ℕ) (q k : FVec Ideal S512x128 .bf16) (n : FVec Ideal S1x1x512 .f32) (r s : Fin 512) : EReal :=
  if j * 512 + s.val ≤ i * 512 + r.val then
    (∑ d : Fin 128, q (ix2 r d) * k (ix2 s d)) * Ideal.ofBits .f32 0x3DB504F3#32 + n (ix3 0 0 s) else ⊥

theorem s_at (i j : ℕ) (hi : i < 4) (hj : j < 4) (q k : FVec Ideal S512x128 .bf16) (n : FVec Ideal S1x1x512 .f32) (r s : Fin 512) :
    k0_pay18 (F := Ideal) (k0_pay7 (BitVec.ofNat 32 i) (BitVec.ofNat 32 j)) q k n (ix2 r s) = score i j q k n r s := by
  pointwise [k0_pay18, k0_pay7]
  rw [named_mask]
  exact select_le i j hi hj r s _ _

/-- The row's new maximum. -/
theorem max_at (S : FVec Ideal S512x512 .f32) (m : FVec Ideal S1x512x128 .f32) (r : Fin 512) (j : Fin 128) :
    k0_pay20 (F := Ideal) S m (ix2 r j) = max (m (ix3 0 r j)) (Row.rowMax (fun s : Fin 512 => S (ix2 r s)) Finset.univ) := by
  pointwise [k0_pay20, k0_pay19]
  rw [fold_max _ _ _ ofBits_bot]

/-- The row's new maximum, as it is stored. -/
theorem m_at (S : FVec Ideal S512x512 .f32) (m : FVec Ideal S1x512x128 .f32) (r : Fin 512) (j : Fin 128) :
    k0_pay25 (F := Ideal) S m (ix3 0 r j) = max (m (ix3 0 r j)) (Row.rowMax (fun s : Fin 512 => S (ix2 r s)) Finset.univ) := by
  rw [← max_at]
  pointwise [k0_pay25]

/-- The exponentials of the block's scores, where the maximum seen is the same in every lane. -/
theorem p_at (S : FVec Ideal S512x512 .f32) (m : FVec Ideal S1x512x128 .f32) (r s : Fin 512) (M : EReal) (hm : ∀ j, m (ix3 0 r j) = M) :
    k0_pay22 (F := Ideal) S m (ix2 r s) = Ideal.exp (S (ix2 r s) - max M (Row.rowMax (fun s : Fin 512 => S (ix2 r s)) Finset.univ)) := by
  have h : ∀ j, k0_pay20 (F := Ideal) S m (ix2 r j) = max M (Row.rowMax (fun s : Fin 512 => S (ix2 r s)) Finset.univ) := fun j => by rw [max_at, hm]
  pointwise [k0_pay22]
  simp only [h, dite_eq_ite, ite_self]

/-- The factor that rebases what has been summed to the new maximum. -/
theorem alpha_at (S : FVec Ideal S512x512 .f32) (m : FVec Ideal S1x512x128 .f32) (r : Fin 512) (j : Fin 128) (M : EReal) (hm : ∀ j, m (ix3 0 r j) = M) :
    k0_pay21 (F := Ideal) S m (ix2 r j) = Ideal.exp (M - max M (Row.rowMax (fun s : Fin 512 => S (ix2 r s)) Finset.univ)) := by
  have e : k0_pay19 (F := Ideal) m (ix2 r j) = M := by rw [← hm j]; pointwise [k0_pay19]
  pointwise [k0_pay21]
  rw [max_at, e, hm j]

/-- The row's new sum of exponentials, as it is stored. -/
theorem l_at (S : FVec Ideal S512x512 .f32) (m l : FVec Ideal S1x512x128 .f32) (r : Fin 512) (j : Fin 128) (M : EReal) (hm : ∀ j, m (ix3 0 r j) = M) :
    k0_pay23 (F := Ideal) S m l (ix3 0 r j)
      = Ideal.exp (M - max M (Row.rowMax (fun s : Fin 512 => S (ix2 r s)) Finset.univ)) * l (ix3 0 r j)
        + ∑ s : Fin 512, Ideal.exp (S (ix2 r s) - max M (Row.rowMax (fun s : Fin 512 => S (ix2 r s)) Finset.univ)) := by
  rw [← alpha_at S m r j M hm]
  simp only [← p_at S m r _ M hm]
  pointwise [k0_pay23]

/-- The row's new weighted sum, as it is stored. -/
theorem acc_at (S : FVec Ideal S512x512 .f32) (v : FVec Ideal S512x128 .bf16) (m a : FVec Ideal S1x512x128 .f32) (r : Fin 512) (j : Fin 128)
    (M : EReal) (hm : ∀ j, m (ix3 0 r j) = M) :
    k0_pay24 (F := Ideal) S v m a (ix3 0 r j)
      = Ideal.exp (M - max M (Row.rowMax (fun s : Fin 512 => S (ix2 r s)) Finset.univ)) * a (ix3 0 r j)
        + ∑ s : Fin 512, Ideal.exp (S (ix2 r s) - max M (Row.rowMax (fun s : Fin 512 => S (ix2 r s)) Finset.univ)) * v (ix2 s j) := by
  rw [← alpha_at S m r j M hm]
  simp only [← p_at S m r _ M hm]
  pointwise [k0_pay24]

/-- The quotient written out after the last block of keys. -/
theorem out_at (a l : FVec Ideal S1x512x128 .f32) (r : Fin 512) (j : Fin 128) :
    k0_pay77 (F := Ideal) a l (ix2 r j) = Ideal.div (a (ix3 0 r j)) (l (ix3 0 r j)) := by
  pointwise [k0_pay77]

theorem fill_m (y : S8x512x128.Idx) : k0_pay1 (F := Ideal) y = (⊥ : EReal) := by
  pointwise [k0_pay1]
  exact named_mask

theorem fill_l (y : S8x512x128.Idx) : k0_pay2 (F := Ideal) y = 0 := by
  pointwise [k0_pay2]

theorem fill_a (y : S8x512x128.Idx) : k0_pay3 (F := Ideal) y = 0 := by
  pointwise [k0_pay3]

end Cert.Proof.Block

end
-- ==== Proof.Piece.lean ====
/-
  One point of the kernel's grid that meets a block of keys, head by head: what it stores over what its blocks hold.
  The row (of `y`, in the head `y 0`) has the scores `bscore … h r` against the block's keys.
-/
module

public import proofs.«01_k».proof.Proof.Block

@[expose] public section

set_option maxRecDepth 16384

noncomputable section

open Idealize.ShloMosaic Idealize.ShloMosaic.TcCoe Idealize.SL.Sem

namespace Cert.Proof.Block

open Cert.KernelIdeal Cert.KernelIdeal.Gen

/-- The masked scores of head `h`, query `r` of query block `i`, against the keys of key block `j`, over the blocks. -/
def bscore (i j : ℕ) (Q K : FVec Ideal S512x1024 .bf16) (N : FVec Ideal S1x8x512 .f32) (h : Fin 8) (r s : Fin 512) : EReal :=
  if j * 512 + s.val ≤ i * 512 + r.val then
    (∑ d : Fin 128, Q (ix2 r ⟨h * 128 + d, by omega⟩) * K (ix2 s ⟨h * 128 + d, by omega⟩)) * Ideal.ofBits .f32 0x3DB504F3#32 + N (ix3 0 h s) else ⊥

/-- The row's maximum over the block's keys and the maximum seen before. -/
def newMax (i j : ℕ) (Q K : FVec Ideal S512x1024 .bf16) (N : FVec Ideal S1x8x512 .f32) (mu : Fin 8 → Fin 512 → EReal) (h : Fin 8) (r : Fin 512) : EReal :=
  max (mu h r) (Row.rowMax (bscore i j Q K N h r) Finset.univ)

/-- The scores a point computes, over the blocks. -/
theorem scores_piece {i j : ℕ} (hi : i < 4) (hj : j < 4) {Q K : FVec Ideal S512x1024 .bf16} {N : FVec Ideal S1x8x512 .f32}
    {q k : FVec Ideal S512x128 .bf16} {n : FVec Ideal S1x1x512 .f32} (h : Fin 8)
    (hq : ∀ (r : Fin 512) (d : Fin 128), q (ix2 r d) = Q (ix2 r ⟨h * 128 + d, by omega⟩))
    (hk : ∀ (r : Fin 512) (d : Fin 128), k (ix2 r d) = K (ix2 r ⟨h * 128 + d, by omega⟩))
    (hn : ∀ r : Fin 512, n (ix3 0 0 r) = N (ix3 0 h r)) (r s : Fin 512) :
    k0_pay18 (F := Ideal) (k0_pay7 (BitVec.ofNat 32 i) (BitVec.ofNat 32 j)) q k n (ix2 r s)
    = bscore i j Q K N h r s := by
  rw [s_at i j hi hj, score, bscore]
  simp only [hq, hk, hn]

section

variable {i j : ℕ} (hi : i < 4) (hj : j < 4) {Q K V : FVec Ideal S512x1024 .bf16} {N : FVec Ideal S1x8x512 .f32}
  {q k v : FVec Ideal S512x128 .bf16} {n : FVec Ideal S1x1x512 .f32} {m l a : FVec Ideal S1x512x128 .f32}
  (mu : Fin 8 → Fin 512 → EReal) {L A : FVec Ideal S8x512x128 .f32} (h : Fin 8) (r : Fin 512) (e : Fin 128) (x : S1x512x128.Idx)
  (h1 : (r : ℕ) = x 1) (h2 : (e : ℕ) = x 2)
  (hq : ∀ (r : Fin 512) (d : Fin 128), q (ix2 r d) = Q (ix2 r ⟨h * 128 + d, by omega⟩))
  (hk : ∀ (r : Fin 512) (d : Fin 128), k (ix2 r d) = K (ix2 r ⟨h * 128 + d, by omega⟩))
  (hn : ∀ r : Fin 512, n (ix3 0 0 r) = N (ix3 0 h r))
  (hm : ∀ (r : Fin 512) (d : Fin 128), m (ix3 0 r d) = mu h r)

include hi hj hq hk hn
include h1 h2 hm

/-- The row's new maximum. -/
theorem m_piece : k0_pay25 (F := Ideal) (k0_pay18 (k0_pay7 (BitVec.ofNat 32 i) (BitVec.ofNat 32 j)) q k n) m x
    = newMax i j Q K N mu h r := by
  obtain rfl : x = ix3 0 r e := by blk_ext
  refine (m_at _ _ _ _).trans ?_
  rw [newMax, hm]
  simp only [scores_piece hi hj h hq hk hn]

/-- The row's new sum of weights. -/
theorem l_piece (hl : ∀ (r : Fin 512) (d : Fin 128), l (ix3 0 r d) = L (ix3 h r d)) :
    k0_pay23 (F := Ideal) (k0_pay18 (k0_pay7 (BitVec.ofNat 32 i) (BitVec.ofNat 32 j)) q k n) m l x
    = Ideal.exp (mu h r - newMax i j Q K N mu h r) * L (ix3 h r e)
      + ∑ s : Fin 512, Ideal.exp (bscore i j Q K N h r s - newMax i j Q K N mu h r) := by
  obtain rfl : x = ix3 0 r e := by blk_ext
  refine (l_at _ _ _ _ _ _ (hm _)).trans ?_
  rw [newMax, hl]
  simp only [scores_piece hi hj h hq hk hn]

/-- The row's new weighted sum of values. -/
theorem acc_piece (hv : ∀ (r : Fin 512) (d : Fin 128), v (ix2 r d) = V (ix2 r ⟨h * 128 + d, by omega⟩))
    (ha : ∀ (r : Fin 512) (d : Fin 128), a (ix3 0 r d) = A (ix3 h r d)) :
    k0_pay24 (F := Ideal) (k0_pay18 (k0_pay7 (BitVec.ofNat 32 i) (BitVec.ofNat 32 j)) q k n) v m a x
    = Ideal.exp (mu h r - newMax i j Q K N mu h r) * A (ix3 h r e)
      + ∑ s : Fin 512, Ideal.exp (bscore i j Q K N h r s - newMax i j Q K N mu h r)
          * V (ix2 s ⟨h * 128 + e, by omega⟩) := by
  obtain rfl : x = ix3 0 r e := by blk_ext
  refine (acc_at _ _ _ _ _ _ _ (hm _)).trans ?_
  rw [newMax, ha]
  simp only [scores_piece hi hj h hq hk hn, hv]

end

theorem inb_cols (h : Fin 8) : ∀ a, (![0, h.val * 128] : Fin 2 → ℕ) a + (![512, 128] : Fin 2 → ℕ) a ≤ S512x1024.size a := by
  revert h; decide

theorem inb_row (h : Fin 8) : ∀ a, (![0, h.val, 0] : Fin 3 → ℕ) a + (![1, 1, 512] : Fin 3 → ℕ) a ≤ S1x8x512.size a := by
  revert h; decide

theorem inb_head (h : Fin 8) : ∀ a, (![h.val, 0, 0] : Fin 3 → ℕ) a + (![1, 512, 128] : Fin 3 → ℕ) a ≤ S8x512x128.size a := by
  revert h; decide

/-- The columns of head `h` of a block of queries, keys or values. -/
abbrev headCols (X : FVec Ideal S512x1024 .bf16) (h : Fin 8) : FVec Ideal S512x128 .bf16 :=
  View.ld (Val := Elt Ideal) (e' := .bf16) (S := S512x1024) X (Rect.unit ![0, h.val * 128] ![512, 128] (inb_cols h))

/-- The row of head `h` of a block of gate sums. -/
abbrev headRow (X : FVec Ideal S1x8x512 .f32) (h : Fin 8) : FVec Ideal S1x1x512 .f32 :=
  View.ld (Val := Elt Ideal) (e' := .f32) (S := S1x8x512) X (Rect.unit ![0, h.val, 0] ![1, 1, 512] (inb_row h))

/-- Head `h` of a scratch buffer. -/
abbrev headOf (X : FVec Ideal S8x512x128 .f32) (h : Fin 8) : FVec Ideal S1x512x128 .f32 :=
  View.ld (Val := Elt Ideal) (e' := .f32) (S := S8x512x128) X (Rect.unit ![h.val, 0, 0] ![1, 512, 128] (inb_head h))

theorem headCols_at (X : FVec Ideal S512x1024 .bf16) (h : Fin 8) (r : Fin 512) (d : Fin 128) :
    headCols X h (ix2 r d) = X (ix2 r ⟨h * 128 + d, by omega⟩) := by
  pointwise [headCols]

theorem headRow_at (X : FVec Ideal S1x8x512 .f32) (h : Fin 8) (r : Fin 512) : headRow X h (ix3 0 0 r) = X (ix3 0 h r) := by
  pointwise [headRow]

theorem headOf_at (X : FVec Ideal S8x512x128 .f32) (h : Fin 8) (r : Fin 512) (d : Fin 128) : headOf X h (ix3 0 r d) = X (ix3 h r d) := by
  pointwise [headOf]

section

variable {i j : ℕ} (hi : i < 4) (hj : j < 4) (Q K V : FVec Ideal S512x1024 .bf16) (N : FVec Ideal S1x8x512 .f32)
  (mu : Fin 8 → Fin 512 → EReal) (M L A : FVec Ideal S8x512x128 .f32) (h : Fin 8) (r : Fin 512) (e : Fin 128) (x : S1x512x128.Idx)
  (h1 : (r : ℕ) = x 1) (h2 : (e : ℕ) = x 2)
  (hM : ∀ (h : Fin 8) (r : Fin 512) (d : Fin 128), M (ix3 h r d) = mu h r)

include hi hj h1 h2 hM

/-- The row's new maximum, over the blocks. -/
theorem m_head : k0_pay25 (F := Ideal) (k0_pay18 (k0_pay7 (BitVec.ofNat 32 i) (BitVec.ofNat 32 j)) (headCols Q h) (headCols K h) (headRow N h)) (headOf M h) x
    = newMax i j Q K N mu h r :=
  m_piece hi hj mu h r e x h1 h2 (headCols_at Q h) (headCols_at K h) (headRow_at N h) fun r d => (headOf_at M h r d).trans (hM h r d)

/-- The row's new sum of weights, over the blocks. -/
theorem l_head : k0_pay23 (F := Ideal) (k0_pay18 (k0_pay7 (BitVec.ofNat 32 i) (BitVec.ofNat 32 j)) (headCols Q h) (headCols K h) (headRow N h)) (headOf M h) (headOf L h) x
    = Ideal.exp (mu h r - newMax i j Q K N mu h r) * L (ix3 h r e)
      + ∑ s : Fin 512, Ideal.exp (bscore i j Q K N h r s - newMax i j Q K N mu h r) :=
  l_piece hi hj mu h r e x h1 h2 (headCols_at Q h) (headCols_at K h) (headRow_at N h) (fun r d => (headOf_at M h r d).trans (hM h r d)) (headOf_at L h)

/-- The row's new weighted sum of values, over the blocks. -/
theorem acc_head : k0_pay24 (F := Ideal) (k0_pay18 (k0_pay7 (BitVec.ofNat 32 i) (BitVec.ofNat 32 j)) (headCols Q h) (headCols K h) (headRow N h)) (headCols V h) (headOf M h) (headOf A h) x
    = Ideal.exp (mu h r - newMax i j Q K N mu h r) * A (ix3 h r e)
      + ∑ s : Fin 512, Ideal.exp (bscore i j Q K N h r s - newMax i j Q K N mu h r) * V (ix2 s ⟨h * 128 + e, by omega⟩) :=
  acc_piece hi hj mu h r e x h1 h2 (headCols_at Q h) (headCols_at K h) (headRow_at N h) (fun r d => (headOf_at M h r d).trans (hM h r d)) (headCols_at V h) (headOf_at A h)

end

section

variable {i j : ℕ} (hi : i < 4) (hj : j < 4) (Q K V : FVec Ideal S512x1024 .bf16) (N : FVec Ideal S1x8x512 .f32)
  (M L A : FVec Ideal S1x512x128 .f32) (h : Fin 8) (r : Fin 512) (e : Fin 128) (x : S1x512x128.Idx)
  (h1 : (r : ℕ) = x 1) (h2 : (e : ℕ) = x 2)
  (hM : ∀ y, M y = (⊥ : EReal))

include hi hj h1 h2 hM

/-- The row's first maximum, over the blocks. -/
theorem m_first : k0_pay25 (F := Ideal) (k0_pay18 (k0_pay7 (BitVec.ofNat 32 i) (BitVec.ofNat 32 j)) (headCols Q h) (headCols K h) (headRow N h)) M x
    = newMax i j Q K N (fun _ _ => ⊥) h r :=
  m_piece hi hj _ h r e x h1 h2 (headCols_at Q h) (headCols_at K h) (headRow_at N h) fun r d => hM _

/-- The row's first sum of weights, over the blocks. -/
theorem l_first (hL : ∀ y, L y = (0 : EReal)) : k0_pay23 (F := Ideal) (k0_pay18 (k0_pay7 (BitVec.ofNat 32 i) (BitVec.ofNat 32 j)) (headCols Q h) (headCols K h) (headRow N h)) M L x
    = Ideal.exp (⊥ - newMax i j Q K N (fun _ _ => ⊥) h r) * 0
      + ∑ s : Fin 512, Ideal.exp (bscore i j Q K N h r s - newMax i j Q K N (fun _ _ => ⊥) h r) :=
  l_piece hi hj (fun _ _ => ⊥) (L := fun _ => 0) h r e x h1 h2 (headCols_at Q h) (headCols_at K h) (headRow_at N h) (fun r d => hM _) fun r d => hL _

/-- The row's first weighted sum of values, over the blocks. -/
theorem acc_first (hA : ∀ y, A y = (0 : EReal)) : k0_pay24 (F := Ideal) (k0_pay18 (k0_pay7 (BitVec.ofNat 32 i) (BitVec.ofNat 32 j)) (headCols Q h) (headCols K h) (headRow N h)) (headCols V h) M A x
    = Ideal.exp (⊥ - newMax i j Q K N (fun _ _ => ⊥) h r) * 0
      + ∑ s : Fin 512, Ideal.exp (bscore i j Q K N h r s - newMax i j Q K N (fun _ _ => ⊥) h r) * V (ix2 s ⟨h * 128 + e, by omega⟩) :=
  acc_piece hi hj (fun _ _ => ⊥) (A := fun _ => 0) h r e x h1 h2 (headCols_at Q h) (headCols_at K h) (headRow_at N h) (fun r d => hM _) (headCols_at V h) fun r d => hA _

end

/-- What is written out for one head. -/
theorem out_head (a l : FVec Ideal S1x512x128 .f32) (r : Fin 512) (e : Fin 128) (x : S512x128.Idx) (h0 : (r : ℕ) = x 0) (h1 : (e : ℕ) = x 1) :
    k0_pay77 (F := Ideal) a l x = Ideal.div (a (ix3 0 r e)) (l (ix3 0 r e)) := by
  obtain rfl : x = ix2 r e := by blk_ext
  exact out_at a l r e

end Cert.Proof.Block

end
-- ==== Proof.Point.lean ====
/-
  Where a point of the kernel's grid stands, and that an input window's buffer holds its block.
-/
module

public import proofs.«01_k».proof.Proof.Gen.KernelIdeal.Value
public import proofs.«01_k».proof.Proof.Piece
public import Idealize.ShloMosaic.Lib.Pipeline.ReadBack

@[expose] public section

set_option maxRecDepth 16384
set_option maxHeartbeats 4000000

noncomputable section

open Idealize.ShloMosaic Idealize.ShloMosaic.TcCoe Idealize.SL.Sem

namespace Cert.Proof.Point

open Cert.KernelIdeal Cert.KernelIdeal.Gen Cert.Proof.Block

variable (m : (ℓ : Loc nD τ sig) → Buf (Elt Ideal) ℓ) (c : Dev nD) (t : Fin cfg0.N)

/-- A point's block of queries. -/
theorem coords_1 : ∀ t : Fin cfg0.N, (grid0.coords t 1 : ℕ) = t.val / 4 % 4 := (by decide +kernel : ∀ t : Fin grid0.N, _)

/-- A point's block of keys. -/
theorem coords_2 : ∀ t : Fin cfg0.N, (grid0.coords t 2 : ℕ) = t.val % 4 := (by decide +kernel : ∀ t : Fin grid0.N, _)

/-- The buffer of window 0 holds its block. -/
theorem blk_0 : View.read (Elt Ideal) (ms0_0 t).view ((hs0_0 t).unread (iblk m c 0 t)) = iblk m c 0 t := (hs0_0 t).read_unread _

/-- The buffer of window 1 holds its block. -/
theorem blk_1 : View.read (Elt Ideal) (ms0_1 t).view ((hs0_1 t).unread (iblk m c 1 t)) = iblk m c 1 t := (hs0_1 t).read_unread _

/-- The buffer of window 3 holds its block. -/
theorem blk_3 : View.read (Elt Ideal) (ms0_3 t).view ((hs0_3 t).unread (iblk m c 3 t)) = iblk m c 3 t := (hs0_3 t).read_unread _

/-- Stores that cover the buffer leave nothing of the stores before them. -/
theorem canon_covered {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], h => by obtain ⟨p, hp, _⟩ := h; simp at hp
  | p :: L, h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_covered L' y L ?_
      obtain ⟨q, hq, hyq⟩ := h
      rcases List.mem_cons.mp hq with rfl | hq'
      · exact absurd hyq hm
      · exact ⟨q, hq', hyq⟩

/-- The stores of the eight heads leave nothing of the fill before them. -/
theorem canon_heads (p0 p1 p2 p3 p4 p5 p6 p7 f : View.Piece (Elt Ideal) S8x512x128 .f32) (y : S8x512x128.Idx)
    (h : View.Piece.tiledL (s := S8x512x128) [p0, p1, p2, p3, p4, p5, p6, p7] S1x512x128.size = true) :
    View.canon [p0, p1, p2, p3, p4, p5, p6, p7, f] y = View.canon [p0, p1, p2, p3, p4, p5, p6, p7] y :=
  canon_covered [f] y [p0, p1, p2, p3, p4, p5, p6, p7] (View.cover_of_tiledL (s := S8x512x128) _ S1x512x128.size h y)

end Cert.Proof.Point

end
-- ==== Proof.Seen.lean ====
/-
  The keys a row has seen after a number of blocks of 512, and one step of the online softmax over the next block.
-/
module

public import proofs.«01_k».proof.Proof.OnlineSoftmax

@[expose] public section

noncomputable section

open Idealize.ShloMosaic

namespace Cert.Proof.Row

/-- The first `n` keys. -/
def seen (n : ℕ) : Finset (Fin 2048) := Finset.univ.filter fun s => s.val < n

/-- Key `u` of block `j`. -/
def keyAt (j : ℕ) (hj : j < 4) : Fin 512 ↪ Fin 2048 :=
  ⟨fun u => ⟨j * 512 + u, by omega⟩, fun a b h => Fin.ext (by have := congrArg Fin.val h; simp only at this; omega)⟩

/-- Block `j` of the keys. -/
def keys (j : ℕ) (hj : j < 4) : Finset (Fin 2048) := Finset.univ.map (keyAt j hj)

/-- Before any key. -/
theorem seen_zero : seen 0 = ∅ := by simp [seen]

/-- All the keys. -/
theorem seen_all : seen 2048 = Finset.univ := by
  ext s
  simp [seen]

/-- Where key `u` of block `j` stands. -/
theorem keyAt_val (j : ℕ) (hj : j < 4) (u : Fin 512) : (keyAt j hj u : ℕ) = j * 512 + u := rfl

/-- Being among the first keys. -/
theorem mem_seen (n : ℕ) (s : Fin 2048) : s ∈ seen n ↔ s.val < n := by simp [seen]

/-- Being in a block of keys. -/
theorem mem_keys (j : ℕ) (hj : j < 4) (s : Fin 2048) : s ∈ keys j hj ↔ ∃ u, keyAt j hj u = s := by
  simp [keys]

/-- One more block of keys. -/
theorem seen_succ (j : ℕ) (hj : j < 4) : seen ((j + 1) * 512) = seen (j * 512) ∪ keys j hj := by
  ext s
  rw [Finset.mem_union, mem_seen, mem_seen, mem_keys]
  constructor
  · intro h
    by_cases hs : s.val < j * 512
    · exact Or.inl hs
    · exact Or.inr ⟨⟨s.val - j * 512, by omega⟩, Fin.ext (by rw [keyAt_val]; simp only; omega)⟩
  · rintro (h | ⟨u, rfl⟩)
    · omega
    · have := u.isLt
      rw [keyAt_val]
      omega

/-- The next block holds no key seen before. -/
theorem seen_disjoint (j : ℕ) (hj : j < 4) : Disjoint (seen (j * 512)) (keys j hj) := by
  rw [Finset.disjoint_left]
  intro s h1 h2
  rw [mem_seen] at h1
  obtain ⟨u, rfl⟩ := (mem_keys j hj s).1 h2
  rw [keyAt_val] at h1
  omega

/-- The first key is among the first. -/
theorem mem_seen_zero (n : ℕ) (hn : 0 < n) : (0 : Fin 2048) ∈ seen n := by simpa [seen] using hn

section

variable (x v : Fin 2048 → EReal) (j : ℕ) (hj : j < 4) (hx : ∀ s, x s ≠ ⊤) (h0 : x 0 ≠ ⊥)

/-- The maximum over the keys seen and the next block. -/
theorem rowMax_next : max (rowMax x (seen (j * 512))) (rowMax (fun u : Fin 512 => x (keyAt j hj u)) Finset.univ) = rowMax x (seen ((j + 1) * 512)) := by
  rw [seen_succ j hj, rowMax_step]
  exact congrArg (max _) (Finset.sup_map _ _ _).symm

include hx h0

/-- The first key's score is finite, so the maximum over the keys seen is. -/
theorem rowMax_seen_real (n : ℕ) (hn : 0 < n) : IsReal (rowMax x (seen n)) := rowMax_real x _ hx (mem_seen_zero n hn) h0

/-- Either no key has been seen or the maximum is finite. -/
theorem empty_or_real : seen (j * 512) = ∅ ∨ IsReal (rowMax x (seen (j * 512))) := by
  rcases Nat.eq_zero_or_pos j with rfl | h
  · exact Or.inl (by rw [Nat.zero_mul]; exact seen_zero)
  · exact Or.inr (rowMax_seen_real x hx h0 _ (by omega))

/-- The weighted sum of values over the keys seen and the next block. -/
theorem rowAcc_next : Ideal.exp (rowMax x (seen (j * 512)) - rowMax x (seen ((j + 1) * 512))) * rowAcc x v (seen (j * 512))
      + ∑ u : Fin 512, Ideal.exp (x (keyAt j hj u) - rowMax x (seen ((j + 1) * 512))) * v (keyAt j hj u)
    = rowAcc x v (seen ((j + 1) * 512)) := by
  have hU := rowMax_seen_real x hx h0 ((j + 1) * 512) (by omega)
  rw [seen_succ j hj] at hU ⊢
  rw [rowAcc_step x v _ _ (seen_disjoint j hj) hx (empty_or_real x j hx h0) hU]
  exact congrArg₂ (· + ·) rfl (Finset.sum_map Finset.univ (keyAt j hj) fun s => Ideal.exp (x s - rowMax x (seen (j * 512) ∪ keys j hj)) * v s).symm

/-- The sum of weights over the keys seen and the next block. -/
theorem rowSum_next : Ideal.exp (rowMax x (seen (j * 512)) - rowMax x (seen ((j + 1) * 512))) * rowSum x (seen (j * 512))
      + ∑ u : Fin 512, Ideal.exp (x (keyAt j hj u) - rowMax x (seen ((j + 1) * 512)))
    = rowSum x (seen ((j + 1) * 512)) := by
  have hU := rowMax_seen_real x hx h0 ((j + 1) * 512) (by omega)
  rw [seen_succ j hj] at hU ⊢
  rw [rowSum_step x _ _ (seen_disjoint j hj) hx (empty_or_real x j hx h0) hU]
  exact congrArg₂ (· + ·) rfl (Finset.sum_map Finset.univ (keyAt j hj) fun s => Ideal.exp (x s - rowMax x (seen (j * 512) ∪ keys j hj))).symm

end

end Cert.Proof.Row

end
-- ==== Proof.Rows.lean ====
/-
  The rows of attention over whole arrays, and the blocks of a grid point as pieces of those arrays.
-/
module

public import proofs.«01_k».proof.Proof.Point
public import proofs.«01_k».proof.Proof.Seen

@[expose] public section

set_option maxRecDepth 16384

noncomputable section

open Idealize.ShloMosaic Idealize.ShloMosaic.TcCoe Idealize.SL.Sem

namespace Cert.Proof.Rows

open Cert.KernelIdeal Cert.KernelIdeal.Gen Cert.Proof.Block Cert.Proof.Row

/-- The masked score of query `t` and key `s` of head `h`, sequence `b`: the scaled dot product and the key's bias, or `⊥` for a later key. -/
def rowScore (Q K : FVec Ideal S8192x1024 .bf16) (N : FVec Ideal S4x8x2048 .f32) (b : Fin 4) (h : Fin 8) (t s : Fin 2048) : EReal :=
  if s ≤ t then
    (∑ d : Fin 128, Q (ix2 ⟨b * 2048 + t, by omega⟩ ⟨h * 128 + d, by omega⟩) * K (ix2 ⟨b * 2048 + s, by omega⟩ ⟨h * 128 + d, by omega⟩)) * Ideal.ofBits .f32 0x3DB504F3#32
      + N (ix3 b h s) else ⊥

/-- The value of key `s` in column `e` of head `h`, sequence `b`. -/
def rowValue (W : FVec Ideal S8192x1024 .bf16) (b : Fin 4) (h : Fin 8) (e : Fin 128) (s : Fin 2048) : EReal :=
  W (ix2 ⟨b * 2048 + s, by omega⟩ ⟨h * 128 + e, by omega⟩)

/-- The sequence of point `n`. -/
def batch (n : ℕ) : Fin 4 := ⟨n / 16 % 4, Nat.mod_lt _ (by omega)⟩

/-- Row `r` of point `n`'s block of queries. -/
def query (n : ℕ) (r : Fin 512) : Fin 2048 := ⟨n / 4 % 4 * 512 + r, by have := Nat.mod_lt (n / 4) (show 4 > 0 by omega); omega⟩

variable (m : (ℓ : Loc nD τ sig) → Buf (Elt Ideal) ℓ) (c : Dev nD) (t : Fin cfg0.N)

/-- Where the input windows stand at a point. -/
theorem idx : ∀ t : Fin cfg0.N, win0_0.index t = ![t.val / 16 * 4 + t.val / 4 % 4, 0]
    ∧ win0_1.index t = ![t.val / 16 * 4 + min (t.val / 4 % 4) (t.val % 4), 0]
    ∧ win0_2.index t = ![t.val / 16 * 4 + min (t.val / 4 % 4) (t.val % 4), 0]
    ∧ win0_3.index t = ![t.val / 16, 0, min (t.val / 4 % 4) (t.val % 4)] :=
  (by decide +kernel : ∀ t : Fin grid0.N, _)

/-- A point's number. -/
theorem lt_64 : t.val < 64 := t.isLt

/-- A point's block of queries. -/
theorem query_block (r : Fin 512) (x : Fin 1024) :
    iblk m c 0 t (ix2 r x) = V m c main_arg0 (ix2 ⟨batch t * 2048 + query t r, by omega⟩ x) := by
  have ht := lt_64 t
  have hb : (batch t : ℕ) = t.val / 16 := by simp only [batch]; omega
  have hq : (query t r : ℕ) = t.val / 4 % 4 * 512 + r := rfl
  blk_ext [iblk, idx t]

/-- A point's block of keys, where it meets one. -/
theorem key_block (ha : t.val % 4 ≤ t.val / 4 % 4) (r : Fin 512) (x : Fin 1024) :
    iblk m c 1 t (ix2 r x) = V m c main_arg1 (ix2 ⟨batch t * 2048 + keyAt (t.val % 4) (by omega) r, by omega⟩ x) := by
  have ht := lt_64 t
  have hb : (batch t : ℕ) = t.val / 16 := by simp only [batch]; omega
  have hq : (keyAt (t.val % 4) (by omega) r : ℕ) = t.val % 4 * 512 + r := rfl
  have hm : min (t.val / 4 % 4) (t.val % 4) = t.val % 4 := by omega
  blk_ext [iblk, idx t]

/-- A point's block of values, where it meets one. -/
theorem value_block (ha : t.val % 4 ≤ t.val / 4 % 4) (r : Fin 512) (x : Fin 1024) :
    iblk m c 2 t (ix2 r x) = V m c main_arg2 (ix2 ⟨batch t * 2048 + keyAt (t.val % 4) (by omega) r, by omega⟩ x) := by
  have ht := lt_64 t
  have hb : (batch t : ℕ) = t.val / 16 := by simp only [batch]; omega
  have hq : (keyAt (t.val % 4) (by omega) r : ℕ) = t.val % 4 * 512 + r := rfl
  have hm : min (t.val / 4 % 4) (t.val % 4) = t.val % 4 := by omega
  blk_ext [iblk, idx t]

/-- A point's block of key biases, where it meets one. -/
theorem bias_block (ha : t.val % 4 ≤ t.val / 4 % 4) (h : Fin 8) (r : Fin 512) :
    iblk m c 3 t (ix3 0 h r) = V m c main_v2 (ix3 (batch t) h (keyAt (t.val % 4) (by omega) r)) := by
  have ht := lt_64 t
  have hb : (batch t : ℕ) = t.val / 16 := by simp only [batch]; omega
  have hq : (keyAt (t.val % 4) (by omega) r : ℕ) = t.val % 4 * 512 + r := rfl
  have hm : min (t.val / 4 % 4) (t.val % 4) = t.val % 4 := by omega
  show ((cfg0.win 3).blk t).view.read (Elt Ideal) (V m c main_v2) (ix3 0 h r) = _
  generalize V m c main_v2 = N
  blk_ext [idx t]

/-- The scores of the row of query `r` of point `n`. -/
abbrev pointScore (n : ℕ) (h : Fin 8) (r : Fin 512) : Fin 2048 → EReal :=
  rowScore (V m c main_arg0) (V m c main_arg1) (V m c main_v2) (batch n) h (query n r)

/-- The values the row meets. -/
abbrev pointValue (n : ℕ) (h : Fin 8) (e : Fin 128) : Fin 2048 → EReal := rowValue (V m c main_arg2) (batch n) h e

/-- The scores over a point's blocks are the row's scores. -/
theorem bscore_eq (ha : t.val % 4 ≤ t.val / 4 % 4) (h : Fin 8) (r s : Fin 512) :
    bscore (t.val / 4 % 4) (t.val % 4) (iblk m c 0 t) (iblk m c 1 t) (iblk m c 3 t) h r s
      = pointScore m c t h r (keyAt (t.val % 4) (by omega) s) := by
  rw [bscore, pointScore, rowScore, bias_block m c t ha]
  simp only [query_block, key_block m c t ha]
  exact if_congr (by rw [Fin.le_def]; exact Iff.rfl) rfl rfl

/-- The values of a point's block are the row's values. -/
theorem bvalue_eq (ha : t.val % 4 ≤ t.val / 4 % 4) (h : Fin 8) (e : Fin 128) (s : Fin 512) :
    iblk m c 2 t (ix2 s ⟨h * 128 + e, by omega⟩) = pointValue m c t h e (keyAt (t.val % 4) (by omega) s) :=
  value_block m c t ha s _

end Cert.Proof.Rows

end
-- ==== Proof.PointA.lean ====
/-
  What the carried scratch buffers hold after a point at a row's first block of keys, where they start from the fills,
  over the blocks it reads and what the point before left.
-/
module

public import proofs.«01_k».proof.Proof.Point

@[expose] public section

set_option maxRecDepth 16384
set_option maxHeartbeats 4000000

noncomputable section

open Idealize.ShloMosaic Idealize.ShloMosaic.TcCoe Idealize.SL.Sem

namespace Cert.Proof.Point

open Cert.KernelIdeal Cert.KernelIdeal.Gen Cert.Proof.Block

variable (m : (ℓ : Loc nD τ sig) → Buf (Elt Ideal) ℓ) (c : Dev nD) (t : Fin cfg0.N)
  (h : Fin 8) (r : Fin 512) (e : Fin 128) (y : S8x512x128.Idx) (y0 : (y 0 : ℕ) = h) (y1 : (y 1 : ℕ) = r) (y2 : (y 2 : ℕ) = e)

include y0 y1 y2

/-- The row's maximum at a row's first block of keys. -/
theorem m_A (h0 : t.val % 4 = 0) (h1 : t.val % 4 ≤ t.val / 4 % 4) (h2 : ¬t.val % 4 = 3) :
    (outsAt0 m c t.val t.isLt).2.1 y = newMax (t.val / 4 % 4) (t.val % 4) (iblk m c 0 t) (iblk m c 1 t) (iblk m c 3 t) (fun _ _ => ⊥) h r := by
  rw [← coords_1 t, ← coords_2 t, outsAt0_A m c t h0 h1 h2]
  dsimp only
  have i4 : (grid0.coords t 1 : ℕ) < 4 := by have := coords_1 t; omega
  have j4 : (grid0.coords t 2 : ℕ) < 4 := by have := coords_2 t; omega
  frame_out
  refine (canon_heads _ _ _ _ _ _ _ _ _ y (by sl_kernel_rfl)).trans ?_
  canon_tiles x w
  case piece0 =>
    obtain rfl : h = 7 := Fin.ext (by omega)
    refine m_first i4 j4 (iblk m c 0 t) (iblk m c 1 t) (iblk m c 3 t) _ 7 r e x (by omega) (by omega) ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece1 =>
    obtain rfl : h = 6 := Fin.ext (by omega)
    refine m_first i4 j4 (iblk m c 0 t) (iblk m c 1 t) (iblk m c 3 t) _ 6 r e x (by omega) (by omega) ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece2 =>
    obtain rfl : h = 5 := Fin.ext (by omega)
    refine m_first i4 j4 (iblk m c 0 t) (iblk m c 1 t) (iblk m c 3 t) _ 5 r e x (by omega) (by omega) ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece3 =>
    obtain rfl : h = 4 := Fin.ext (by omega)
    refine m_first i4 j4 (iblk m c 0 t) (iblk m c 1 t) (iblk m c 3 t) _ 4 r e x (by omega) (by omega) ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece4 =>
    obtain rfl : h = 3 := Fin.ext (by omega)
    refine m_first i4 j4 (iblk m c 0 t) (iblk m c 1 t) (iblk m c 3 t) _ 3 r e x (by omega) (by omega) ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece5 =>
    obtain rfl : h = 2 := Fin.ext (by omega)
    refine m_first i4 j4 (iblk m c 0 t) (iblk m c 1 t) (iblk m c 3 t) _ 2 r e x (by omega) (by omega) ?_
    · intro z
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
  case piece6 =>
    obtain rfl : h = 1 := Fin.ext (by omega)
    refine m_first i4 j4 (iblk m c 0 t) (iblk m c 1 t) (iblk m c 3 t) _ 1 r e x (by omega) (by omega) ?_
    · intro z
      refine (congrFun (View.readCov_skip _ _ _ _ _ (by decide)) _).trans ?_
      exact (congrFun (View.readCov_fill _ _ _ _ _ (by decide)) _).trans (fill_m _)
  case piece7 =>
    obtain rfl : h = 0 := Fin.ext (by omega)
    refine m_first i4 j4 (iblk m c 0 t) (iblk m c 1 t) (iblk m c 3 t) _ 0 r e x (by omega) (by omega) ?_
    · intro z
      exact (congrFun (View.readCov_fill _ _ _ _ _ (by decide)) _).trans (fill_m _)

/-- The row's sum of weights at a row's first block of keys. -/
theorem l_A (h0 : t.val % 4 = 0) (h1 : t.val % 4 ≤ t.val / 4 % 4) (h2 : ¬t.val % 4 = 3) :
    (outsAt0 m c t.val t.isLt).2.2.1 y
      = Ideal.exp (⊥ - newMax (t.val / 4 % 4) (t.val % 4) (iblk m c 0 t) (iblk m c 1 t) (iblk m c 3 t) (fun _ _ => ⊥) h r) * 0
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) (fun _ _ => ⊥) h r) := by
  rw [← coords_1 t, ← coords_2 t, outsAt0_A m c t h0 h1 h2]
  dsimp only
  have i4 : (grid0.coords t 1 : ℕ) < 4 := by have := coords_1 t; omega
  have j4 : (grid0.coords t 2 : ℕ) < 4 := by have := coords_2 t; omega
  frame_out
  refine (canon_heads _ _ _ _ _ _ _ _ _ y (by sl_kernel_rfl)).trans ?_
  canon_tiles x w
  case piece0 =>
    obtain rfl : h = 7 := Fin.ext (by omega)
    refine l_first i4 j4 (iblk m c 0 t) (iblk m c 1 t) (iblk m c 3 t) _ _ 7 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece1 =>
    obtain rfl : h = 6 := Fin.ext (by omega)
    refine l_first i4 j4 (iblk m c 0 t) (iblk m c 1 t) (iblk m c 3 t) _ _ 6 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece2 =>
    obtain rfl : h = 5 := Fin.ext (by omega)
    refine l_first i4 j4 (iblk m c 0 t) (iblk m c 1 t) (iblk m c 3 t) _ _ 5 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece3 =>
    obtain rfl : h = 4 := Fin.ext (by omega)
    rw [blk_0, blk_1, blk_3]
    refine l_first i4 j4 (iblk m c 0 t) (iblk m c 1 t) (iblk m c 3 t) _ _ 4 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece4 =>
    obtain rfl : h = 3 := Fin.ext (by omega)
    refine l_first i4 j4 (iblk m c 0 t) (iblk m c 1 t) (iblk m c 3 t) _ _ 3 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece5 =>
    obtain rfl : h = 2 := Fin.ext (by omega)
    refine l_first i4 j4 (iblk m c 0 t) (iblk m c 1 t) (iblk m c 3 t) _ _ 2 r e x (by omega) (by omega) ?_ ?_
    · intro z
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      exact (congrFun (View.readCov_fill _ _ _ _ _ (by decide)) _).trans (fill_l _)
  case piece6 =>
    obtain rfl : h = 1 := Fin.ext (by omega)
    rw [blk_0, blk_1, blk_3]
    refine l_first i4 j4 (iblk m c 0 t) (iblk m c 1 t) (iblk m c 3 t) _ _ 1 r e x (by omega) (by omega) ?_ ?_
    · intro z
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      exact (congrFun (View.readCov_fill _ _ _ _ _ (by decide)) _).trans (fill_l _)
  case piece7 =>
    obtain rfl : h = 0 := Fin.ext (by omega)
    refine l_first i4 j4 (iblk m c 0 t) (iblk m c 1 t) (iblk m c 3 t) _ _ 0 r e x (by omega) (by omega) ?_ ?_
    · intro z
      exact (congrFun (View.readCov_fill _ _ _ _ _ (by decide)) _).trans (fill_m _)
    · intro z
      exact (congrFun (View.readCov_fill _ _ _ _ _ (by decide)) _).trans (fill_l _)

/-- The row's weighted sum of values at a row's first block of keys. -/
theorem a_A (h0 : t.val % 4 = 0) (h1 : t.val % 4 ≤ t.val / 4 % 4) (h2 : ¬t.val % 4 = 3) :
    (outsAt0 m c t.val t.isLt).2.2.2 y
      = Ideal.exp (⊥ - newMax (t.val / 4 % 4) (t.val % 4) (iblk m c 0 t) (iblk m c 1 t) (iblk m c 3 t) (fun _ _ => ⊥) h r) * 0
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) (fun _ _ => ⊥) h r)
          * (iblk m c 2 t) (ix2 s ⟨h * 128 + e, by omega⟩) := by
  rw [← coords_1 t, ← coords_2 t, outsAt0_A m c t h0 h1 h2]
  dsimp only
  have i4 : (grid0.coords t 1 : ℕ) < 4 := by have := coords_1 t; omega
  have j4 : (grid0.coords t 2 : ℕ) < 4 := by have := coords_2 t; omega
  frame_out
  refine (canon_heads _ _ _ _ _ _ _ _ _ y (by sl_kernel_rfl)).trans ?_
  canon_tiles x w
  case piece0 =>
    obtain rfl : h = 7 := Fin.ext (by omega)
    refine acc_first i4 j4 (iblk m c 0 t) (iblk m c 1 t) (iblk m c 2 t) (iblk m c 3 t) _ _ 7 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece1 =>
    obtain rfl : h = 6 := Fin.ext (by omega)
    refine acc_first i4 j4 (iblk m c 0 t) (iblk m c 1 t) (iblk m c 2 t) (iblk m c 3 t) _ _ 6 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece2 =>
    obtain rfl : h = 5 := Fin.ext (by omega)
    refine acc_first i4 j4 (iblk m c 0 t) (iblk m c 1 t) (iblk m c 2 t) (iblk m c 3 t) _ _ 5 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece3 =>
    obtain rfl : h = 4 := Fin.ext (by omega)
    rw [blk_0, blk_1, blk_3]
    refine acc_first i4 j4 (iblk m c 0 t) (iblk m c 1 t) (iblk m c 2 t) (iblk m c 3 t) _ _ 4 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece4 =>
    obtain rfl : h = 3 := Fin.ext (by omega)
    refine acc_first i4 j4 (iblk m c 0 t) (iblk m c 1 t) (iblk m c 2 t) (iblk m c 3 t) _ _ 3 r e x (by omega) (by omega) ?_ ?_
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece5 =>
    obtain rfl : h = 2 := Fin.ext (by omega)
    refine acc_first i4 j4 (iblk m c 0 t) (iblk m c 1 t) (iblk m c 2 t) (iblk m c 3 t) _ _ 2 r e x (by omega) (by omega) ?_ ?_
    · intro z
      refine (congrFun (View.readCov_skip _ _ _ _ _ (by decide)) _).trans ?_
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      refine (congrFun (View.readCov_skip _ _ _ _ _ (by decide)) _).trans ?_
      exact (congrFun (View.readCov_fill _ _ _ _ _ (by decide)) _).trans (fill_a _)
  case piece6 =>
    obtain rfl : h = 1 := Fin.ext (by omega)
    rw [blk_0, blk_1, blk_3]
    refine acc_first i4 j4 (iblk m c 0 t) (iblk m c 1 t) (iblk m c 2 t) (iblk m c 3 t) _ _ 1 r e x (by omega) (by omega) ?_ ?_
    · intro z
      refine (congrFun (View.readCov_skip _ _ _ _ _ (by decide)) _).trans ?_
      exact (congrFun (View.readCov_fill _ _ _ _ _ (by decide)) _).trans (fill_m _)
    · intro z
      refine (congrFun (View.readCov_skip _ _ _ _ _ (by decide)) _).trans ?_
      exact (congrFun (View.readCov_fill _ _ _ _ _ (by decide)) _).trans (fill_a _)
  case piece7 =>
    obtain rfl : h = 0 := Fin.ext (by omega)
    refine acc_first i4 j4 (iblk m c 0 t) (iblk m c 1 t) (iblk m c 2 t) (iblk m c 3 t) _ _ 0 r e x (by omega) (by omega) ?_ ?_
    · intro z
      exact (congrFun (View.readCov_fill _ _ _ _ _ (by decide)) _).trans (fill_m _)
    · intro z
      exact (congrFun (View.readCov_fill _ _ _ _ _ (by decide)) _).trans (fill_a _)

end Cert.Proof.Point

end
-- ==== Proof.PointD.lean ====
/-
  What the carried scratch buffers hold after a point at a later block of keys that is not the last,
  over the blocks it reads and what the point before left.
-/
module

public import proofs.«01_k».proof.Proof.Point

@[expose] public section

set_option maxRecDepth 16384
set_option maxHeartbeats 4000000

noncomputable section

open Idealize.ShloMosaic Idealize.ShloMosaic.TcCoe Idealize.SL.Sem

namespace Cert.Proof.Point

open Cert.KernelIdeal Cert.KernelIdeal.Gen Cert.Proof.Block

variable (m : (ℓ : Loc nD τ sig) → Buf (Elt Ideal) ℓ) (c : Dev nD) (t : Fin cfg0.N)
  (h : Fin 8) (r : Fin 512) (e : Fin 128) (y : S8x512x128.Idx) (y0 : (y 0 : ℕ) = h) (y1 : (y 1 : ℕ) = r) (y2 : (y 2 : ℕ) = e)

include y0 y1 y2

/-- The row's maximum at a later block of keys that is not the last. -/
theorem m_D (h0 : ¬t.val % 4 = 0) (h1 : t.val % 4 ≤ t.val / 4 % 4) (h2 : ¬t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.1 y = newMax (t.val / 4 % 4) (t.val % 4) (iblk m c 0 t) (iblk m c 1 t) (iblk m c 3 t) mu h r := by
  rw [← coords_1 t, ← coords_2 t, outsAt0_D m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    exact m_head i4 j4 (iblk m c 0 t) (iblk m c 1 t) (iblk m c 3 t) mu _ 7 r e x (by omega) (by omega) fun h r d => (congrFun (Idealize.ShloMosaic.read_unread_whole _ _ _) _).trans (hmu h r d)
  case piece1 =>
    obtain rfl : h = 6 := Fin.ext (by omega)
    exact m_head i4 j4 (iblk m c 0 t) (iblk m c 1 t) (iblk m c 3 t) mu _ 6 r e x (by omega) (by omega) fun h r d => (congrFun (Idealize.ShloMosaic.read_unread_whole _ _ _) _).trans (hmu h r d)
  case piece2 =>
    obtain rfl : h = 5 := Fin.ext (by omega)
    exact m_head i4 j4 (iblk m c 0 t) (iblk m c 1 t) (iblk m c 3 t) mu _ 5 r e x (by omega) (by omega) fun h r d => (congrFun (Idealize.ShloMosaic.read_unread_whole _ _ _) _).trans (hmu h r d)
  case piece3 =>
    obtain rfl : h = 4 := Fin.ext (by omega)
    rw [Idealize.ShloMosaic.read_unread_whole]
    exact m_head i4 j4 (iblk m c 0 t) (iblk m c 1 t) (iblk m c 3 t) mu _ 4 r e x (by omega) (by omega) hmu
  case piece4 =>
    obtain rfl : h = 3 := Fin.ext (by omega)
    exact m_head i4 j4 (iblk m c 0 t) (iblk m c 1 t) (iblk m c 3 t) mu _ 3 r e x (by omega) (by omega) fun h r d => (congrFun (Idealize.ShloMosaic.read_unread_whole _ _ _) _).trans (hmu h r d)
  case piece5 =>
    obtain rfl : h = 2 := Fin.ext (by omega)
    exact m_head i4 j4 (iblk m c 0 t) (iblk m c 1 t) (iblk m c 3 t) mu _ 2 r e x (by omega) (by omega) fun h r d => (congrFun (Idealize.ShloMosaic.read_unread_whole _ _ _) _).trans (hmu h r d)
  case piece6 =>
    obtain rfl : h = 1 := Fin.ext (by omega)
    rw [Idealize.ShloMosaic.read_unread_whole]
    exact m_head i4 j4 (iblk m c 0 t) (iblk m c 1 t) (iblk m c 3 t) mu _ 1 r e x (by omega) (by omega) hmu
  case piece7 =>
    obtain rfl : h = 0 := Fin.ext (by omega)
    exact m_head i4 j4 (iblk m c 0 t) (iblk m c 1 t) (iblk m c 3 t) mu _ 0 r e x (by omega) (by omega) fun h r d => (congrFun (Idealize.ShloMosaic.read_unread_whole _ _ _) _).trans (hmu h r d)

/-- The row's sum of weights at a later block of keys that is not the last. -/
theorem l_D (h0 : ¬t.val % 4 = 0) (h1 : t.val % 4 ≤ t.val / 4 % 4) (h2 : ¬t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.2.1 y
      = Ideal.exp (mu h r - newMax (t.val / 4 % 4) (t.val % 4) (iblk m c 0 t) (iblk m c 1 t) (iblk m c 3 t) mu h r) * (outsAt0 m c (t.val - 1) (Nat.lt_of_le_of_lt (Nat.sub_le _ _) t.isLt)).2.2.1 (ix3 h r e)
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) mu h r) := by
  rw [← coords_1 t, ← coords_2 t, outsAt0_D m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    refine (l_head i4 j4 (iblk m c 0 t) (iblk m c 1 t) (iblk m c 3 t) mu _ _ 7 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece1 =>
    obtain rfl : h = 6 := Fin.ext (by omega)
    refine (l_head i4 j4 (iblk m c 0 t) (iblk m c 1 t) (iblk m c 3 t) mu _ _ 6 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece2 =>
    obtain rfl : h = 5 := Fin.ext (by omega)
    refine (l_head i4 j4 (iblk m c 0 t) (iblk m c 1 t) (iblk m c 3 t) mu _ _ 5 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece3 =>
    obtain rfl : h = 4 := Fin.ext (by omega)
    rw [blk_0, blk_1, blk_3]
    rw [Idealize.ShloMosaic.read_unread_whole, Idealize.ShloMosaic.read_unread_whole]
    refine (l_head i4 j4 (iblk m c 0 t) (iblk m c 1 t) (iblk m c 3 t) mu _ _ 4 r e x (by omega) (by omega) hmu).trans ?_
    exact rfl
  case piece4 =>
    obtain rfl : h = 3 := Fin.ext (by omega)
    refine (l_head i4 j4 (iblk m c 0 t) (iblk m c 1 t) (iblk m c 3 t) mu _ _ 3 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece5 =>
    obtain rfl : h = 2 := Fin.ext (by omega)
    refine (l_head i4 j4 (iblk m c 0 t) (iblk m c 1 t) (iblk m c 3 t) mu _ _ 2 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece6 =>
    obtain rfl : h = 1 := Fin.ext (by omega)
    rw [blk_0, blk_1, blk_3]
    rw [Idealize.ShloMosaic.read_unread_whole, Idealize.ShloMosaic.read_unread_whole]
    refine (l_head i4 j4 (iblk m c 0 t) (iblk m c 1 t) (iblk m c 3 t) mu _ _ 1 r e x (by omega) (by omega) hmu).trans ?_
    exact rfl
  case piece7 =>
    obtain rfl : h = 0 := Fin.ext (by omega)
    refine (l_head i4 j4 (iblk m c 0 t) (iblk m c 1 t) (iblk m c 3 t) mu _ _ 0 r e x (by omega) (by omega) fun h r d => (congrFun (Idealize.ShloMosaic.read_unread_whole _ _ _) _).trans (hmu h r d)).trans ?_
    exact congrArg (fun z => _ * z + _) (congrFun (Idealize.ShloMosaic.read_unread_whole _ _ _) _)

/-- The row's weighted sum of values at a later block of keys that is not the last. -/
theorem a_D (h0 : ¬t.val % 4 = 0) (h1 : t.val % 4 ≤ t.val / 4 % 4) (h2 : ¬t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.2.2 y
      = Ideal.exp (mu h r - newMax (t.val / 4 % 4) (t.val % 4) (iblk m c 0 t) (iblk m c 1 t) (iblk m c 3 t) mu h r) * (outsAt0 m c (t.val - 1) (Nat.lt_of_le_of_lt (Nat.sub_le _ _) t.isLt)).2.2.2 (ix3 h r e)
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) mu h r)
          * (iblk m c 2 t) (ix2 s ⟨h * 128 + e, by omega⟩) := by
  rw [← coords_1 t, ← coords_2 t, outsAt0_D m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    refine (acc_head i4 j4 (iblk m c 0 t) (iblk m c 1 t) (iblk m c 2 t) (iblk m c 3 t) mu _ _ 7 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece1 =>
    obtain rfl : h = 6 := Fin.ext (by omega)
    refine (acc_head i4 j4 (iblk m c 0 t) (iblk m c 1 t) (iblk m c 2 t) (iblk m c 3 t) mu _ _ 6 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece2 =>
    obtain rfl : h = 5 := Fin.ext (by omega)
    refine (acc_head i4 j4 (iblk m c 0 t) (iblk m c 1 t) (iblk m c 2 t) (iblk m c 3 t) mu _ _ 5 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece3 =>
    obtain rfl : h = 4 := Fin.ext (by omega)
    rw [blk_0, blk_1, blk_3]
    rw [Idealize.ShloMosaic.read_unread_whole, Idealize.ShloMosaic.read_unread_whole]
    refine (acc_head i4 j4 (iblk m c 0 t) (iblk m c 1 t) (iblk m c 2 t) (iblk m c 3 t) mu _ _ 4 r e x (by omega) (by omega) hmu).trans ?_
    exact rfl
  case piece4 =>
    obtain rfl : h = 3 := Fin.ext (by omega)
    refine (acc_head i4 j4 (iblk m c 0 t) (iblk m c 1 t) (iblk m c 2 t) (iblk m c 3 t) mu _ _ 3 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece5 =>
    obtain rfl : h = 2 := Fin.ext (by omega)
    refine (acc_head i4 j4 (iblk m c 0 t) (iblk m c 1 t) (iblk m c 2 t) (iblk m c 3 t) mu _ _ 2 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece6 =>
    obtain rfl : h = 1 := Fin.ext (by omega)
    rw [blk_0, blk_1, blk_3]
    rw [Idealize.ShloMosaic.read_unread_whole, Idealize.ShloMosaic.read_unread_whole]
    refine (acc_head i4 j4 (iblk m c 0 t) (iblk m c 1 t) (iblk m c 2 t) (iblk m c 3 t) mu _ _ 1 r e x (by omega) (by omega) hmu).trans ?_
    exact rfl
  case piece7 =>
    obtain rfl : h = 0 := Fin.ext (by omega)
    refine (acc_head i4 j4 (iblk m c 0 t) (iblk m c 1 t) (iblk m c 2 t) (iblk m c 3 t) mu _ _ 0 r e x (by omega) (by omega) fun h r d => (congrFun (Idealize.ShloMosaic.read_unread_whole _ _ _) _).trans (hmu h r d)).trans ?_
    exact congrArg (fun z => _ * z + _) (congrFun (Idealize.ShloMosaic.read_unread_whole _ _ _) _)

end Cert.Proof.Point

end
-- ==== Proof.PointE.lean ====
/-
  What the carried scratch buffers hold after a point at the last block of keys, where the query block meets it,
  over the blocks it reads and what the point before left.
-/
module

public import proofs.«01_k».proof.Proof.Point

@[expose] public section

set_option maxRecDepth 16384
set_option maxHeartbeats 4000000

noncomputable section

open Idealize.ShloMosaic Idealize.ShloMosaic.TcCoe Idealize.SL.Sem

namespace Cert.Proof.Point

open Cert.KernelIdeal Cert.KernelIdeal.Gen Cert.Proof.Block

variable (m : (ℓ : Loc nD τ sig) → Buf (Elt Ideal) ℓ) (c : Dev nD) (t : Fin cfg0.N)
  (h : Fin 8) (r : Fin 512) (e : Fin 128) (y : S8x512x128.Idx) (y0 : (y 0 : ℕ) = h) (y1 : (y 1 : ℕ) = r) (y2 : (y 2 : ℕ) = e)

include y0 y1 y2

/-- The row's maximum at the last block of keys, where the query block meets it. -/
theorem m_E (h0 : ¬t.val % 4 = 0) (h1 : t.val % 4 ≤ t.val / 4 % 4) (h2 : t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.1 y = newMax (t.val / 4 % 4) (t.val % 4) (iblk m c 0 t) (iblk m c 1 t) (iblk m c 3 t) mu h r := by
  rw [← coords_1 t, ← coords_2 t, outsAt0_E m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    exact m_head i4 j4 (iblk m c 0 t) (iblk m c 1 t) (iblk m c 3 t) mu _ 7 r e x (by omega) (by omega) fun h r d => (congrFun (Idealize.ShloMosaic.read_unread_whole _ _ _) _).trans (hmu h r d)
  case piece1 =>
    obtain rfl : h = 6 := Fin.ext (by omega)
    exact m_head i4 j4 (iblk m c 0 t) (iblk m c 1 t) (iblk m c 3 t) mu _ 6 r e x (by omega) (by omega) fun h r d => (congrFun (Idealize.ShloMosaic.read_unread_whole _ _ _) _).trans (hmu h r d)
  case piece2 =>
    obtain rfl : h = 5 := Fin.ext (by omega)
    exact m_head i4 j4 (iblk m c 0 t) (iblk m c 1 t) (iblk m c 3 t) mu _ 5 r e x (by omega) (by omega) fun h r d => (congrFun (Idealize.ShloMosaic.read_unread_whole _ _ _) _).trans (hmu h r d)
  case piece3 =>
    obtain rfl : h = 4 := Fin.ext (by omega)
    rw [Idealize.ShloMosaic.read_unread_whole]
    exact m_head i4 j4 (iblk m c 0 t) (iblk m c 1 t) (iblk m c 3 t) mu _ 4 r e x (by omega) (by omega) hmu
  case piece4 =>
    obtain rfl : h = 3 := Fin.ext (by omega)
    exact m_head i4 j4 (iblk m c 0 t) (iblk m c 1 t) (iblk m c 3 t) mu _ 3 r e x (by omega) (by omega) fun h r d => (congrFun (Idealize.ShloMosaic.read_unread_whole _ _ _) _).trans (hmu h r d)
  case piece5 =>
    obtain rfl : h = 2 := Fin.ext (by omega)
    exact m_head i4 j4 (iblk m c 0 t) (iblk m c 1 t) (iblk m c 3 t) mu _ 2 r e x (by omega) (by omega) fun h r d => (congrFun (Idealize.ShloMosaic.read_unread_whole _ _ _) _).trans (hmu h r d)
  case piece6 =>
    obtain rfl : h = 1 := Fin.ext (by omega)
    rw [Idealize.ShloMosaic.read_unread_whole]
    exact m_head i4 j4 (iblk m c 0 t) (iblk m c 1 t) (iblk m c 3 t) mu _ 1 r e x (by omega) (by omega) hmu
  case piece7 =>
    obtain rfl : h = 0 := Fin.ext (by omega)
    exact m_head i4 j4 (iblk m c 0 t) (iblk m c 1 t) (iblk m c 3 t) mu _ 0 r e x (by omega) (by omega) fun h r d => (congrFun (Idealize.ShloMosaic.read_unread_whole _ _ _) _).trans (hmu h r d)

/-- The row's sum of weights at the last block of keys, where the query block meets it. -/
theorem l_E (h0 : ¬t.val % 4 = 0) (h1 : t.val % 4 ≤ t.val / 4 % 4) (h2 : t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.2.1 y
      = Ideal.exp (mu h r - newMax (t.val / 4 % 4) (t.val % 4) (iblk m c 0 t) (iblk m c 1 t) (iblk m c 3 t) mu h r) * (outsAt0 m c (t.val - 1) (Nat.lt_of_le_of_lt (Nat.sub_le _ _) t.isLt)).2.2.1 (ix3 h r e)
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) mu h r) := by
  rw [← coords_1 t, ← coords_2 t, outsAt0_E m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    refine (l_head i4 j4 (iblk m c 0 t) (iblk m c 1 t) (iblk m c 3 t) mu _ _ 7 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece1 =>
    obtain rfl : h = 6 := Fin.ext (by omega)
    refine (l_head i4 j4 (iblk m c 0 t) (iblk m c 1 t) (iblk m c 3 t) mu _ _ 6 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece2 =>
    obtain rfl : h = 5 := Fin.ext (by omega)
    refine (l_head i4 j4 (iblk m c 0 t) (iblk m c 1 t) (iblk m c 3 t) mu _ _ 5 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece3 =>
    obtain rfl : h = 4 := Fin.ext (by omega)
    rw [blk_0, blk_1, blk_3]
    rw [Idealize.ShloMosaic.read_unread_whole, Idealize.ShloMosaic.read_unread_whole]
    refine (l_head i4 j4 (iblk m c 0 t) (iblk m c 1 t) (iblk m c 3 t) mu _ _ 4 r e x (by omega) (by omega) hmu).trans ?_
    exact rfl
  case piece4 =>
    obtain rfl : h = 3 := Fin.ext (by omega)
    refine (l_head i4 j4 (iblk m c 0 t) (iblk m c 1 t) (iblk m c 3 t) mu _ _ 3 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece5 =>
    obtain rfl : h = 2 := Fin.ext (by omega)
    refine (l_head i4 j4 (iblk m c 0 t) (iblk m c 1 t) (iblk m c 3 t) mu _ _ 2 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece6 =>
    obtain rfl : h = 1 := Fin.ext (by omega)
    rw [blk_0, blk_1, blk_3]
    rw [Idealize.ShloMosaic.read_unread_whole, Idealize.ShloMosaic.read_unread_whole]
    refine (l_head i4 j4 (iblk m c 0 t) (iblk m c 1 t) (iblk m c 3 t) mu _ _ 1 r e x (by omega) (by omega) hmu).trans ?_
    exact rfl
  case piece7 =>
    obtain rfl : h = 0 := Fin.ext (by omega)
    refine (l_head i4 j4 (iblk m c 0 t) (iblk m c 1 t) (iblk m c 3 t) mu _ _ 0 r e x (by omega) (by omega) fun h r d => (congrFun (Idealize.ShloMosaic.read_unread_whole _ _ _) _).trans (hmu h r d)).trans ?_
    exact congrArg (fun z => _ * z + _) (congrFun (Idealize.ShloMosaic.read_unread_whole _ _ _) _)

/-- The row's weighted sum of values at the last block of keys, where the query block meets it. -/
theorem a_E (h0 : ¬t.val % 4 = 0) (h1 : t.val % 4 ≤ t.val / 4 % 4) (h2 : t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r) :
    (outsAt0 m c t.val t.isLt).2.2.2 y
      = Ideal.exp (mu h r - newMax (t.val / 4 % 4) (t.val % 4) (iblk m c 0 t) (iblk m c 1 t) (iblk m c 3 t) mu h r) * (outsAt0 m c (t.val - 1) (Nat.lt_of_le_of_lt (Nat.sub_le _ _) t.isLt)).2.2.2 (ix3 h r e)
        + ∑ s : Fin 512, Ideal.exp (bscore (t.val / 4 % 4) (t.val % 4) (iblk m c 0 t) (iblk m c 1 t) (iblk m c 3 t) h r s - newMax (t.val / 4 % 4) (t.val % 4) (iblk m c 0 t) (iblk m c 1 t) (iblk m c 3 t) mu h r)
          * (iblk m c 2 t) (ix2 s ⟨h * 128 + e, by omega⟩) := by
  rw [← coords_1 t, ← coords_2 t, outsAt0_E m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    refine (acc_head i4 j4 (iblk m c 0 t) (iblk m c 1 t) (iblk m c 2 t) (iblk m c 3 t) mu _ _ 7 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece1 =>
    obtain rfl : h = 6 := Fin.ext (by omega)
    refine (acc_head i4 j4 (iblk m c 0 t) (iblk m c 1 t) (iblk m c 2 t) (iblk m c 3 t) mu _ _ 6 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece2 =>
    obtain rfl : h = 5 := Fin.ext (by omega)
    refine (acc_head i4 j4 (iblk m c 0 t) (iblk m c 1 t) (iblk m c 2 t) (iblk m c 3 t) mu _ _ 5 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece3 =>
    obtain rfl : h = 4 := Fin.ext (by omega)
    rw [blk_0, blk_1, blk_3]
    rw [Idealize.ShloMosaic.read_unread_whole, Idealize.ShloMosaic.read_unread_whole]
    refine (acc_head i4 j4 (iblk m c 0 t) (iblk m c 1 t) (iblk m c 2 t) (iblk m c 3 t) mu _ _ 4 r e x (by omega) (by omega) hmu).trans ?_
    exact rfl
  case piece4 =>
    obtain rfl : h = 3 := Fin.ext (by omega)
    refine (acc_head i4 j4 (iblk m c 0 t) (iblk m c 1 t) (iblk m c 2 t) (iblk m c 3 t) mu _ _ 3 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece5 =>
    obtain rfl : h = 2 := Fin.ext (by omega)
    refine (acc_head i4 j4 (iblk m c 0 t) (iblk m c 1 t) (iblk m c 2 t) (iblk m c 3 t) mu _ _ 2 r e x (by omega) (by omega) fun h r d => (congrFun (Idealize.ShloMosaic.read_unread_whole _ _ _) _).trans (hmu h r d)).trans ?_
    exact congrArg (fun z => _ * z + _) (congrFun (Idealize.ShloMosaic.read_unread_whole _ _ _) _)
  case piece6 =>
    obtain rfl : h = 1 := Fin.ext (by omega)
    rw [blk_0, blk_1, blk_3]
    rw [Idealize.ShloMosaic.read_unread_whole, Idealize.ShloMosaic.read_unread_whole]
    refine (acc_head i4 j4 (iblk m c 0 t) (iblk m c 1 t) (iblk m c 2 t) (iblk m c 3 t) mu _ _ 1 r e x (by omega) (by omega) hmu).trans ?_
    exact rfl
  case piece7 =>
    obtain rfl : h = 0 := Fin.ext (by omega)
    refine (acc_head i4 j4 (iblk m c 0 t) (iblk m c 1 t) (iblk m c 2 t) (iblk m c 3 t) mu _ _ 0 r e x (by omega) (by omega) fun h r d => (congrFun (Idealize.ShloMosaic.read_unread_whole _ _ _) _).trans (hmu h r d)).trans ?_
    exact congrArg (fun z => _ * z + _) (congrFun (Idealize.ShloMosaic.read_unread_whole _ _ _) _)

end Cert.Proof.Point

end
-- ==== Proof.PointOut.lean ====
/-
  What a point at the last block of keys writes out, and that a point whose keys come after its queries leaves the carried
  scratch buffers as they are.
-/
module

public import proofs.«01_k».proof.Proof.PointE

@[expose] public section

set_option maxRecDepth 16384
set_option maxHeartbeats 4000000

noncomputable section

open Idealize.ShloMosaic Idealize.ShloMosaic.TcCoe Idealize.SL.Sem

namespace Cert.Proof.Point

open Cert.KernelIdeal Cert.KernelIdeal.Gen Cert.Proof.Block

variable (m : (ℓ : Loc nD τ sig) → Buf (Elt Ideal) ℓ) (c : Dev nD) (t : Fin cfg0.N)

/-- A point whose keys come after its queries leaves the scratch buffers. -/
theorem keep_B (h0 : ¬t.val % 4 = 0) (h1 : ¬t.val % 4 ≤ t.val / 4 % 4) (h2 : ¬t.val % 4 = 3) :
    (outsAt0 m c t.val t.isLt).2 = (outsAt0 m c (t.val - 1) (Nat.lt_of_le_of_lt (Nat.sub_le _ _) t.isLt)).2 := by
  rw [outsAt0_B m c t h0 h1 h2]
  rfl

/-- So does one at the last block of keys. -/
theorem keep_C (h0 : ¬t.val % 4 = 0) (h1 : ¬t.val % 4 ≤ t.val / 4 % 4) (h2 : t.val % 4 = 3) :
    (outsAt0 m c t.val t.isLt).2 = (outsAt0 m c (t.val - 1) (Nat.lt_of_le_of_lt (Nat.sub_le _ _) t.isLt)).2 := by
  rw [outsAt0_C m c t h0 h1 h2]
  rfl

/-- What is written out where the last block of keys comes after the queries. -/
theorem out_C (h0 : ¬t.val % 4 = 0) (h1 : ¬t.val % 4 ≤ t.val / 4 % 4) (h2 : t.val % 4 = 3) (y : S512x1024.Idx)
    (h : Fin 8) (r : Fin 512) (e : Fin 128) (y0 : (y 0 : ℕ) = r) (y1 : (y 1 : ℕ) = h * 128 + e) :
    (outsAt0 m c t.val t.isLt).1 y = Ideal.div
      ((outsAt0 m c (t.val - 1) (Nat.lt_of_le_of_lt (Nat.sub_le _ _) t.isLt)).2.2.2 (ix3 h r e))
      ((outsAt0 m c (t.val - 1) (Nat.lt_of_le_of_lt (Nat.sub_le _ _) t.isLt)).2.2.1 (ix3 h r e)) := by
  rw [outsAt0_C m c t h0 h1 h2]
  dsimp only
  frame_out
  canon_tiles x w
  case piece0 =>
    obtain rfl : h = 7 := Fin.ext (by omega)
    refine (out_head _ _ r e x (by omega) (by omega)).trans (congrArg₂ Ideal.div ?_ ?_)
    · exact (headOf_at _ 7 r e).trans (congrFun (Idealize.ShloMosaic.read_unread_whole _ _ _) _)
    · exact (headOf_at _ 7 r e).trans (congrFun (Idealize.ShloMosaic.read_unread_whole _ _ _) _)
  case piece1 =>
    obtain rfl : h = 6 := Fin.ext (by omega)
    refine (out_head _ _ r e x (by omega) (by omega)).trans (congrArg₂ Ideal.div ?_ ?_)
    · exact (headOf_at _ 6 r e).trans (congrFun (Idealize.ShloMosaic.read_unread_whole _ _ _) _)
    · exact (headOf_at _ 6 r e).trans (congrFun (Idealize.ShloMosaic.read_unread_whole _ _ _) _)
  case piece2 =>
    obtain rfl : h = 5 := Fin.ext (by omega)
    refine (out_head _ _ r e x (by omega) (by omega)).trans (congrArg₂ Ideal.div ?_ ?_)
    · exact (headOf_at _ 5 r e).trans (congrFun (Idealize.ShloMosaic.read_unread_whole _ _ _) _)
    · exact (headOf_at _ 5 r e).trans (congrFun (Idealize.ShloMosaic.read_unread_whole _ _ _) _)
  case piece3 =>
    obtain rfl : h = 4 := Fin.ext (by omega)
    refine (out_head _ _ r e x (by omega) (by omega)).trans (congrArg₂ Ideal.div ?_ ?_)
    · exact (headOf_at _ 4 r e).trans (congrFun (Idealize.ShloMosaic.read_unread_whole _ _ _) _)
    · exact (headOf_at _ 4 r e).trans (congrFun (Idealize.ShloMosaic.read_unread_whole _ _ _) _)
  case piece4 =>
    obtain rfl : h = 3 := Fin.ext (by omega)
    refine (out_head _ _ r e x (by omega) (by omega)).trans (congrArg₂ Ideal.div ?_ ?_)
    · exact (headOf_at _ 3 r e).trans (congrFun (Idealize.ShloMosaic.read_unread_whole _ _ _) _)
    · exact (headOf_at _ 3 r e).trans (congrFun (Idealize.ShloMosaic.read_unread_whole _ _ _) _)
  case piece5 =>
    obtain rfl : h = 2 := Fin.ext (by omega)
    refine (out_head _ _ r e x (by omega) (by omega)).trans (congrArg₂ Ideal.div ?_ ?_)
    · exact (headOf_at _ 2 r e).trans (congrFun (Idealize.ShloMosaic.read_unread_whole _ _ _) _)
    · exact (headOf_at _ 2 r e).trans (congrFun (Idealize.ShloMosaic.read_unread_whole _ _ _) _)
  case piece6 =>
    obtain rfl : h = 1 := Fin.ext (by omega)
    refine (out_head _ _ r e x (by omega) (by omega)).trans (congrArg₂ Ideal.div ?_ ?_)
    · exact (headOf_at _ 1 r e).trans (congrFun (Idealize.ShloMosaic.read_unread_whole _ _ _) _)
    · exact (headOf_at _ 1 r e).trans (congrFun (Idealize.ShloMosaic.read_unread_whole _ _ _) _)
  case piece7 =>
    obtain rfl : h = 0 := Fin.ext (by omega)
    refine (out_head _ _ r e x (by omega) (by omega)).trans (congrArg₂ Ideal.div ?_ ?_)
    · exact (headOf_at _ 0 r e).trans (congrFun (Idealize.ShloMosaic.read_unread_whole _ _ _) _)
    · exact (headOf_at _ 0 r e).trans (congrFun (Idealize.ShloMosaic.read_unread_whole _ _ _) _)

/-- What is written out where the last block of keys meets the queries. -/
theorem out_E (h0 : ¬t.val % 4 = 0) (h1 : t.val % 4 ≤ t.val / 4 % 4) (h2 : t.val % 4 = 3) (mu : Fin 8 → Fin 512 → EReal)
    (hmu : ∀ (h : Fin 8) (r : Fin 512) (d : Fin 128), (outsAt0 m c (t.val - 1) (Nat.lt_of_le_of_lt (Nat.sub_le _ _) t.isLt)).2.1 (ix3 h r d) = mu h r)
    (y : S512x1024.Idx) (h : Fin 8) (r : Fin 512) (e : Fin 128) (y0 : (y 0 : ℕ) = r) (y1 : (y 1 : ℕ) = h * 128 + e) :
    (outsAt0 m c t.val t.isLt).1 y = Ideal.div ((outsAt0 m c t.val t.isLt).2.2.2 (ix3 h r e)) ((outsAt0 m c t.val t.isLt).2.2.1 (ix3 h r e)) := by
  rw [a_E m c t h r e (ix3 h r e) rfl rfl rfl h0 h1 h2 mu hmu, l_E m c t h r e (ix3 h r e) rfl rfl rfl h0 h1 h2 mu hmu,
    ← coords_1 t, ← coords_2 t, outsAt0_E m c t h0 h1 h2]
  dsimp only
  have i4 : (grid0.coords t 1 : ℕ) < 4 := by have := coords_1 t; omega
  have j4 : (grid0.coords t 2 : ℕ) < 4 := by have := coords_2 t; omega
  frame_out
  canon_tiles x w
  case piece0 =>
    obtain rfl : h = 7 := Fin.ext (by omega)
    refine (out_head _ _ r e x (by omega) (by omega)).trans (congrArg₂ Ideal.div ?_ ?_)
    · skip
      refine (congrFun (View.readCov_cons_toLoadRect _ _ _ _) _).trans ?_
      refine (acc_head i4 j4 (iblk m c 0 t) (iblk m c 1 t) (iblk m c 2 t) (iblk m c 3 t) mu _ _ 7 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_cons_toLoadRect _ _ _ _) _).trans ?_
      refine (l_head i4 j4 (iblk m c 0 t) (iblk m c 1 t) (iblk m c 3 t) mu _ _ 7 r e _ rfl rfl fun h r d => (congrFun (Idealize.ShloMosaic.read_unread_whole _ _ _) _).trans (hmu h r d)).trans ?_
      exact congrArg (fun z => _ * z + _) (congrFun (Idealize.ShloMosaic.read_unread_whole _ _ _) _)
  case piece1 =>
    obtain rfl : h = 6 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_cons_toLoadRect _ _ _ _) _).trans ?_
      refine (acc_head i4 j4 (iblk m c 0 t) (iblk m c 1 t) (iblk m c 2 t) (iblk m c 3 t) mu _ _ 6 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_skip _ _ _ _ _ (by decide)) _).trans ?_
      refine (congrFun (View.readCov_cons_toLoadRect _ _ _ _) _).trans ?_
      refine (l_head i4 j4 (iblk m c 0 t) (iblk m c 1 t) (iblk m c 3 t) mu _ _ 6 r e _ rfl rfl fun h r d => (congrFun (Idealize.ShloMosaic.read_unread_whole _ _ _) _).trans (hmu h r d)).trans ?_
      exact congrArg (fun z => _ * z + _) (congrFun (Idealize.ShloMosaic.read_unread_whole _ _ _) _)
  case piece2 =>
    obtain rfl : h = 5 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (acc_head i4 j4 (iblk m c 0 t) (iblk m c 1 t) (iblk m c 2 t) (iblk m c 3 t) mu _ _ 5 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (l_head i4 j4 (iblk m c 0 t) (iblk m c 1 t) (iblk m c 3 t) mu _ _ 5 r e _ rfl rfl fun h r d => (congrFun (Idealize.ShloMosaic.read_unread_whole _ _ _) _).trans (hmu h r d)).trans ?_
      exact congrArg (fun z => _ * z + _) (congrFun (Idealize.ShloMosaic.read_unread_whole _ _ _) _)
  case piece3 =>
    obtain rfl : h = 4 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      rw [blk_0, blk_1, blk_3]
      rw [Idealize.ShloMosaic.read_unread_whole, Idealize.ShloMosaic.read_unread_whole]
      refine (acc_head i4 j4 (iblk m c 0 t) (iblk m c 1 t) (iblk m c 2 t) (iblk m c 3 t) mu _ _ 4 r e _ rfl rfl hmu).trans ?_
      exact rfl
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      rw [blk_0, blk_1, blk_3]
      rw [Idealize.ShloMosaic.read_unread_whole, Idealize.ShloMosaic.read_unread_whole]
      refine (l_head i4 j4 (iblk m c 0 t) (iblk m c 1 t) (iblk m c 3 t) mu _ _ 4 r e _ rfl rfl hmu).trans ?_
      exact rfl
  case piece4 =>
    obtain rfl : h = 3 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (acc_head i4 j4 (iblk m c 0 t) (iblk m c 1 t) (iblk m c 2 t) (iblk m c 3 t) mu _ _ 3 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (l_head i4 j4 (iblk m c 0 t) (iblk m c 1 t) (iblk m c 3 t) mu _ _ 3 r e _ rfl rfl fun h r d => (congrFun (Idealize.ShloMosaic.read_unread_whole _ _ _) _).trans (hmu h r d)).trans ?_
      exact congrArg (fun z => _ * z + _) (congrFun (Idealize.ShloMosaic.read_unread_whole _ _ _) _)
  case piece5 =>
    obtain rfl : h = 2 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (acc_head i4 j4 (iblk m c 0 t) (iblk m c 1 t) (iblk m c 2 t) (iblk m c 3 t) mu _ _ 2 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (l_head i4 j4 (iblk m c 0 t) (iblk m c 1 t) (iblk m c 3 t) mu _ _ 2 r e _ rfl rfl fun h r d => (congrFun (Idealize.ShloMosaic.read_unread_whole _ _ _) _).trans (hmu h r d)).trans ?_
      exact congrArg (fun z => _ * z + _) (congrFun (Idealize.ShloMosaic.read_unread_whole _ _ _) _)
  case piece6 =>
    obtain rfl : h = 1 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      rw [blk_0, blk_1, blk_3]
      rw [Idealize.ShloMosaic.read_unread_whole, Idealize.ShloMosaic.read_unread_whole]
      refine (acc_head i4 j4 (iblk m c 0 t) (iblk m c 1 t) (iblk m c 2 t) (iblk m c 3 t) mu _ _ 1 r e _ rfl rfl hmu).trans ?_
      exact rfl
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      rw [blk_0, blk_1, blk_3]
      rw [Idealize.ShloMosaic.read_unread_whole, Idealize.ShloMosaic.read_unread_whole]
      refine (l_head i4 j4 (iblk m c 0 t) (iblk m c 1 t) (iblk m c 3 t) mu _ _ 1 r e _ rfl rfl hmu).trans ?_
      exact rfl
  case piece7 =>
    obtain rfl : h = 0 := Fin.ext (by omega)
    refine (out_head _ _ r e x (by omega) (by omega)).trans (congrArg₂ Ideal.div ?_ ?_)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (acc_head i4 j4 (iblk m c 0 t) (iblk m c 1 t) (iblk m c 2 t) (iblk m c 3 t) mu _ _ 0 r e _ rfl rfl fun h r d => (congrFun (Idealize.ShloMosaic.read_unread_whole _ _ _) _).trans (hmu h r d)).trans ?_
      exact congrArg (fun z => _ * z + _) (congrFun (Idealize.ShloMosaic.read_unread_whole _ _ _) _)
    · skip
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine (congrFun (View.readCov_cons_toLoadRect _ _ _ _) _).trans ?_
      refine (l_head i4 j4 (iblk m c 0 t) (iblk m c 1 t) (iblk m c 3 t) mu _ _ 0 r e _ rfl rfl fun h r d => (congrFun (Idealize.ShloMosaic.read_unread_whole _ _ _) _).trans (hmu h r d)).trans ?_
      exact congrArg (fun z => _ * z + _) (congrFun (Idealize.ShloMosaic.read_unread_whole _ _ _) _)

end Cert.Proof.Point

end
-- ==== Proof.State.lean ====
/-
  What the kernel carries after each point of its grid: the maximum, the sum of weights and the weighted sum of values of
  every row, over the keys the row has met.
-/
module

public import proofs.«01_k».proof.Proof.Rows
public import proofs.«01_k».proof.Proof.PointA
public import proofs.«01_k».proof.Proof.PointD
public import proofs.«01_k».proof.Proof.PointE
public import proofs.«01_k».proof.Proof.PointOut

@[expose] public section

set_option maxRecDepth 16384

noncomputable section

open Idealize.ShloMosaic Idealize.ShloMosaic.TcCoe Idealize.SL.Sem

namespace Cert.Proof.State

open Cert.KernelIdeal Cert.KernelIdeal.Gen Cert.Proof.Block Cert.Proof.Row Cert.Proof.Rows Cert.Proof.Point

variable (m : (ℓ : Loc nD τ sig) → Buf (Elt Ideal) ℓ) (c : Dev nD)

/-- What a point leaves: for every row, its three carried numbers over the first `k` keys. -/
def Holds (n : ℕ) (hn : n < cfg0.N) (k : ℕ) : Prop := ∀ (h : Fin 8) (r : Fin 512) (e : Fin 128),
  (outsAt0 m c n hn).2.1 (ix3 h r e) = rowMax (pointScore m c n h r) (seen k)
  ∧ (outsAt0 m c n hn).2.2.1 (ix3 h r e) = rowSum (pointScore m c n h r) (seen k)
  ∧ (outsAt0 m c n hn).2.2.2 (ix3 h r e) = rowAcc (pointScore m c n h r) (pointValue m c n h e) (seen k)

variable (t : Fin cfg0.N) (hx : ∀ b h q s, rowScore (V m c main_arg0) (V m c main_arg1) (V m c main_v2) b h q s ≠ ⊤)
  (h0 : ∀ b h q, rowScore (V m c main_arg0) (V m c main_arg1) (V m c main_v2) b h q 0 ≠ ⊥)

/-- The row's maximum after a point's block of keys. -/
theorem newMax_eq (ha : t.val % 4 ≤ t.val / 4 % 4) (h : Fin 8) (r : Fin 512) (mu : Fin 8 → Fin 512 → EReal)
    (hmu : mu h r = rowMax (pointScore m c t h r) (seen (t.val % 4 * 512))) :
    newMax (t.val / 4 % 4) (t.val % 4) (iblk m c 0 t) (iblk m c 1 t) (iblk m c 3 t) mu h r
      = rowMax (pointScore m c t h r) (seen ((t.val % 4 + 1) * 512)) := by
  rw [newMax, hmu, ← rowMax_next (pointScore m c t h r) (t.val % 4) (by omega)]
  exact congrArg (max _) (congrArg (fun f => rowMax f Finset.univ) (funext fun s => bscore_eq m c t ha h r s))

include hx h0

/-- The row's sum of weights after a point's block of keys. -/
theorem newSum_eq (ha : t.val % 4 ≤ t.val / 4 % 4) (h : Fin 8) (r : Fin 512) (mu : Fin 8 → Fin 512 → EReal)
    (hmu : mu h r = rowMax (pointScore m c t h r) (seen (t.val % 4 * 512))) :
    Ideal.exp (mu h r - newMax (t.val / 4 % 4) (t.val % 4) (iblk m c 0 t) (iblk m c 1 t) (iblk m c 3 t) mu h r)
        * rowSum (pointScore m c t h r) (seen (t.val % 4 * 512))
      + ∑ s : Fin 512, Ideal.exp (bscore (t.val / 4 % 4) (t.val % 4) (iblk m c 0 t) (iblk m c 1 t) (iblk m c 3 t) h r s
          - newMax (t.val / 4 % 4) (t.val % 4) (iblk m c 0 t) (iblk m c 1 t) (iblk m c 3 t) mu h r)
      = rowSum (pointScore m c t h r) (seen ((t.val % 4 + 1) * 512)) := by
  rw [newMax_eq m c t ha h r mu hmu, hmu, ← rowSum_next (pointScore m c t h r) (t.val % 4) (by omega) (hx _ _ _) (h0 _ _ _)]
  refine congrArg₂ (· + ·) rfl (Finset.sum_congr rfl fun s _ => ?_)
  rw [bscore_eq m c t ha h r s]

/-- The row's weighted sum of values after a point's block of keys. -/
theorem newAcc_eq (ha : t.val % 4 ≤ t.val / 4 % 4) (h : Fin 8) (r : Fin 512) (e : Fin 128) (mu : Fin 8 → Fin 512 → EReal)
    (hmu : mu h r = rowMax (pointScore m c t h r) (seen (t.val % 4 * 512))) :
    Ideal.exp (mu h r - newMax (t.val / 4 % 4) (t.val % 4) (iblk m c 0 t) (iblk m c 1 t) (iblk m c 3 t) mu h r)
        * rowAcc (pointScore m c t h r) (pointValue m c t h e) (seen (t.val % 4 * 512))
      + ∑ s : Fin 512, Ideal.exp (bscore (t.val / 4 % 4) (t.val % 4) (iblk m c 0 t) (iblk m c 1 t) (iblk m c 3 t) h r s
          - newMax (t.val / 4 % 4) (t.val % 4) (iblk m c 0 t) (iblk m c 1 t) (iblk m c 3 t) mu h r)
          * iblk m c 2 t (ix2 s ⟨h * 128 + e, by omega⟩)
      = rowAcc (pointScore m c t h r) (pointValue m c t h e) (seen ((t.val % 4 + 1) * 512)) := by
  rw [newMax_eq m c t ha h r mu hmu, hmu,
    ← rowAcc_next (pointScore m c t h r) (pointValue m c t h e) (t.val % 4) (by omega) (hx _ _ _) (h0 _ _ _)]
  refine congrArg₂ (· + ·) rfl (Finset.sum_congr rfl fun s _ => ?_)
  rw [bscore_eq m c t ha h r s, bvalue_eq m c t ha h e s]

/-- The first block of keys. -/
theorem holds_A (ht0 : t.val % 4 = 0) : Holds m c t.val t.isLt ((t.val % 4 + 1) * 512) := by
  intro h r e
  have ha : t.val % 4 ≤ t.val / 4 % 4 := by omega
  have hl : ¬t.val % 4 = 3 := by omega
  have hmu : (⊥ : EReal) = rowMax (pointScore m c t h r) (seen (t.val % 4 * 512)) := by
    rw [ht0, Nat.zero_mul, seen_zero]; rfl
  refine ⟨(m_A m c t h r e _ rfl rfl rfl ht0 ha hl).trans (newMax_eq m c t ha h r (fun _ _ => ⊥) hmu),
    (l_A m c t h r e _ rfl rfl rfl ht0 ha hl).trans (.trans ?_ (newSum_eq m c t hx h0 ha h r (fun _ _ => ⊥) hmu)),
    (a_A m c t h r e _ rfl rfl rfl ht0 ha hl).trans (.trans ?_ (newAcc_eq m c t hx h0 ha h r e (fun _ _ => ⊥) hmu))⟩
  · rw [show rowSum (pointScore m c t h r) (seen (t.val % 4 * 512)) = 0 by rw [ht0, Nat.zero_mul, seen_zero]; rfl]
  · rw [show rowAcc (pointScore m c t h r) (pointValue m c t h e) (seen (t.val % 4 * 512)) = 0 by rw [ht0, Nat.zero_mul, seen_zero]; rfl]

/-- A later block of keys. -/
theorem holds_next (h0' : ¬t.val % 4 = 0) (ha : t.val % 4 ≤ t.val / 4 % 4)
    (ih : Holds m c (t.val - 1) (Nat.lt_of_le_of_lt (Nat.sub_le _ _) t.isLt) (t.val % 4 * 512)) :
    Holds m c t.val t.isLt ((t.val % 4 + 1) * 512) := by
  have hb : batch (t.val - 1) = batch t.val := Fin.ext (by simp only [batch]; omega)
  have hq : ∀ r, query (t.val - 1) r = query t.val r := fun r => Fin.ext (by simp only [query]; omega)
  have hp : ∀ h r, pointScore m c (t.val - 1) h r = pointScore m c t.val h r := fun h r => by
    rw [pointScore, pointScore, hb, hq]
  have hv : ∀ h e, pointValue m c (t.val - 1) h e = pointValue m c t.val h e := fun h e => by rw [pointValue, pointValue, hb]
  let mu : Fin 8 → Fin 512 → EReal := fun h r => rowMax (pointScore m c t h r) (seen (t.val % 4 * 512))
  have hmu : ∀ (h : Fin 8) (r : Fin 512) (d : Fin 128),
      (outsAt0 m c (t.val - 1) (Nat.lt_of_le_of_lt (Nat.sub_le _ _) t.isLt)).2.1 (ix3 h r d) = mu h r := fun h r d => by
    rw [(ih h r d).1, hp]
  intro h r e
  have hl := (ih h r e).2.1
  have hacc := (ih h r e).2.2
  rw [hp] at hl hacc
  rw [hv] at hacc
  by_cases h3 : t.val % 4 = 3
  · refine ⟨(m_E m c t h r e _ rfl rfl rfl h0' ha h3 mu hmu).trans (newMax_eq m c t ha h r mu rfl),
      (l_E m c t h r e _ rfl rfl rfl h0' ha h3 mu hmu).trans (.trans ?_ (newSum_eq m c t hx h0 ha h r mu rfl)),
      (a_E m c t h r e _ rfl rfl rfl h0' ha h3 mu hmu).trans (.trans ?_ (newAcc_eq m c t hx h0 ha h r e mu rfl))⟩
    · rw [hl]
    · rw [hacc]
  · refine ⟨(m_D m c t h r e _ rfl rfl rfl h0' ha h3 mu hmu).trans (newMax_eq m c t ha h r mu rfl),
      (l_D m c t h r e _ rfl rfl rfl h0' ha h3 mu hmu).trans (.trans ?_ (newSum_eq m c t hx h0 ha h r mu rfl)),
      (a_D m c t h r e _ rfl rfl rfl h0' ha h3 mu hmu).trans (.trans ?_ (newAcc_eq m c t hx h0 ha h r e mu rfl))⟩
    · rw [hl]
    · rw [hacc]

omit hx h0 in
/-- A block of keys that comes after every query of the point changes nothing. -/
theorem holds_keep (k : ℕ) (h0' : ¬t.val % 4 = 0) (ha : ¬t.val % 4 ≤ t.val / 4 % 4)
    (ih : Holds m c (t.val - 1) (Nat.lt_of_le_of_lt (Nat.sub_le _ _) t.isLt) k) : Holds m c t.val t.isLt k := by
  have hb : batch (t.val - 1) = batch t.val := Fin.ext (by simp only [batch]; omega)
  have hq : ∀ r, query (t.val - 1) r = query t.val r := fun r => Fin.ext (by simp only [query]; omega)
  have hk : (outsAt0 m c t.val t.isLt).2 = (outsAt0 m c (t.val - 1) (Nat.lt_of_le_of_lt (Nat.sub_le _ _) t.isLt)).2 := by
    by_cases h3 : t.val % 4 = 3
    · exact keep_C m c t h0' ha h3
    · exact keep_B m c t h0' ha h3
  intro h r e
  rw [hk]
  have := ih h r e
  rw [pointScore, pointValue, hb, hq] at this
  exact this

/-- After point `n` every row carries its numbers over the keys of the blocks met so far. -/
theorem holds : ∀ (n : ℕ) (hn : n < cfg0.N), Holds m c n hn ((min (n % 4) (n / 4 % 4) + 1) * 512) := by
  intro n
  induction n with
  | zero => intro hn; exact holds_A m c ⟨0, hn⟩ hx h0 rfl
  | succ n ih =>
    intro hn
    have ih' := ih (by omega)
    by_cases h4 : (n + 1) % 4 = 0
    · have := holds_A m c ⟨n + 1, hn⟩ hx h0 h4
      rwa [show min ((n + 1) % 4) ((n + 1) / 4 % 4) = (n + 1) % 4 by omega]
    by_cases ha : (n + 1) % 4 ≤ (n + 1) / 4 % 4
    · rw [show min ((n + 1) % 4) ((n + 1) / 4 % 4) = (n + 1) % 4 by omega]
      rw [show min (n % 4) (n / 4 % 4) + 1 = (n + 1) % 4 by omega] at ih'
      exact holds_next m c ⟨n + 1, hn⟩ hx h0 h4 ha ih'
    · rw [show min (n % 4) (n / 4 % 4) = min ((n + 1) % 4) ((n + 1) / 4 % 4) by omega] at ih'
      exact holds_keep m c ⟨n + 1, hn⟩ _ h4 ha ih'

/-- What the last point over a block of queries writes: every row's weighted sum of values over its sum of weights. -/
theorem out_eq (h3 : t.val % 4 = 3) (y : S512x1024.Idx) (h : Fin 8) (r : Fin 512) (e : Fin 128) (y0 : (y 0 : ℕ) = r) (y1 : (y 1 : ℕ) = h * 128 + e) :
    (outsAt0 m c t.val t.isLt).1 y
      = Ideal.div (rowAcc (pointScore m c t h r) (pointValue m c t h e) (seen ((t.val / 4 % 4 + 1) * 512)))
          (rowSum (pointScore m c t h r) (seen ((t.val / 4 % 4 + 1) * 512))) := by
  have h0' : ¬t.val % 4 = 0 := by omega
  have key := holds m c hx h0 t.val t.isLt h r e
  rw [show min (t.val % 4) (t.val / 4 % 4) = t.val / 4 % 4 by omega] at key
  rw [← key.2.1, ← key.2.2]
  by_cases ha : t.val % 4 ≤ t.val / 4 % 4
  · have h2 : (t.val - 1) % 4 = 2 := by omega
    exact out_E m c t h0' ha h3 (fun h r => rowMax (pointScore m c (t.val - 1) h r) (seen ((min ((t.val - 1) % 4) ((t.val - 1) / 4 % 4) + 1) * 512)))
      (fun h r d => (holds m c hx h0 (t.val - 1) _ h r d).1) y h r e y0 y1
  · rw [out_C m c t h0' ha h3 y h r e y0 y1, keep_C m c t h0' ha h3]

end Cert.Proof.State

end
-- ==== Proof.Reference.lean ====
/-
  What the reference computes, element by element: softmax attention whose score of query `t` and key `s` is
  `(Σ_d q·k)·scale + c_t − c_s` for `s ≤ t`, the cumulative log forget gate `c` being a sum over the sequence.
-/
module

public import proofs.«01_k».proof.Proof.Gen.ReferenceIdeal.Run
public import proofs.«01_k».proof.Proof.OnlineSoftmax
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Proof.Reference

open Cert.ReferenceIdeal Cert.ReferenceIdeal.Gen

/-- The cumulative sum of the log forget gates over the sequence, as the reference states it. -/
def cum (G : FVec Ideal S4x2048x8 .f32) : FVec Ideal S4x2048x8 .f32 :=
  Host.reduceWindowAdd ![1, 2048, 1] ![1, 1, 1] ![0, 2047, 0] ![0, 0, 0] G (broadcastInDim S_ ![] bcast_S_S_ (constant S_ .f32 0x00000000#32)) reduceWindows_S4x2048x8_S4x2048x8_w1s1p0_0_w2048s1p2047_0_w1s1p0_0 h_S_

/-- The reference's masked scores. -/
def scores (Q K : FVec Ideal S8192x1024 .bf16) (C : FVec Ideal S4x2048x8 .f32) : FVec Ideal S4x8x2048x2048 .f32 :=
  select (broadcastInDim S4x8x2048x2048 ![0, 1, 2, 3] bcast_S1x1x2048x2048_S4x8x2048x2048_0_1_2_3 (cmpi .sle (broadcastInDim S1x1x2048x2048 ![0, 1, 2, 3] bcast_S1x1x1x2048_S1x1x2048x2048_0_1_2_3 (broadcastInDim S1x1x1x2048 ![3] bcast_S2048_S1x1x1x2048_3 (iotaInDim S2048 32 0))) (broadcastInDim S1x1x2048x2048 ![0, 1, 2, 3] bcast_S1x1x2048x1_S1x1x2048x2048_0_1_2_3 (broadcastInDim S1x1x2048x1 ![2] bcast_S2048_S1x1x2048x1_2 (iotaInDim S2048 32 0)))))
    (subf (addf (mulf (Host.dotGeneral dot_S4x2048x8x128_S4x2048x8x128_S4x8x2048x2048_3_3_1_1_02_02 none (shapeCast _ (extf .f32 Q bitsLt_bf16_f32) shapeCasts_S8192x1024_S4x2048x8x128) (shapeCast _ (extf .f32 K bitsLt_bf16_f32) shapeCasts_S8192x1024_S4x2048x8x128)) (broadcastInDim S4x8x2048x2048 ![] bcast_S_S4x8x2048x2048 (constant S_ .f32 0x3DB504F3#32))) (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] C transposes_S4x2048x8_S4x8x2048_0_2_1)))) (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [0, 2, 1] C transposes_S4x2048x8_S4x8x2048_0_2_1))))
    (broadcastInDim S4x8x2048x2048 ![] bcast_S_S4x8x2048x2048 (id (constant S_ .f32 0xFF800000#32)))

/-- The reference's row maxima. -/
def maxima (X : FVec Ideal S4x8x2048x2048 .f32) : FVec Ideal S4x8x2048 .f32 :=
  maximumf (broadcastInDim S4x8x2048 ![] bcast_S_S4x8x2048 (constant S_ .f32 0xFF800000#32)) (Host.reduce FloatOps.maximumf X (constant S_ .f32 0xFF800000#32) reducesTo_S4x8x2048x2048_S4x8x2048_d3 h_S_)

/-- The reference's exponentials of the scores relative to their row's maximum. -/
def weights (X : FVec Ideal S4x8x2048x2048 .f32) : FVec Ideal S4x8x2048x2048 .f32 :=
  Host.exp (subf X (broadcastInDim S4x8x2048x2048 ![0, 1, 2, 3] bcast_S4x8x2048x1_S4x8x2048x2048_0_1_2_3 (broadcastInDim S4x8x2048x1 ![0, 1, 2] bcast_S4x8x2048_S4x8x2048x1_0_1_2 (maxima X))))

/-- The reference's softmax of the scores. -/
def softmax (E : FVec Ideal S4x8x2048x2048 .f32) : FVec Ideal S4x8x2048x2048 .f32 :=
  Host.divf E (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd E (constant S_ .f32 0x00000000#32) reducesTo_S4x8x2048x2048_S4x8x2048_d3 h_S_)))

/-- The values mixed by the weights, in the layout of the result. -/
def mix (P : FVec Ideal S4x8x2048x2048 .f32) (W : FVec Ideal S8192x1024 .bf16) : FVec Ideal S8192x1024 .bf16 :=
  truncf .bf16 (shapeCast _ (transpose S4x2048x8x128 [0, 3, 1, 2] (Host.dotGeneral dot_S4x2048x8x128_S4x8x2048x2048_S4x8x128x2048_1_3_3_2_02_01 none (shapeCast _ (extf .f32 W bitsLt_bf16_f32) shapeCasts_S8192x1024_S4x2048x8x128) P) transposes_S4x8x128x2048_S4x2048x8x128_0_3_1_2) shapeCasts_S4x2048x8x128_S8192x1024) bitsLt_bf16_f32

/-- The pattern of `-∞`. -/
theorem ofBits_bot : Ideal.ofBits .f32 0xFF800000#32 = ⊥ := by simp [Ideal.ofBits, Ideal.ieee]

/-- Dropping the keys of the scores leaves the rows. -/
theorem reduces_row : S4x8x2048x2048.Reduces [3] S4x8x2048 := by decide

/-- The element of row `b h t` at key `s`. -/
theorem lift_row (b : Fin 4) (h : Fin 8) (t s : Fin 2048) : reduces_row.lift (ix3 b h t) s = ix4 b h t s := by
  funext a
  refine Fin.ext ((Shape.Reduces.lift_val _ _ _ _).trans ?_)
  fin_cases a <;> simp [Shape.Reduces.liftVal, ix3, ix4]

/-- The host's maximum over the keys folds `max` over the row. -/
theorem reduce_row (X : FVec Ideal S4x8x2048x2048 .f32) (v : FVec Ideal S_ .f32) (j : S4x8x2048.Idx) :
    Host.reduce FloatOps.maximumf X v reducesTo_S4x8x2048x2048_S4x8x2048_d3 h_S_ j
      = (Finset.univ : Finset (Fin 2048)).fold max (v (Shape.Idx.first h_S_)) (X ∘ reduces_row.lift j) :=
  Host.reduce_eq_fold_single FloatOps.maximumf X v reducesTo_S4x8x2048x2048_S4x8x2048_d3 reduces_row h_S_ j

/-- A row's maximum and `-∞`. -/
theorem max_at (R : FVec Ideal S4x8x2048 .f32) (j : S4x8x2048.Idx) :
    maximumf (broadcastInDim S4x8x2048 ![] bcast_S_S4x8x2048 (constant S_ .f32 0xFF800000#32)) R j = max (Ideal.ofBits .f32 0xFF800000#32) (R j) := rfl

/-- A row's maximum. -/
theorem maxima_at (X : FVec Ideal S4x8x2048x2048 .f32) (b : Fin 4) (h : Fin 8) (t : Fin 2048) :
    maxima X (ix3 b h t) = Row.rowMax (fun s : Fin 2048 => X (ix4 b h t s)) Finset.univ := by
  have e := reduce_row X (constant S_ .f32 0xFF800000#32) (ix3 b h t)
  rw [maxima, max_at, e, ofBits_bot, max_eq_right bot_le]
  have e3 : (constant S_ .f32 0xFF800000#32 : FVec Ideal S_ .f32) (Shape.Idx.first h_S_) = ⊥ := ofBits_bot
  rw [e3]
  refine congrArg (fun f => Finset.fold max ⊥ f Finset.univ) (funext fun s => congrArg X (lift_row b h t s))

/-- An exponential, relative to its row's maximum. -/
theorem weights_at (X : FVec Ideal S4x8x2048x2048 .f32) (b : Fin 4) (h : Fin 8) (t s : Fin 2048) :
    weights X (ix4 b h t s) = Ideal.exp (X (ix4 b h t s) - maxima X (ix3 b h t)) := by
  pointwise [weights]

/-- A softmax weight: an exponential over its row's sum. -/
theorem softmax_at (E : FVec Ideal S4x8x2048x2048 .f32) (b : Fin 4) (h : Fin 8) (t s : Fin 2048) :
    softmax E (ix4 b h t s) = Ideal.div (E (ix4 b h t s)) (∑ u : Fin 2048, E (ix4 b h t u)) := by
  pointwise [softmax]

/-- An element of the result: the row's values mixed by the row's weights. -/
theorem mix_at (P : FVec Ideal S4x8x2048x2048 .f32) (W : FVec Ideal S8192x1024 .bf16) (j : S8192x1024.Idx) (b : Fin 4) (h : Fin 8) (t : Fin 2048)
    (d : Fin 128) (h0 : (j 0 : ℕ) = b * 2048 + t) (h1 : (j 1 : ℕ) = h * 128 + d) :
    mix P W j = ∑ s : Fin 2048, P (ix4 b h t s) * W (ix2 ⟨b * 2048 + s, by omega⟩ ⟨h * 128 + d, by omega⟩) := by
  pointwise [mix]
  have e0 : (j 0 : ℕ) / 2048 = b := by omega
  have e1 : (j 1 : ℕ) / 128 = h := by omega
  have e2 : (j 0 : ℕ) % 2048 = t := by omega
  refine Finset.sum_congr rfl fun s _ => (mul_comm _ _).trans ?_
  congr 2 <;> blk_ext

/-- A masked score. -/
theorem scores_at (Q K : FVec Ideal S8192x1024 .bf16) (C : FVec Ideal S4x2048x8 .f32) (b : Fin 4) (h : Fin 8) (t s : Fin 2048) :
    scores Q K C (ix4 b h t s) = if s ≤ t then
      (∑ d : Fin 128, Q (ix2 ⟨b * 2048 + t, by omega⟩ ⟨h * 128 + d, by omega⟩) * K (ix2 ⟨b * 2048 + s, by omega⟩ ⟨h * 128 + d, by omega⟩)) * Ideal.ofBits .f32 0x3DB504F3#32
        + C (ix3 b t h) - C (ix3 b s h) else ⊥ := by
  pointwise [scores]
  have ht := t.isLt
  have hs := s.isLt
  rw [Scalar.select]
  refine if_congr ((WordCmp.cmpi_sle_ofNat_eq_one_iff (w := 32) (by omega) (by omega)).trans Fin.le_def.symm) rfl ofBits_bot

variable (m : (ℓ : Loc nD τ sig) → Buf (Elt Ideal) ℓ)

/-- The reference's result, over the named stages. -/
theorem res_eq (c : Dev nD) : Cert.ReferenceIdeal.Value.res_out0 (F := Ideal) m c
    = mix (softmax (weights (scores (m ((c.tc : Thread nD τ).loc main_arg0)) (m ((c.tc : Thread nD τ).loc main_arg1)) (cum (m ((c.tc : Thread nD τ).loc main_arg3))))))
        (m ((c.tc : Thread nD τ).loc main_arg2)) := rfl

end Cert.Proof.Reference

end
-- ==== Proof.Finite.lean ====
/-
  The precondition read back: finite queries, keys and log forget gates. Then every cumulative gate and every score of a
  key that is not masked is finite.
-/
module

public import proofs.«01_k».proof.Proof.Reference
public import proofs.«01_k».proof.Proof.Rows
public import proofs.«01_k».proof.Pre_finite_scores
public import Idealize.ShloMosaic.Lib.ReduceAll

@[expose] public section

set_option maxRecDepth 16384

noncomputable section

open Idealize.ShloMosaic Idealize.ShloMosaic.TcCoe Idealize.SL.Sem

namespace Cert.Proof.Finite

open Cert.Proof.Row Cert.Proof.Rows

/-- The side conditions of the precondition's operations. -/
theorem facts : Cert.Pre_finite_scores.Facts := by
  constructor <;> decide

/-- The pattern of `∞`. -/
theorem ofBits_top : Ideal.ofBits .f32 0x7F800000#32 = ⊤ := by simp [Ideal.ofBits, Ideal.ieee]

/-- A number below `∞` and above `-∞` is finite. -/
theorem real_of_cmp (x : EReal)
    (h : IntOp.andi (Ideal.cmp .olt x (Ideal.ofBits .f32 0x7F800000#32)) (Ideal.cmp .ogt x (Ideal.ofBits .f32 0xFF800000#32)) = 1#1) : IsReal x := by
  rw [ofBits_top, Reference.ofBits_bot] at h
  obtain ⟨h1, h2⟩ := IntOp.andi_eq_one.1 h
  refine ⟨fun e => ?_, fun e => ?_⟩
  · subst e; simp [Ideal.cmp] at h2
  · subst e; simp [Ideal.cmp] at h1

instance : Subsingleton Cert.Pre_finite_scores.S_.Idx := ⟨fun a b => funext fun i => i.elim0⟩

/-- The precondition says that the queries, the keys and the log forget gates are finite. -/
theorem of_pre (Q K W : FVec Ideal ⟨2, ![8192, 1024]⟩ .bf16) (G : FVec Ideal ⟨3, ![4, 2048, 8]⟩ .f32)
    (h : @Cert.Pre_finite_scores.fn facts Ideal _ Q K W G = fun _ => 1#1) :
    (∀ i, IsReal (Q i)) ∧ (∀ i, IsReal (K i)) ∧ ∀ i, IsReal (G i) := by
  have h' := congrFun h (fun i : Fin 0 => i.elim0)
  obtain ⟨h12, h3⟩ := IntOp.andi_eq_one.1 h'
  obtain ⟨h1, h2⟩ := IntOp.andi_eq_one.1 h12
  exact ⟨fun i => real_of_cmp _ (Host.reduce_andi_all _ _ _ _ _ h1 i),
    fun i => real_of_cmp _ (Host.reduce_andi_all _ _ _ _ _ h2 i),
    fun i => real_of_cmp _ (Host.reduce_andi_all _ _ _ _ _ h3 i)⟩

/-- A left fold of additions of finite numbers is finite. -/
theorem foldl_real {ι : Type*} (f : ι → EReal) (hf : ∀ n, IsReal (f n)) :
    ∀ (l : List ι) (v : EReal), IsReal v → IsReal (l.foldl (fun r n => r + f n) v)
  | [], v, h => h
  | a :: l, v, h => foldl_real f hf l _ (h.add (hf a))

/-- A window sum of finite numbers, from a finite number, is finite. -/
theorem window_real {s t u : Shape} (window strides lo hi : Fin s.rank → ℕ) (x : FVec Ideal s .f32) (init : FVec Ideal u .f32)
    (h : s.ReduceWindows window strides lo hi t) (hu : 0 < u.numel) (hx : ∀ i, IsReal (x i)) (hi' : ∀ i, IsReal (init i)) (j : t.Idx) :
    IsReal (Host.reduceWindowAdd window strides lo hi x init h hu j) := by
  refine foldl_real (fun n => _) (fun n => ?_) _ _ (hi' _)
  split
  · exact hx _
  · exact hi' _

/-- Every cumulative gate is finite. -/
theorem cum_real (G : FVec Ideal Cert.ReferenceIdeal.S4x2048x8 .f32) (h : ∀ i, IsReal (G i)) (j) : IsReal (Reference.cum G j) := by
  have hz : Ideal.ofBits .f32 0x00000000#32 = 0 := by simp [Ideal.ofBits, Ideal.ieee]
  refine window_real _ _ _ _ _ _ _ _ h (fun i => ?_) j
  show IsReal (Ideal.ofBits .f32 0x00000000#32)
  rw [hz]
  exact IsReal.zero

/-- The scale is finite. -/
theorem scale_real : IsReal (Ideal.ofBits .f32 0x3DB504F3#32) := by
  simp only [Ideal.ofBits, Ideal.ieee]
  rw [if_neg (by decide), if_neg (by decide)]
  exact (isReal_iff _).2 ⟨_, rfl⟩

/-- A score that is not masked is finite. -/
theorem score_real (Q K : FVec Ideal Cert.KernelIdeal.S8192x1024 .bf16) (N : FVec Ideal Cert.KernelIdeal.S4x8x2048 .f32)
    (hq : ∀ i, IsReal (Q i)) (hk : ∀ i, IsReal (K i)) (hn : ∀ i, IsReal (N i)) (b : Fin 4) (h : Fin 8) (t s : Fin 2048) (hs : s ≤ t) :
    IsReal (rowScore Q K N b h t s) := by
  rw [rowScore, if_pos hs]
  exact ((IsReal.sum _ _ fun d _ => (hq _).mul (hk _)).mul scale_real).add (hn _)

/-- No score is `⊤`. -/
theorem score_ne_top (Q K : FVec Ideal Cert.KernelIdeal.S8192x1024 .bf16) (N : FVec Ideal Cert.KernelIdeal.S4x8x2048 .f32)
    (hq : ∀ i, IsReal (Q i)) (hk : ∀ i, IsReal (K i)) (hn : ∀ i, IsReal (N i)) (b : Fin 4) (h : Fin 8) (t s : Fin 2048) :
    rowScore Q K N b h t s ≠ ⊤ := by
  by_cases hs : s ≤ t
  · exact (score_real Q K N hq hk hn b h t s hs).2
  · rw [rowScore, if_neg hs]; exact bot_ne_top

end Cert.Proof.Finite

end
-- ==== Proof.Final.lean ====
/-
  The kernel's result array is the reference's.
-/
module

public import proofs.«01_k».proof.Proof.State
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Proof.Final

open Cert.KernelIdeal Cert.KernelIdeal.Gen Cert.Proof.Row Cert.Proof.Rows

variable (Q K W : FVec Ideal S8192x1024 .bf16) (G : FVec Ideal S4x2048x8 .f32)

/-- The reference's result over its arguments. -/
def attention : FVec Ideal S8192x1024 .bf16 :=
  Reference.mix (Reference.softmax (Reference.weights (Reference.scores Q K (Reference.cum G)))) W

/-- The reference's score is the kernel's and the query's cumulative gate. -/
theorem scores_shift (N : FVec Ideal S4x8x2048 .f32) (hN : ∀ b h s, N (ix3 b h s) = -Reference.cum G (ix3 b s h))
    (hG : ∀ i, IsReal (G i)) (b : Fin 4) (h : Fin 8) (t s : Fin 2048) :
    Reference.scores Q K (Reference.cum G) (ix4 b h t s) = rowScore Q K N b h t s + Reference.cum G (ix3 b t h) := by
  rw [Reference.scores_at, rowScore, hN]
  split
  · rw [sub_eq_add_neg]
    exact add_right_comm _ _ _
  · exact (EReal.bot_add _).symm

/-- The key biases are finite. -/
theorem bias_real (N : FVec Ideal S4x8x2048 .f32) (hN : ∀ b h s, N (ix3 b h s) = -Reference.cum G (ix3 b s h))
    (hG : ∀ i, IsReal (G i)) (i : S4x8x2048.Idx) : IsReal (N i) := by
  have e : i = ix3 (i 0 : Fin 4) (i 1 : Fin 8) (i 2 : Fin 2048) := by blk_ext
  rw [(congrArg N e).trans (hN _ _ _)]
  exact (Finite.cum_real G hG _).neg

/-- A row's weighted sum of values over its sum of weights, over the keys up to the end of the query's block, is the
    reference's element. -/
theorem row_eq (N : FVec Ideal S4x8x2048 .f32) (hN : ∀ b h s, N (ix3 b h s) = -Reference.cum G (ix3 b s h))
    (hQ : ∀ i, IsReal (Q i)) (hK : ∀ i, IsReal (K i)) (hG : ∀ i, IsReal (G i)) (b : Fin 4) (h : Fin 8) (t : Fin 2048) (e : Fin 128)
    (k : ℕ) (hk : t.val < k) (j : S8192x1024.Idx) (j0 : (j 0 : ℕ) = b * 2048 + t) (j1 : (j 1 : ℕ) = h * 128 + e) :
    Ideal.div (rowAcc (rowScore Q K N b h t) (rowValue W b h e) (seen k)) (rowSum (rowScore Q K N b h t) (seen k))
      = attention Q K W G j := by
  have hn := bias_real G N hN hG
  have hx := Finite.score_ne_top Q K N hQ hK hn b h t
  have h0 : rowScore Q K N b h t 0 ≠ ⊥ := (Finite.score_real Q K N hQ hK hn b h t 0 (Fin.zero_le _)).1
  obtain ⟨hm, ha, hs⟩ := row_mask (rowScore Q K N b h t) (rowValue W b h e) (seen k) Finset.univ (Finset.subset_univ _)
    (fun s _ hs => by
      rw [mem_seen] at hs
      rw [rowScore, if_neg]
      rw [Fin.le_def]; omega)
    (rowMax_seen_real _ hx h0 k (by omega))
  rw [← ha, ← hs, row_finish (rowScore Q K N b h t) (fun s => Reference.scores Q K (Reference.cum G) (ix4 b h t s)) (rowValue W b h e) Finset.univ
    hx (Finset.mem_univ 0) h0 _ (Finite.cum_real G hG (ix3 b t h)) (fun s => scores_shift Q K G N hN hG b h t s)]
  rw [attention, Reference.mix_at _ _ j b h t e j0 j1]
  refine Finset.sum_congr rfl fun s _ => ?_
  rw [Reference.softmax_at, Reference.weights_at, Reference.maxima_at]
  simp only [Reference.weights_at, Reference.maxima_at]
  rfl

variable (m : (ℓ : Loc nD τ sig) → Buf (Elt Ideal) ℓ) (c : Dev nD)

/-- Negated and transposed gates, element by element. -/
theorem neg_at (X : FVec Ideal S4x2048x8 .f32) (b : Fin 4) (h : Fin 8) (s : Fin 2048) :
    (Host.negf (transpose S4x8x2048 [0, 2, 1] X transposes_S4x2048x8_S4x8x2048_0_2_1) : FVec Ideal S4x8x2048 .f32) (ix3 b h s) = -X (ix3 b s h) := by
  pointwise

/-- The key biases the kernel's host computes: the negated cumulative gates. -/
theorem bias_eq (b : Fin 4) (h : Fin 8) (s : Fin 2048) :
    V m c main_v2 (ix3 b h s) = -Reference.cum (m ((c.tc : Thread nD τ).loc main_arg3)) (ix3 b s h) := by
  refine Eq.trans ?_ (neg_at _ b h s)
  refine congrFun ?_ _
  entry_read
  rfl

/-- Where the output window stands at a point. -/
theorem idx_out : ∀ t : Fin cfg0.N, win0_4.index t = ![t.val / 16 * 4 + t.val / 4 % 4, 0] := (by decide +kernel : ∀ t : Fin grid0.N, _)

/-- The row an element of a point's output block has in the array. -/
theorem out_row (t : Fin cfg0.N) (y : S512x1024.Idx) :
    ((((cfg0.win 4).blk t).view.emb y : S8192x1024.Idx) 0 : ℕ) = (t.val / 16 * 4 + t.val / 4 % 4) * 512 + (y 0 : ℕ) := by
  blk_simp [idx_out t]

/-- The column it has. -/
theorem out_col (t : Fin cfg0.N) (y : S512x1024.Idx) :
    ((((cfg0.win 4).blk t).view.emb y : S8192x1024.Idx) 1 : ℕ) = (y 1 : ℕ) := by
  blk_simp [idx_out t]

/-- The array the kernel leaves. -/
theorem array_eq (hQ : ∀ i, IsReal (m ((c.tc : Thread nD τ).loc main_arg0) i)) (hK : ∀ i, IsReal (m ((c.tc : Thread nD τ).loc main_arg1) i))
    (hG : ∀ i, IsReal (m ((c.tc : Thread nD τ).loc main_arg3) i)) :
    (dats m 0 c).arrAt 4 cfg0.N = attention (m ((c.tc : Thread nD τ).loc main_arg0)) (m ((c.tc : Thread nD τ).loc main_arg1))
      (m ((c.tc : Thread nD τ).loc main_arg2)) (m ((c.tc : Thread nD τ).loc main_arg3)) := by
  rw [← V_main_arg0 m c] at hQ
  rw [← V_main_arg1 m c] at hK
  rw [← V_main_arg0 m c, ← V_main_arg1 m c, ← V_main_arg2 m c]
  have hN := bias_eq m c
  have hn := bias_real _ (V m c main_v2) hN hG
  have hx := Finite.score_ne_top (V m c main_arg0) (V m c main_arg1) (V m c main_v2) hQ hK hn
  have h0 : ∀ b h q, rowScore (V m c main_arg0) (V m c main_arg1) (V m c main_v2) b h q 0 ≠ ⊥ := fun b h q =>
    (Finite.score_real _ _ _ hQ hK hn b h q 0 (Fin.zero_le _)).1
  refine (dats m 0 c).arrAt_eq_of_covers 4 _ (by decide +kernel) fun t hf y => ?_
  have h3 : t.val % 4 = 3 := (flush0_4 t).1 hf
  have ht := lt_64 t
  have e0 := out_row t y
  have e1 := out_col t y
  have hy0 : (y 0).val < 512 := (y 0).isLt
  have hy1 : (y 1).val < 1024 := (y 1).isLt
  have hb : (batch t : ℕ) = t.val / 16 := by simp only [batch]; omega
  have hq : (query t ⟨(y 0).val, hy0⟩ : ℕ) = t.val / 4 % 4 * 512 + (y 0).val := rfl
  blk_simp
  rw [after0_4]
  refine (State.out_eq m c t hx h0 h3 y ⟨(y 1).val / 128, by omega⟩ ⟨(y 0).val, hy0⟩ ⟨(y 1).val % 128, by omega⟩ rfl (by simp only; omega)).trans ?_
  refine row_eq (V m c main_arg0) (V m c main_arg1) (V m c main_arg2) _ (V m c main_v2) hN hQ hK hG _ _ _ _ _ (by omega) _ ?_ ?_
  · exact e0.trans (by omega)
  · exact e1.trans (by simp only; omega)

end Cert.Proof.Final

end
-- ==== Proof.MergeValue.lean ====
/-
  The merge of the two attentions and the output projection: the kernel's two results are the reference's, element by element.
-/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.MergeValue

open Cert.MergeIdeal Cert.MergeIdeal.Gen

/-- The gated sum of the two attentions' branch projections, as the reference states it. -/
abbrev gated (OA OB : FVec Ideal S8192x1024 .bf16) (G : FVec Ideal S8192x4096 .f32) (WA WB : FVec Ideal S1024x2048 .f32) : FVec Ideal S8192x2048 .f32 :=
  addf (mulf (extractStridedSlice Cert.MergeReferenceIdeal.S8192x2048 ![0, 0] G Cert.MergeReferenceIdeal.Gen.slices_S8192x4096_S8192x2048_0_0)
      (Host.dotGeneral Cert.MergeReferenceIdeal.dot_S8192x1024_S1024x2048_S8192x2048_1_0_0_1_n_n none (extf .f32 OA Cert.MergeReferenceIdeal.Gen.bitsLt_bf16_f32) WA))
    (mulf (extractStridedSlice Cert.MergeReferenceIdeal.S8192x2048 ![0, 2048] G Cert.MergeReferenceIdeal.Gen.slices_S8192x4096_S8192x2048_0_2048)
      (Host.dotGeneral Cert.MergeReferenceIdeal.dot_S8192x1024_S1024x2048_S8192x2048_1_0_0_1_n_n none (extf .f32 OB Cert.MergeReferenceIdeal.Gen.bitsLt_bf16_f32) WB))

/-- The residual stream after the output projection, as the reference states it. -/
abbrev stream (OA OB : FVec Ideal S8192x1024 .bf16) (G : FVec Ideal S8192x4096 .f32) (X : FVec Ideal S8192x2048 .f32) (WA WB : FVec Ideal S1024x2048 .f32)
    (WO : FVec Ideal S2048x2048 .f32) : FVec Ideal S8192x2048 .f32 :=
  addf X (Host.dotGeneral Cert.MergeReferenceIdeal.dot_S8192x2048_S2048x2048_S8192x2048_1_0_0_1_n_n none (gated OA OB G WA WB) WO)

/-- The root mean square normalisation of the rows of the stream, with a gain, as the reference states it. -/
def normed (S : FVec Ideal S8192x2048 .f32) (G : FVec Ideal S2048 .f32) : FVec Ideal S8192x2048 .bf16 :=
  truncf .bf16 (mulf (mulf S (broadcastInDim Cert.MergeReferenceIdeal.S8192x2048 ![0, 1] Cert.MergeReferenceIdeal.Gen.bcast_S8192x1_S8192x2048_0_1
      (Host.rsqrt (addf (Host.divf (broadcastInDim Cert.MergeReferenceIdeal.S8192x1 ![0] Cert.MergeReferenceIdeal.Gen.bcast_S8192_S8192x1_0
          (Host.reduceAdd (mulf S S) (constant Cert.MergeReferenceIdeal.S_ .f32 0x00000000#32) Cert.MergeReferenceIdeal.Gen.reducesTo_S8192x2048_S8192_d1 Cert.MergeReferenceIdeal.Gen.h_S_))
        (broadcastInDim Cert.MergeReferenceIdeal.S8192x1 ![] Cert.MergeReferenceIdeal.Gen.bcast_S_S8192x1 (constant Cert.MergeReferenceIdeal.S_ .f32 0x45000000#32)))
        (broadcastInDim Cert.MergeReferenceIdeal.S8192x1 ![] Cert.MergeReferenceIdeal.Gen.bcast_S_S8192x1 (constant Cert.MergeReferenceIdeal.S_ .f32 0x358637BD#32))))))
    (broadcastInDim Cert.MergeReferenceIdeal.S8192x2048 ![0, 1] Cert.MergeReferenceIdeal.Gen.bcast_S1x2048_S8192x2048_0_1
      (broadcastInDim Cert.MergeReferenceIdeal.S1x2048 ![1] Cert.MergeReferenceIdeal.Gen.bcast_S2048_S1x2048_1 G))) Cert.MergeReferenceIdeal.Gen.bitsLt_bf16_f32

variable (m : (ℓ : Loc nD τ sig) → Buf (Elt Ideal) ℓ)

/-- Where the windows stand at a point. -/
theorem idx : ∀ t : Fin cfg0.N, win0_0.index t = ![t.val, 0] ∧ win0_1.index t = ![t.val, 0] ∧ win0_2.index t = ![t.val, 0] ∧ win0_3.index t = ![t.val, 1]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] :=
  (by decide +kernel : ∀ t : Fin grid0.N, _)

/-- What a point computes for the residual stream is the reference's at the row and column it stands for. -/
theorem stream_point (c : Dev nD) (t : Fin cfg0.N) (y : S256x2048.Idx) :
    k0_pay2 (F := Ideal) (iblk m c 0 t) (iblk m c 5 t) (iblk m c 1 t) (iblk m c 6 t) (iblk m c 2 t) (iblk m c 3 t) (iblk m c 4 t) (iblk m c 7 t) y
    = stream (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (((cfg0.win 9).blk t).view.emb y) := by
  pointwise [k0_pay2, stream, gated]
  blk_point [iblk, V, idx t]

/-- The residual stream the kernel leaves. -/
theorem stream_eq (c : Dev nD) : (dats m 0 c).arrAt 9 cfg0.N
    = stream (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact stream_point m c t y

/-- An element of a normalised row `x` with gain `g`. -/
def rowNorm (x : Fin 2048 → EReal) (g : EReal) (d : Fin 2048) : EReal :=
  x d * Ideal.rsqrt (Ideal.div (∑ e : Fin 2048, x e * x e) (Ideal.ofBits .f32 0x45000000#32) + Ideal.ofBits .f32 0x358637BD#32) * g

/-- The reference's normalisation at an index. -/
theorem normed_at (S : FVec Ideal S8192x2048 .f32) (G : FVec Ideal S2048 .f32) (r : Fin 8192) (d : Fin 2048) :
    normed S G (ix2 r d) = rowNorm (fun e => S (ix2 r e)) (G (ix1 d)) d := by
  pointwise [normed, rowNorm]

/-- The kernel's normalisation at an index of a block. -/
theorem block_normed (OA OB : FVec Ideal S256x1024 .bf16) (WA WB : FVec Ideal S1024x2048 .bf16) (GA GB X : FVec Ideal S256x2048 .f32) (WO : FVec Ideal S2048x2048 .bf16)
    (G : FVec Ideal S1x2048 .f32) (r : Fin 256) (d : Fin 2048) :
    k0_pay1 (F := Ideal) (k0_pay3 OA WA OB WB GA GB X WO) (k0_pay4 G) (ix2 r d)
    = rowNorm (fun e => k0_pay2 (F := Ideal) OA WA OB WB GA GB X WO (ix2 r e)) (G (ix2 0 d)) d := by
  unfold k0_pay3
  generalize k0_pay2 (F := Ideal) OA WA OB WB GA GB X WO = S
  pointwise [k0_pay1, k0_pay4, rowNorm]

theorem lt_32 (t : Fin cfg0.N) : t.val < 32 := lt_of_lt_of_eq t.isLt N_0

/-- The block of the gain. -/
theorem gain_at (c : Dev nD) (t : Fin cfg0.N) (d : Fin 2048) :
    (iblk m c 8 t : FVec Ideal S1x2048 .f32) (ix2 0 d) = m ((c : Thread nD τ).loc main_arg7) (ix1 d) := by
  have h : (V m c main_v3 : FVec Ideal S1x2048 .f32) (ix2 0 d) = m ((c : Thread nD τ).loc main_arg7) (ix1 d) := by
    entry_read
    pointwise
  refine Eq.trans ?_ h
  show ((cfg0.win 8).blk t).view.read (Elt Ideal) (V m c main_v3) _ = _
  generalize V m c main_v3 = N
  blk_ext [idx t]

/-- The normalised stream the kernel leaves. -/
theorem normed_eq (c : Dev nD) : (dats m 0 c).arrAt 10 cfg0.N
    = normed (stream (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))) (m ((c : Thread nD τ).loc main_arg7)) := by
  refine (dats m 0 c).arrAt_eq_of_covers 10 _ (by decide +kernel) fun t _ y => ?_
  have hs := stream_point m c t
  generalize stream (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) = S at hs ⊢
  have ht := lt_32 t
  have hy0 : (y 0).val < 256 := (y 0).isLt
  have hy1 : (y 1).val < 2048 := (y 1).isLt
  have e : (((cfg0.win 10).blk t).view.emb y : S8192x2048.Idx) = ix2 ⟨t.val * 256 + (y 0).val, by omega⟩ ⟨(y 1).val, hy1⟩ := by
    blk_ext [idx t]
  have e9 : ∀ d : Fin 2048, (((cfg0.win 9).blk t).view.emb (ix2 ⟨(y 0).val, hy0⟩ d : S256x2048.Idx) : S8192x2048.Idx) = ix2 ⟨t.val * 256 + (y 0).val, by omega⟩ d := fun d => by
    blk_ext [idx t]
  have ey : y = (ix2 ⟨(y 0).val, hy0⟩ ⟨(y 1).val, hy1⟩ : S256x2048.Idx) := by blk_ext
  blk_simp
  rw [after0_10]; frame_out
  refine Eq.trans ?_ (congrArg (normed S _) e.symm)
  refine Eq.trans ?_ (normed_at _ _ _ _).symm
  refine (congrArg _ ey).trans ((block_normed _ _ _ _ _ _ _ _ _ _ _).trans ?_)
  rw [gain_at m c t]
  refine congrArg (fun x => rowNorm x _ _) (funext fun d => (hs _).trans (congrArg S (e9 d)))

end Cert.Proof.MergeValue

end
-- ==== Proof.GateValue.lean ====
/-
  The gates' projection: the kernel's result is the reference's, element by element.
-/
module

public import proofs.«01_k».proof.Proof.Gen.GatesIdeal.Value
public import proofs.«01_k».proof.Proof.Gen.GatesReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.GateValue

open Cert.GatesIdeal Cert.GatesIdeal.Gen

/-- The reference's gates: the logistic function of the projection and its bias. -/
abbrev gate (H : FVec Ideal S8192x2048 .bf16) (W : FVec Ideal S2048x4096 .f32) (B : FVec Ideal S2x2048 .f32) : FVec Ideal S8192x4096 .f32 :=
  Host.divf (broadcastInDim Cert.GatesReferenceIdeal.S8192x4096 ![] Cert.GatesReferenceIdeal.Gen.bcast_S_S8192x4096 (constant Cert.GatesReferenceIdeal.S_ .f32 0x3F800000#32))
    (addf (broadcastInDim Cert.GatesReferenceIdeal.S8192x4096 ![] Cert.GatesReferenceIdeal.Gen.bcast_S_S8192x4096 (constant Cert.GatesReferenceIdeal.S_ .f32 0x3F800000#32))
      (Host.exp (Host.negf (addf (Host.dotGeneral Cert.GatesReferenceIdeal.dot_S8192x2048_S2048x4096_S8192x4096_1_0_0_1_n_n none (extf .f32 H Cert.GatesReferenceIdeal.Gen.bitsLt_bf16_f32) W)
        (broadcastInDim Cert.GatesReferenceIdeal.S8192x4096 ![0, 1] Cert.GatesReferenceIdeal.Gen.bcast_S1x4096_S8192x4096_0_1
          (broadcastInDim Cert.GatesReferenceIdeal.S1x4096 ![1] Cert.GatesReferenceIdeal.Gen.bcast_S4096_S1x4096_1 (shapeCast _ B Cert.GatesReferenceIdeal.Gen.shapeCasts_S2x2048_S4096)))))))

variable (m : (ℓ : Loc nD τ sig) → Buf (Elt Ideal) ℓ)

/-- Where the windows stand at a point. -/
theorem idx : ∀ t : Fin cfg0.N, win0_0.index t = ![t.val / 4, 0] ∧ win0_1.index t = ![0, t.val % 4] ∧ win0_2.index t = ![0, t.val % 4] ∧ win0_3.index t = ![t.val / 4, t.val % 4] :=
  (by decide +kernel : ∀ t : Fin grid0.N, _)

/-- A product and its bias at an index of a block, the bias a row: the arithmetic of every piece. -/
def blockGate (H : FVec Ideal S1024x2048 .bf16) (W : FVec Ideal S2048x1024 .bf16) (B : FVec Ideal S1x1024 .f32) : FVec Ideal S1024x1024 .f32 := fun i =>
  Ideal.logistic ((∑ d : Fin 2048, H (ix2 (i 0 : Fin 1024) d) * W (ix2 d (i 1 : Fin 1024))) + B (ix2 0 (i 1 : Fin 1024)))

/-- What a point leaves in its block of the result. -/
theorem out_at (H : FVec Ideal S1024x2048 .bf16) (W : FVec Ideal S2048x1024 .bf16) (B : FVec Ideal S1x1024 .f32) (y : S1024x1024.Idx) :
    out0_3 (F := Ideal) H W B y = blockGate H W B y := by
  unfold out0_3
  canon_tiles x h
  all_goals (open_payloads; pointwise [blockGate])
  all_goals (blk_point [])

/-- The reference at an index. -/
theorem gate_at (H : FVec Ideal S8192x2048 .bf16) (W : FVec Ideal S2048x4096 .f32) (B : FVec Ideal S2x2048 .f32) (r : Fin 8192) (e : Fin 4096) :
    gate H W B (ix2 r e) = Ideal.logistic ((∑ d : Fin 2048, H (ix2 r d) * W (ix2 d e)) + B (ix2 ⟨e / 2048, by omega⟩ ⟨e % 2048, by omega⟩)) := by
  pointwise [gate]
  rfl

theorem lt_32 (t : Fin cfg0.N) : t.val < 32 := lt_of_lt_of_eq t.isLt N_0

/-- A block of the normalised rows. -/
theorem rows_at (c : Dev nD) (t : Fin cfg0.N) (r : Fin 1024) (d : Fin 2048) :
    (iblk m c 0 t : FVec Ideal S1024x2048 .bf16) (ix2 r d) = m ((c : Thread nD τ).loc main_arg0) (ix2 ⟨t.val / 4 * 1024 + r, by have := lt_32 t; omega⟩ d) := by
  blk_ext [iblk, V, idx t]

/-- A block of the weights. -/
theorem cols_at (c : Dev nD) (t : Fin cfg0.N) (d : Fin 2048) (e : Fin 1024) :
    (iblk m c 1 t : FVec Ideal S2048x1024 .bf16) (ix2 d e) = m ((c : Thread nD τ).loc main_arg1) (ix2 d ⟨t.val % 4 * 1024 + e, by omega⟩) := by
  have h : V m c main_v0 = m ((c : Thread nD τ).loc main_arg1) := by entry_read; rfl
  show ((cfg0.win 1).blk t).view.read (Elt Ideal) (V m c main_v0) _ = _
  rw [h]
  generalize m ((c : Thread nD τ).loc main_arg1) = N
  blk_ext [idx t]

/-- A block of the bias. -/
theorem bias_at (c : Dev nD) (t : Fin cfg0.N) (e : Fin 1024) :
    (iblk m c 2 t : FVec Ideal S1x1024 .f32) (ix2 0 e)
    = m ((c : Thread nD τ).loc main_arg2) (ix2 ⟨(t.val % 4 * 1024 + e) / 2048, by omega⟩ ⟨(t.val % 4 * 1024 + e) % 2048, by omega⟩) := by
  have h : (V m c main_v1 : FVec Ideal S1x4096 .f32) (ix2 0 ⟨t.val % 4 * 1024 + e, by omega⟩)
      = m ((c : Thread nD τ).loc main_arg2) (ix2 ⟨(t.val % 4 * 1024 + e) / 2048, by omega⟩ ⟨(t.val % 4 * 1024 + e) % 2048, by omega⟩) := by
    entry_read
    pointwise
  refine Eq.trans ?_ h
  show ((cfg0.win 2).blk t).view.read (Elt Ideal) (V m c main_v1) _ = _
  generalize V m c main_v1 = N
  blk_ext [idx t]

/-- What a point leaves is the reference's at the row and column it stands for. -/
theorem point (c : Dev nD) (t : Fin cfg0.N) (y : S1024x1024.Idx) :
    out0_3 (F := Ideal) (iblk m c 0 t) (iblk m c 1 t) (iblk m c 2 t) y
    = gate (m ((c : Thread nD τ).loc main_arg0)) (m ((c : Thread nD τ).loc main_arg1)) (m ((c : Thread nD τ).loc main_arg2)) (((cfg0.win 3).blk t).view.emb y) := by
  have ht := lt_32 t
  have hy0 : (y 0).val < 1024 := (y 0).isLt
  have hy1 : (y 1).val < 1024 := (y 1).isLt
  have e : (((cfg0.win 3).blk t).view.emb y : S8192x4096.Idx) = ix2 ⟨t.val / 4 * 1024 + (y 0).val, by omega⟩ ⟨t.val % 4 * 1024 + (y 1).val, by omega⟩ := by
    blk_ext [idx t]
  refine Eq.trans ?_ (congrArg (gate _ _ _) e.symm)
  refine Eq.trans ?_ (gate_at _ _ _ _ _).symm
  refine (out_at _ _ _ y).trans ?_
  simp only [blockGate]
  refine congrArg Ideal.logistic (congrArg₂ (· + ·) (Finset.sum_congr rfl fun d _ => congrArg₂ (· * ·) (rows_at m c t _ _) (cols_at m c t _ _)) (bias_at m c t _))

/-- The gates the kernel leaves. -/
theorem gate_eq (c : Dev nD) : (dats m 0 c).arrAt 3 cfg0.N
    = gate (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Proof.GateValue

end
-- ==== Proof.IndexValue.lean ====
/-
  The indexer queries' projection: the kernel's result is the reference's, element by element.
-/
module

public import proofs.«01_k».proof.Proof.Gen.IndexIdeal.Value
public import proofs.«01_k».proof.Proof.Gen.IndexReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.IndexValue

open Cert.IndexIdeal Cert.IndexIdeal.Gen

/-- The reference's indexer queries: the product with the weights. -/
abbrev index (H : FVec Ideal S8192x2048 .bf16) (W : FVec Ideal S2048x1024 .f32) : FVec Ideal S8192x1024 .bf16 :=
  truncf .bf16 (Host.dotGeneral Cert.IndexReferenceIdeal.dot_S8192x2048_S2048x1024_S8192x1024_1_0_0_1_n_n none (extf .f32 H Cert.IndexReferenceIdeal.Gen.bitsLt_bf16_f32) W) Cert.IndexReferenceIdeal.Gen.bitsLt_bf16_f32

variable (m : (ℓ : Loc nD τ sig) → Buf (Elt Ideal) ℓ)

/-- Where the windows stand at a point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The product at an index of a block: the arithmetic of every piece. -/
def blockIndex (H : FVec Ideal S1024x2048 .bf16) (W : FVec Ideal S2048x1024 .bf16) : FVec Ideal S1024x1024 .bf16 := fun i =>
  ∑ d : Fin 2048, H (ix2 (i 0 : Fin 1024) d) * W (ix2 d (i 1 : Fin 1024))

/-- What a point leaves in its block of the result. -/
theorem out_at (H : FVec Ideal S1024x2048 .bf16) (W : FVec Ideal S2048x1024 .bf16) (B : FVec Ideal S1x1024 .f32) (y : S1024x1024.Idx) :
    out0_3 (F := Ideal) H W B y = blockIndex H W y := by
  unfold out0_3
  canon_tiles x h
  all_goals (open_payloads; pointwise [blockIndex])
  all_goals (blk_point [])

/-- What a point leaves is the reference's at the row and column it stands for. -/
theorem point (c : Dev nD) (t : Fin cfg0.N) (y : S1024x1024.Idx) :
    out0_3 (F := Ideal) (iblk m c 0 t) (iblk m c 1 t) (iblk m c 2 t) y
    = index (m ((c : Thread nD τ).loc main_arg0)) (m ((c : Thread nD τ).loc main_arg1)) (((cfg0.win 3).blk t).view.emb y) := by
  rw [out_at]
  pointwise [blockIndex, index]
  blk_point [iblk, V, idx t]

/-- The indexer queries the kernel leaves. -/
theorem index_eq (c : Dev nD) : (dats m 0 c).arrAt 3 cfg0.N
    = index (m ((c : Thread nD τ).loc main_arg0)) (m ((c : Thread nD τ).loc main_arg1)) := by
  refine (dats m 0 c).arrAt_eq_of_covers 3 _ (by decide +kernel) fun t _ y => ?_
  blk_simp
  rw [after0_3]
  exact point m c t y

end Cert.Proof.IndexValue

end
-- ==== Proof.SmallValue.lean ====
/-
  The small projections: the indexer's keys, its weights of the heads and the forget gates' logarithms, side by side. The kernel's
  result is the reference's, element by element.
-/
module

public import proofs.«01_k».proof.Proof.Gen.SmallIdeal.Value
public import proofs.«01_k».proof.Proof.Gen.SmallReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.SmallValue

open Cert.SmallIdeal Cert.SmallIdeal.Gen

/-- The logarithm of the logistic function, as the reference states it. -/
abbrev logSigmoid (X : FVec Ideal Cert.SmallReferenceIdeal.S8192x8 .f32) : FVec Ideal Cert.SmallReferenceIdeal.S8192x8 .f32 :=
  Host.negf (select (cmpf .une (subf (Host.negf X) (broadcastInDim Cert.SmallReferenceIdeal.S8192x8 ![] Cert.SmallReferenceIdeal.Gen.bcast_S_S8192x8 (constant Cert.SmallReferenceIdeal.S_ .f32 0x00000000#32))) (subf (Host.negf X) (broadcastInDim Cert.SmallReferenceIdeal.S8192x8 ![] Cert.SmallReferenceIdeal.Gen.bcast_S_S8192x8 (constant Cert.SmallReferenceIdeal.S_ .f32 0x00000000#32))))
    (addf (Host.negf X) (broadcastInDim Cert.SmallReferenceIdeal.S8192x8 ![] Cert.SmallReferenceIdeal.Gen.bcast_S_S8192x8 (constant Cert.SmallReferenceIdeal.S_ .f32 0x00000000#32)))
    (addf (maximumf (Host.negf X) (broadcastInDim Cert.SmallReferenceIdeal.S8192x8 ![] Cert.SmallReferenceIdeal.Gen.bcast_S_S8192x8 (constant Cert.SmallReferenceIdeal.S_ .f32 0x00000000#32))) (Host.log1p (Host.exp (Host.negf (Host.absf (subf (Host.negf X) (broadcastInDim Cert.SmallReferenceIdeal.S8192x8 ![] Cert.SmallReferenceIdeal.Gen.bcast_S_S8192x8 (constant Cert.SmallReferenceIdeal.S_ .f32 0x00000000#32)))))))))

/-- The three projections side by side, as the reference states them. -/
abbrev small (H : FVec Ideal S8192x2048 .bf16) (W1 : FVec Ideal S2048x64 .f32) (W2 : FVec Ideal S2048x16 .f32) (W3 : FVec Ideal S2048x8 .f32) (B : FVec Ideal S8 .f32) : FVec Ideal S8192x128 .f32 :=
  concatenate Cert.SmallReferenceIdeal.S8192x128 1 [⟨Cert.SmallReferenceIdeal.S8192x64, (Host.dotGeneral Cert.SmallReferenceIdeal.dot_S8192x2048_S2048x64_S8192x64_1_0_0_1_n_n none (extf .f32 H Cert.SmallReferenceIdeal.Gen.bitsLt_bf16_f32) W1 : FVec Ideal Cert.SmallReferenceIdeal.S8192x64 .f32)⟩,
    ⟨Cert.SmallReferenceIdeal.S8192x16, (Host.dotGeneral Cert.SmallReferenceIdeal.dot_S8192x2048_S2048x16_S8192x16_1_0_0_1_n_n none (extf .f32 H Cert.SmallReferenceIdeal.Gen.bitsLt_bf16_f32) W2 : FVec Ideal Cert.SmallReferenceIdeal.S8192x16 .f32)⟩,
    ⟨Cert.SmallReferenceIdeal.S8192x8, logSigmoid (addf (Host.dotGeneral Cert.SmallReferenceIdeal.dot_S8192x2048_S2048x8_S8192x8_1_0_0_1_n_n none (extf .f32 H Cert.SmallReferenceIdeal.Gen.bitsLt_bf16_f32) W3)
      (broadcastInDim Cert.SmallReferenceIdeal.S8192x8 ![0, 1] Cert.SmallReferenceIdeal.Gen.bcast_S1x8_S8192x8_0_1 (broadcastInDim Cert.SmallReferenceIdeal.S1x8 ![1] Cert.SmallReferenceIdeal.Gen.bcast_S8_S1x8_1 B)))⟩,
    ⟨Cert.SmallReferenceIdeal.S8192x40, (broadcastInDim Cert.SmallReferenceIdeal.S8192x40 ![] Cert.SmallReferenceIdeal.Gen.bcast_S_S8192x40 (constant Cert.SmallReferenceIdeal.S_ .f32 0x00000000#32) : FVec Ideal Cert.SmallReferenceIdeal.S8192x40 .f32)⟩]
    Cert.SmallReferenceIdeal.Gen.concatenates_S8192x64_S8192x16_S8192x8_S8192x40_S8192x128_d1

/-- The logarithm of the logistic function at a number. -/
def lsig (z : EReal) : EReal := min z 0 - Ideal.log (1 + Ideal.exp (0 - max z (-z)))

theorem log_one_add_exp (w : EReal) : Ideal.log (1 + Ideal.exp w) ≠ ⊥ := by
  induction w with
  | bot => rw [show Ideal.exp ⊥ = ((0 : ℝ) : EReal) from rfl, show (1 : EReal) + ((0 : ℝ) : EReal) = ((1 : ℝ) : EReal) from add_zero _, Ideal.log_coe, if_neg (by norm_num)]
           exact EReal.coe_ne_bot _
  | coe r => rw [Ideal.exp_coe, show (1 : EReal) + ((Real.exp r : ℝ) : EReal) = ((1 + Real.exp r : ℝ) : EReal) from rfl, Ideal.log_coe,
               if_neg (by have := Real.exp_pos r; linarith)]
             exact EReal.coe_ne_bot _
  | top => rw [show Ideal.exp ⊤ = ⊤ from rfl, show (1 : EReal) + ⊤ = ⊤ from rfl, show Ideal.log ⊤ = ⊤ from rfl]
           exact top_ne_bot

/-- The reference's form of it is the kernel's. -/
theorem lsig_eq (z : EReal) : -(max (-z) 0 + Ideal.log1p (Ideal.exp (-max (-z) (- -z)))) = lsig z := by
  show -(max (-z) 0 + Ideal.log (1 + Ideal.exp (-max (-z) (- -z)))) = lsig z
  have hm : max (-z) 0 ≠ ⊥ := ne_of_gt (lt_of_lt_of_le EReal.bot_lt_zero (le_max_right _ _))
  rw [EReal.neg_add (Or.inl hm) (Or.inr (log_one_add_exp _)), neg_neg, max_comm (-z) z]
  unfold lsig
  rw [zero_sub]
  refine congrArg (· - _) ?_
  rcases le_total z 0 with h | h
  · rw [min_eq_left h, max_eq_left (by simpa using EReal.neg_le_neg_iff.mpr h), neg_neg]
  · rw [min_eq_right h, max_eq_right (by simpa using EReal.neg_le_neg_iff.mpr h), neg_zero]

theorem logSigmoid_at (X : FVec Ideal Cert.SmallReferenceIdeal.S8192x8 .f32) (r : Fin 8192) (e : Fin 8) : logSigmoid X (ix2 r e) = lsig (X (ix2 r e)) := by
  refine Eq.trans ?_ (lsig_eq _)
  pointwise [logSigmoid]
  rw [if_neg (by simp)]
  rfl

/-- The columns of the weights, side by side. -/
def weightAt (W1 : FVec Ideal S2048x64 .f32) (W2 : FVec Ideal S2048x16 .f32) (W3 : FVec Ideal S2048x8 .f32) (d : Fin 2048) (e : Fin 128) : EReal :=
  if h : e.val < 64 then W1 (ix2 d ⟨e.val, h⟩) else if h' : e.val < 80 then W2 (ix2 d ⟨e.val - 64, by omega⟩)
    else if h'' : e.val < 88 then W3 (ix2 d ⟨e.val - 80, by omega⟩) else 0

/-- The bias, on the columns of the forget gates alone. -/
def biasAt (B : FVec Ideal S8 .f32) (e : Fin 128) : EReal :=
  if h : 80 ≤ e.val ∧ e.val < 88 then B (ix1 ⟨e.val - 80, by omega⟩) else 0

/-- An element of the result. -/
def smallAt (H : FVec Ideal S8192x2048 .bf16) (W1 : FVec Ideal S2048x64 .f32) (W2 : FVec Ideal S2048x16 .f32) (W3 : FVec Ideal S2048x8 .f32) (B : FVec Ideal S8 .f32) (r : Fin 8192) (e : Fin 128) : EReal :=
  if 80 ≤ e.val ∧ e.val < 88 then lsig ((∑ d : Fin 2048, H (ix2 r d) * weightAt W1 W2 W3 d e) + biasAt B e) else ∑ d : Fin 2048, H (ix2 r d) * weightAt W1 W2 W3 d e

/-- The reference at an index. -/
theorem small_at (H : FVec Ideal S8192x2048 .bf16) (W1 : FVec Ideal S2048x64 .f32) (W2 : FVec Ideal S2048x16 .f32) (W3 : FVec Ideal S2048x8 .f32) (B : FVec Ideal S8 .f32) (r : Fin 8192) (e : Fin 128) : small H W1 W2 W3 B (ix2 r e) = smallAt H W1 W2 W3 B r e := by
  have L := logSigmoid_at (addf (Host.dotGeneral Cert.SmallReferenceIdeal.dot_S8192x2048_S2048x8_S8192x8_1_0_0_1_n_n none (extf .f32 H Cert.SmallReferenceIdeal.Gen.bitsLt_bf16_f32) W3)
      (broadcastInDim Cert.SmallReferenceIdeal.S8192x8 ![0, 1] Cert.SmallReferenceIdeal.Gen.bcast_S1x8_S8192x8_0_1 (broadcastInDim Cert.SmallReferenceIdeal.S1x8 ![1] Cert.SmallReferenceIdeal.Gen.bcast_S8_S1x8_1 B))) r
  unfold small
  generalize logSigmoid _ = Y at L ⊢
  pointwise [small] at L ⊢
  unfold smallAt
  by_cases h1 : e.val < 64
  · rw [dif_pos h1, if_neg (show ¬ (80 ≤ e.val ∧ e.val < 88) by omega)]
    exact Finset.sum_congr rfl fun d _ => by rw [weightAt, dif_pos h1]
  · rw [dif_neg h1]
    by_cases h2 : e.val < 80
    · rw [dif_pos (show e.val - 64 < 16 by omega), if_neg (show ¬ (80 ≤ e.val ∧ e.val < 88) by omega)]
      exact Finset.sum_congr rfl fun d _ => by rw [weightAt, dif_neg h1, dif_pos h2]
    · rw [dif_neg (show ¬ e.val - 64 < 16 by omega)]
      by_cases h3 : e.val < 88
      · have he : (⟨e.val - 64 - 16, by omega⟩ : Fin 8) = ⟨e.val - 80, by omega⟩ := Fin.ext (show e.val - 64 - 16 = e.val - 80 by omega)
        rw [dif_pos (show e.val - 64 - 16 < 8 by omega), L, if_pos (show 80 ≤ e.val ∧ e.val < 88 by omega), he, biasAt, dif_pos (show 80 ≤ e.val ∧ e.val < 88 by omega)]
        refine congrArg (fun S => lsig (S + _)) (Finset.sum_congr rfl fun d _ => ?_)
        rw [weightAt, dif_neg h1, dif_neg h2, dif_pos h3]
      · rw [dif_neg (show ¬ e.val - 64 - 16 < 8 by omega), if_neg (show ¬ (80 ≤ e.val ∧ e.val < 88) by omega)]
        refine (Finset.sum_eq_zero fun d _ => ?_).symm
        rw [weightAt, dif_neg h1, dif_neg h2, dif_neg h3, mul_zero]

/-- The weights side by side, as the kernel has them. -/
abbrev weights (W1 : FVec Ideal S2048x64 .f32) (W2 : FVec Ideal S2048x16 .f32) (W3 : FVec Ideal S2048x8 .f32) : FVec Ideal S2048x128 .bf16 :=
  truncf .bf16 (concatenate S2048x128 1 [⟨S2048x64, W1⟩, ⟨S2048x16, W2⟩, ⟨S2048x8, W3⟩,
    ⟨S2048x40, (broadcastInDim S2048x40 ![] bcast_S_S2048x40 (constant S_ .f32 0x00000000#32) : FVec Ideal S2048x40 .f32)⟩]
    concatenates_S2048x64_S2048x16_S2048x8_S2048x40_S2048x128_d1) bitsLt_bf16_f32

/-- The bias between zeros, as the kernel has it. -/
abbrev bias (B : FVec Ideal S8 .f32) : FVec Ideal S1x128 .f32 :=
  broadcastInDim S1x128 ![1] bcast_S128_S1x128_1 (concatenate S128 0 [⟨S80, (broadcastInDim S80 ![] bcast_S_S80 (constant S_ .f32 0x00000000#32) : FVec Ideal S80 .f32)⟩,
    ⟨S8, B⟩, ⟨S40, (broadcastInDim S40 ![] bcast_S_S40 (constant S_ .f32 0x00000000#32) : FVec Ideal S40 .f32)⟩] concatenates_S80_S8_S40_S128_d0)

theorem weights_at (W1 : FVec Ideal S2048x64 .f32) (W2 : FVec Ideal S2048x16 .f32) (W3 : FVec Ideal S2048x8 .f32) (d : Fin 2048) (e : Fin 128) :
    weights W1 W2 W3 (ix2 d e) = weightAt W1 W2 W3 d e := by
  pointwise
  unfold weightAt
  by_cases h1 : e.val < 64
  · rw [dif_pos h1, dif_pos h1]
  · rw [dif_neg h1, dif_neg h1]
    by_cases h2 : e.val < 80
    · rw [dif_pos (show e.val - 64 < 16 by omega), dif_pos h2]
    · rw [dif_neg (show ¬ e.val - 64 < 16 by omega), dif_neg h2]
      by_cases h3 : e.val < 88
      · have he : (⟨e.val - 64 - 16, by omega⟩ : Fin 8) = ⟨e.val - 80, by omega⟩ := Fin.ext (show e.val - 64 - 16 = e.val - 80 by omega)
        rw [dif_pos (show e.val - 64 - 16 < 8 by omega), dif_pos h3, he]
      · rw [dif_neg (show ¬ e.val - 64 - 16 < 8 by omega), dif_neg h3]

theorem bias_at_col (B : FVec Ideal S8 .f32) (e : Fin 128) : bias B (ix2 0 e) = biasAt B e := by
  pointwise
  unfold biasAt
  by_cases h2 : e.val < 80
  · rw [dif_pos h2, dif_neg (show ¬ (80 ≤ e.val ∧ e.val < 88) by omega)]
  · rw [dif_neg h2]
    by_cases h3 : e.val < 88
    · rw [dif_pos (show e.val - 80 < 8 by omega), dif_pos (show 80 ≤ e.val ∧ e.val < 88 by omega)]
    · rw [dif_neg (show ¬ e.val - 80 < 8 by omega), dif_neg (show ¬ (80 ≤ e.val ∧ e.val < 88) by omega)]

/-- Which columns the forget gates are. -/
theorem gate_columns : ∀ e : Fin 128, IntOp.andi (IntOp.cmpi CmpIPredicate.sge (BitVec.ofNat 32 e.val) 80#32) (IntOp.cmpi CmpIPredicate.slt (BitVec.ofNat 32 e.val) 88#32)
    = if 80 ≤ e.val ∧ e.val < 88 then 1#1 else 0#1 := by decide +kernel

/-- A point's result at an index of its block. -/
theorem out_at (H : FVec Ideal S1024x2048 .bf16) (W : FVec Ideal S2048x128 .bf16) (B : FVec Ideal S1x128 .f32) (r : Fin 1024) (e : Fin 128) :
    k0_pay1 (F := Ideal) H W B (ix2 r e)
    = if 80 ≤ e.val ∧ e.val < 88 then lsig ((∑ d : Fin 2048, H (ix2 r d) * W (ix2 d e)) + B (ix2 0 e)) else ∑ d : Fin 2048, H (ix2 r d) * W (ix2 d e) := by
  pointwise [k0_pay1]
  rw [gate_columns e]
  split
  · rfl
  · rfl

variable (m : (ℓ : Loc nD τ sig) → Buf (Elt Ideal) ℓ)

/-- Where the windows stand at a point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem lt_8 (t : Fin cfg0.N) : t.val < 8 := lt_of_lt_of_eq t.isLt N_0

/-- A block of the rows. -/
theorem rows_at (c : Dev nD) (t : Fin cfg0.N) (r : Fin 1024) (d : Fin 2048) :
    (iblk m c 0 t : FVec Ideal S1024x2048 .bf16) (ix2 r d) = m ((c : Thread nD τ).loc main_arg0) (ix2 ⟨t.val * 1024 + r.val, by have := lt_8 t; omega⟩ d) := by
  blk_ext [iblk, V, idx t]

/-- The weights at every point. -/
theorem cols_at (c : Dev nD) (t : Fin cfg0.N) (d : Fin 2048) (e : Fin 128) :
    (iblk m c 1 t : FVec Ideal S2048x128 .bf16) (ix2 d e) = weightAt (m ((c : Thread nD τ).loc main_arg1)) (m ((c : Thread nD τ).loc main_arg2)) (m ((c : Thread nD τ).loc main_arg3)) d e := by
  refine Eq.trans ?_ (weights_at (m ((c : Thread nD τ).loc main_arg1)) (m ((c : Thread nD τ).loc main_arg2)) (m ((c : Thread nD τ).loc main_arg3)) d e)
  have h : V m c main_v2 = weights (m ((c : Thread nD τ).loc main_arg1)) (m ((c : Thread nD τ).loc main_arg2)) (m ((c : Thread nD τ).loc main_arg3)) := rfl
  show ((cfg0.win 1).blk t).view.read (Elt Ideal) (V m c main_v2) _ = _
  rw [h]
  generalize weights (m ((c : Thread nD τ).loc main_arg1)) (m ((c : Thread nD τ).loc main_arg2)) (m ((c : Thread nD τ).loc main_arg3)) = N
  blk_ext [idx t]

/-- The bias at every point. -/
theorem bias_at (c : Dev nD) (t : Fin cfg0.N) (e : Fin 128) :
    (iblk m c 2 t : FVec Ideal S1x128 .f32) (ix2 0 e) = biasAt (m ((c : Thread nD τ).loc main_arg4)) e := by
  refine Eq.trans ?_ (bias_at_col (m ((c : Thread nD τ).loc main_arg4)) e)
  have h : V m c main_v6 = bias (m ((c : Thread nD τ).loc main_arg4)) := rfl
  show ((cfg0.win 2).blk t).view.read (Elt Ideal) (V m c main_v6) _ = _
  rw [h]
  generalize bias (m ((c : Thread nD τ).loc main_arg4)) = N
  blk_ext [idx t]

/-- The projections that the kernel leaves. -/
theorem small_eq (c : Dev nD) : (dats m 0 c).arrAt 3 cfg0.N = small (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  have ht := lt_8 t
  have hy0 : (y 0).val < 1024 := (y 0).isLt
  have hy1 : (y 1).val < 128 := (y 1).isLt
  have e : (((cfg0.win 3).blk t).view.emb y : S8192x128.Idx) = ix2 ⟨t.val * 1024 + (y 0).val, by omega⟩ ⟨(y 1).val, hy1⟩ := by
    blk_ext [idx t]
  have ey : y = (ix2 ⟨(y 0).val, hy0⟩ ⟨(y 1).val, hy1⟩ : S1024x128.Idx) := by blk_ext
  blk_simp
  rw [after0_3]; frame_out
  refine Eq.trans ?_ (congrArg (small (m ((c : Thread nD τ).loc main_arg0)) (m ((c : Thread nD τ).loc main_arg1)) (m ((c : Thread nD τ).loc main_arg2)) (m ((c : Thread nD τ).loc main_arg3)) (m ((c : Thread nD τ).loc main_arg4))) e.symm)
  refine Eq.trans ?_ (small_at (m ((c : Thread nD τ).loc main_arg0)) (m ((c : Thread nD τ).loc main_arg1)) (m ((c : Thread nD τ).loc main_arg2)) (m ((c : Thread nD τ).loc main_arg3)) (m ((c : Thread nD τ).loc main_arg4)) _ _).symm
  refine (congrArg _ ey).trans ((out_at _ _ _ _ _).trans ?_)
  unfold smallAt
  rw [bias_at m c t]
  have hs := fun j : Fin 128 => Finset.sum_congr (rfl : (Finset.univ : Finset (Fin 2048)) = _) fun d _ => congrArg₂ (fun a b : EReal => a * b) (rows_at m c t ⟨(y 0).val, hy0⟩ d) (cols_at m c t d j)
  dsimp only at hs ⊢
  rw [hs]

end Cert.Proof.SmallValue

end
-- ==== Proof.QkvIdealFrame.Runs.lean ====
/-
  The frame of the projection to queries, keys and values, its first part: the host operations before the region, the windows'
  blocks, the branch conditions of the body in closed form over the grid's points, and where the windows are idle. Of the three
  branches a point takes one: the first writes the queries, the second the keys, the third the values.
-/
module

public import proofs.«01_k».proof.Proof.Gen.QkvIdeal.Launch
public import proofs.«01_k».proof.Proof.Gen.QkvIdeal.Skeleton
public import proofs.«01_k».proof.Proof.Gen.QkvIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by the library's
    `Dat.arrAt_in`, an array no window stages by the post's second clause, each then by `V_…` — is the frame
    claim's post (`Cert.frame_QkvIdeal`, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 3) — by arithmetic of the point. -/
theorem hcond0_0 : ∀ t : Fin cfg0.N, cond0_0 (grid0.coords t) ↔ t.val % 3 = 0 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the points ≡ 1 (mod 3) — by arithmetic of the point. -/
theorem hcond0_1 : ∀ t : Fin cfg0.N, cond0_1 (grid0.coords t) ↔ t.val % 3 = 1 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 1)

/-- The condition of the body's `scf.if` 2 (`k0_h3`), from the grid coordinates (the skeleton's scalar
    chain substituted). -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 24 := Nat.lt_of_lt_of_eq t.isLt N_0
    have e0 : (grid0.coords t 0).val = t.val / 3 % 8 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a
    bitmask, bit `n` for position `n + 1`; position 0 is fresh. `freshTab0_3_step` checks it against the configuration's own
    step point by point and `Cfg.fresh_tab` makes it `Cfg.fresh` (`fresh0_3_eq`). -/
def freshTab0_3 : ℕ → Bool
  | 0 => true
  | n + 1 => (0x924924 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → ¬cond0_2 (grid0.coords t) → cfg0.idle 3 (grid0.coords t) = false := by decide +kernel
/-- At the points of case B the printed configuration (`Cfg.idle`) calls output 3 idle: the case stores nothing into it. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration (`Cfg.idle`) calls output 3 idle: the case stores nothing into it. -/
theorem idleAt0_3_C : ∀ t : Fin cfg0.N, ¬cond0_0 (grid0.coords t) → ¬cond0_1 (grid0.coords t) → cond0_2 (grid0.coords t) → cfg0.idle 3 (grid0.coords t) = true := by decide +kernel
/-- At the points of case C the pipeline writes output 3's block back. -/
theorem flushAt0_3_C : ∀ t : Fin cfg0.N, ¬cond0_0 (grid0.coords t) → ¬cond0_1 (grid0.coords t) → cond0_2 (grid0.coords t) → (cfg0.win 3).flush t = true := by decide +kernel
/-- At the points of case C, which keeps output 3's prior contents (reads it before covering, or covers it in part), the
    window's buffer is not FRESH: something was stored into it since the region's entry or its last write-back, idle points
    between or not (`Cfg.fresh`, by the table `freshTab0_3`). -/
theorem notFresh0_3_C : ∀ t : Fin cfg0.N, ¬cond0_0 (grid0.coords t) → ¬cond0_1 (grid0.coords t) → cond0_2 (grid0.coords t) → cfg0.fresh 3 t.val = false := by
  intro t; rw [fresh0_3_eq t]; revert t; decide +kernel
/-- Whether output 4's buffer is FRESH at each position `1 ‥ N` — holds nothing the body stored since the region's entry or the
    last write-back (written back at the point before, or idle there and fresh before it) —, as a
    bitmask, bit `n` for position `n + 1`; position 0 is fresh. `freshTab0_4_step` checks it against the configuration's own
    step point by point and `Cfg.fresh_tab` makes it `Cfg.fresh` (`fresh0_4_eq`). -/
def freshTab0_4 : ℕ → Bool
  | 0 => true
  | n + 1 => (0xb6db6d : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 idle: the case stores nothing into it. -/
theorem idleAt0_4_A : ∀ t : Fin cfg0.N, cond0_0 (grid0.coords t) → ¬cond0_1 (grid0.coords t) → ¬cond0_2 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → ¬cond0_2 (grid0.coords t) → (cfg0.win 4).flush t = false := by decide +kernel
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cfg0.idle 4 (grid0.coords t) = false := by decide +kernel
/-- At the points of case C the printed configuration (`Cfg.idle`) calls output 4 idle: the case stores nothing into it. -/
theorem idleAt0_4_C : ∀ t : Fin cfg0.N, ¬cond0_0 (grid0.coords t) → ¬cond0_1 (grid0.coords t) → cond0_2 (grid0.coords t) → cfg0.idle 4 (grid0.coords t) = true := by decide +kernel
/-- At the points of case C the pipeline writes output 4's block back. -/
theorem flushAt0_4_C : ∀ t : Fin cfg0.N, ¬cond0_0 (grid0.coords t) → ¬cond0_1 (grid0.coords t) → cond0_2 (grid0.coords t) → (cfg0.win 4).flush t = true := by decide +kernel
/-- At the points of case C, which keeps output 4's prior contents (reads it before covering, or covers it in part), the
    window's buffer is not FRESH: something was stored into it since the region's entry or its last write-back, idle points
    between or not (`Cfg.fresh`, by the table `freshTab0_4`). -/
theorem notFresh0_4_C : ∀ t : Fin cfg0.N, ¬cond0_0 (grid0.coords t) → ¬cond0_1 (grid0.coords t) → cond0_2 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a
    bitmask, bit `n` for position `n + 1`; position 0 is fresh. `freshTab0_5_step` checks it against the configuration's own
    step point by point and `Cfg.fresh_tab` makes it `Cfg.fresh` (`fresh0_5_eq`). -/
def freshTab0_5 : ℕ → Bool
  | 0 => true
  | n + 1 => (0xb6db6d : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → ¬cond0_2 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → ¬cond0_2 (grid0.coords t) → cfg0.idle 5 (grid0.coords t) = false := by decide +kernel
/-- At the points of case C the printed configuration (`Cfg.idle`) calls output 5 idle: the case stores nothing into it. -/
theorem idleAt0_5_C : ∀ t : Fin cfg0.N, ¬cond0_0 (grid0.coords t) → ¬cond0_1 (grid0.coords t) → cond0_2 (grid0.coords t) → cfg0.idle 5 (grid0.coords t) = true := by decide +kernel
/-- At the points of case C the pipeline writes output 5's block back. -/
theorem flushAt0_5_C : ∀ t : Fin cfg0.N, ¬cond0_0 (grid0.coords t) → ¬cond0_1 (grid0.coords t) → cond0_2 (grid0.coords t) → (cfg0.win 5).flush t = true := by decide +kernel
/-- At the points of case C, which keeps output 5's prior contents (reads it before covering, or covers it in part), the
    window's buffer is not FRESH: something was stored into it since the region's entry or its last write-back, idle points
    between or not (`Cfg.fresh`, by the table `freshTab0_5`). -/
theorem notFresh0_5_C : ∀ t : Fin cfg0.N, ¬cond0_0 (grid0.coords t) → ¬cond0_1 (grid0.coords t) → cond0_2 (grid0.coords t) → cfg0.fresh 5 t.val = false := by
  intro t; rw [fresh0_5_eq t]; revert t; decide +kernel
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → ¬cond0_1 (grid0.coords t) → cond0_2 (grid0.coords t) → cfg0.idle 7 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1024x1024 .bf16 := (Memref.whole cc0_stg3_0 : Memref sig .tc .vmem S1024x1024 .bf16).view
/-- One staging buffer of output window 4, through which its contents are stated (`View.read_writes_of_cover`: the
    choice does not matter). -/
abbrev VO0_4 : View sig .tc .vmem S1024x1024 .f32 := (Memref.whole cc0_stg4_0 : Memref sig .tc .vmem S1024x1024 .f32).view
/-- One staging buffer of output window 5, through which its contents are stated (`View.read_writes_of_cover`: the
    choice does not matter). -/
abbrev VO0_5 : View sig .tc .vmem S1024x1024 .bf16 := (Memref.whole cc0_stg5_0 : Memref sig .tc .vmem S1024x1024 .bf16).view
/-- One staging buffer of output window 6, through which its contents are stated (`View.read_writes_of_cover`: the
    choice does not matter). -/
abbrev VO0_6 : View sig .tc .vmem S1024x1024 .f32 := (Memref.whole cc0_stg6_0 : Memref sig .tc .vmem S1024x1024 .f32).view
/-- One staging buffer of output window 7, through which its contents are stated (`View.read_writes_of_cover`: the
    choice does not matter). -/
abbrev VO0_7 : View sig .tc .vmem S1024x1024 .bf16 := (Memref.whole cc0_stg7_0 : Memref sig .tc .vmem S1024x1024 .bf16).view
/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)

end Cert.QkvIdeal.Gen

end
-- ==== Proof.QkvIdealFrame.RunA.lean ====
/-
  The frame of the projection to queries, keys and values: the body run whole in case A, the branch for the queries taken.
-/
module

public import proofs.«01_k».proof.Proof.QkvIdealFrame.Runs

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken, `scf.if` 2 not taken: points 0, 3, … 21: 8 of 24), WITH the
    proof that on whole staging memrefs — the inputs' at their contents, the outputs it leaves idle (4, 5, 6, 7: no store, the window idle and not written back at the case's points) at contents `xi·` handed back untouched, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds. -/
noncomputable def kernelRun0_A (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) :
    Σ' (L3 : List (View.Piece (Elt F) S1024x1024 .bf16)), Σ' (L4 : List (View.Piece (Elt F) S1024x1024 .f32)), Σ' (L5 : List (View.Piece (Elt F) S1024x1024 .bf16)), Σ' (L6 : List (View.Piece (Elt F) S1024x1024 .f32)), { L7 : List (View.Piece (Elt F) S1024x1024 .bf16) //
      ∀ (xi4 : Vec F S1024x1024 .f32) (xi5 : Vec F S1024x1024 .bf16) (xi6 : Vec F S1024x1024 .f32) (xi7 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xi7
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ owns (c : Thread nD τ) arg9 fullShare xi7) -∗ K ⟨⟩))
          ⊢ wp frame (wpE (defs₀ (F := F)) Variants.none c none) E (cc0_project_qkv i arg2 harg2 arg3 harg3 arg4 harg4 arg5 harg5 arg6 harg6 arg7 harg7 arg8 harg8 arg9 harg9) K } := by
  refine ⟨?_, [], [], [], [], fun xi4 xi5 xi6 xi7 E K => ?run⟩
  case run =>
    simp only [cc0_project_qkv_eq_skeleton]; unfold cc0_project_qkv_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; isplitr; · ipureintro; exact harg9.read_unread _
    iexact H7

end Cert.QkvIdeal.Gen

end
-- ==== Proof.QkvIdealFrame.RunB.lean ====
/-
  The frame of the projection to queries, keys and values: the body run whole in case B, the branch for the keys taken.
-/
module

public import proofs.«01_k».proof.Proof.QkvIdealFrame.RunA

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken, `scf.if` 1 taken, `scf.if` 2 not taken: points 1, 4, … 22: 8 of 24), WITH the
    proof that on whole staging memrefs — the inputs' at their contents, the outputs it leaves idle (3, 6, 7: no store, the window idle and not written back at the case's points) at contents `xi·` handed back untouched, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds. -/
noncomputable def kernelRun0_B (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) :
    Σ' (L3 : List (View.Piece (Elt F) S1024x1024 .bf16)), Σ' (L4 : List (View.Piece (Elt F) S1024x1024 .f32)), Σ' (L5 : List (View.Piece (Elt F) S1024x1024 .bf16)), Σ' (L6 : List (View.Piece (Elt F) S1024x1024 .f32)), { L7 : List (View.Piece (Elt F) S1024x1024 .bf16) //
      ∀ (xi3 : Vec F S1024x1024 .bf16) (xi6 : Vec F S1024x1024 .f32) (xi7 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7) -∗ K ⟨⟩))
          ⊢ wp frame (wpE (defs₀ (F := F)) Variants.none c none) E (cc0_project_qkv i arg2 harg2 arg3 harg3 arg4 harg4 arg5 harg5 arg6 harg6 arg7 harg7 arg8 harg8 arg9 harg9) K } := by
  refine ⟨[], ?_, ?_, [], [], fun xi3 xi6 xi7 E K => ?run⟩
  case run =>
    simp only [cc0_project_qkv_eq_skeleton]; unfold cc0_project_qkv_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    iexists _; isplitr; · ipureintro; exact harg9.read_unread _
    iexact H7

end Cert.QkvIdeal.Gen

end
-- ==== Proof.QkvIdealFrame.RunC.lean ====
/-
  The frame of the projection to queries, keys and values: the body run whole in case C, the branch for the values taken.
-/
module

public import proofs.«01_k».proof.Proof.QkvIdealFrame.RunB

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE C (`scf.if` 0 not taken, `scf.if` 1 not taken, `scf.if` 2 taken: points 2, 5, … 23: 8 of 24), WITH the
    proof that on whole staging memrefs — the inputs' at their contents, the outputs it reads before covering (3, 4, 5) at their running contents `xo·`, the other outputs' at
    anything, the body runs to the continuation holding the inputs' as they were,
    each output's buffer with its pieces written: the printed functions are their skeletons
    (`Gen.*_eq_skeleton`), which `sl_exec` runs — each `scf.if` decided by the case's hypotheses `hc·`; the pieces are
    the witness that run finds. -/
noncomputable def kernelRun0_C (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) :
    Σ' (L3 : List (View.Piece (Elt F) S1024x1024 .bf16)), Σ' (L4 : List (View.Piece (Elt F) S1024x1024 .f32)), Σ' (L5 : List (View.Piece (Elt F) S1024x1024 .bf16)), Σ' (L6 : List (View.Piece (Elt F) S1024x1024 .f32)), { L7 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_project_qkv i arg2 harg2 arg3 harg3 arg4 harg4 arg5 harg5 arg6 harg6 arg7 harg7 arg8 harg8 arg9 harg9) K } := by
  refine ⟨[], [], [], ?_, ?_, fun E K => ?run⟩
  case run =>
    simp only [cc0_project_qkv_eq_skeleton]; unfold cc0_project_qkv_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.QkvIdeal.Gen

end
-- ==== Proof.QkvIdealFrame.Frame.lean ====
/-
  The frame of the projection to queries, keys and values, its last part: what the outputs hold in each case and after each point,
  the pipeline's proof data, the body's obligation, the run, and the frame itself. An output is written in one of the three
  branches and idle in the others. The key and query windows hold still until the last branch of a row block is done, so that
  what they hold is carried from point to point until it is written back.
-/
module

public import proofs.«01_k».proof.Proof.QkvIdealFrame.RunC
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (4 stores of `S1024x256`, by `Piece.tiledL`), so they cover it. -/
theorem cover0_A_3 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) (y : S1024x1024.Idx) :
    ∃ pc ∈ (kernelRun0_A c i arg2 harg2 arg3 harg3 arg4 harg4 arg5 harg5 arg6 harg6 arg7 harg7 arg8 harg8 arg9 harg9 hc0 hc1 hc2 x0 x1 x2).1, y ∈ pc.1.set :=
  View.cover_of_tiledL (kernelRun0_A c i arg2 harg2 arg3 harg3 arg4 harg4 arg5 harg5 arg6 harg6 arg7 harg7 arg8 harg8 arg9 harg9 hc0 hc1 hc2 x0 x1 x2).1 S1024x256.size (by sl_kernel_rfl) y

/-- What case A leaves in output 3's staging buffer: its pieces read back over junk. -/
def out0_A_3 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) : Vec F S1024x1024 .bf16 :=
  VO0_3.read (Elt F) (VO0_3.writes (Elt F) VO0_3.junk (kernelRun0_A c i arg2 harg2 arg3 harg3 arg4 harg4 arg5 harg5 arg6 harg6 arg7 harg7 arg8 harg8 arg9 harg9 hc0 hc1 hc2 x0 x1 x2).1)

/-- Case A stores nothing into output 4 (the window is idle at its points and not written back there) and another
    case keeps its prior contents (reads it before covering, or covers it in part): what its buffer holds after the body is what the
    point before left, CARRIED — an argument of this term alone, which the run does not take (`Dat.before_out_traj`). -/
def out0_A_4 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) (xo4 : Vec F S1024x1024 .f32) : Vec F S1024x1024 .f32 := xo4

/-- Case A stores nothing into output 5 (the window is idle at its points and not written back there) and another
    case keeps its prior contents (reads it before covering, or covers it in part): what its buffer holds after the body is what the
    point before left, CARRIED — an argument of this term alone, which the run does not take (`Dat.before_out_traj`). -/
def out0_A_5 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) (xo5 : Vec F S1024x1024 .bf16) : Vec F S1024x1024 .bf16 := xo5

/-- Case A stores nothing into output 6 (the window is idle at its points and not written back there):
    no pieces — a placeholder (junk read back) that nothing consults, since at these points the window is neither
    written back nor read at the next point. -/
def out0_A_6 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) : Vec F S1024x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 x0 x1 x2).2.2.2.1)

/-- Case A stores nothing into output 7 (the window is idle at its points and not written back there):
    no pieces — a placeholder (junk read back) that nothing consults, since at these points the window is neither
    written back nor read at the next point. -/
def out0_A_7 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i)
    (x0 : Vec F S1024x2048 .bf16) (x1 : Vec F S2048x1024 .bf16) (x2 : Vec F S2x1024 .f32) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 hc0 hc1 hc2 x0 x1 x2).2.2.2.2.1)

/-- Case B stores nothing into output 3 (the window is idle at its points and not written back there) and another
    case keeps its prior contents (reads it before covering, or covers it in part): what its buffer holds after the body is what the
    point before left, CARRIED — an argument of this term alone, which the run does not take (`Dat.before_out_traj`). -/
def out0_B_3 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) (xo3 : Vec F S1024x1024 .bf16) : Vec F S1024x1024 .bf16 := xo3

/-- Case B's pieces for output 4 tile its block (4 stores of `S1024x256`, by `Piece.tiledL`), so they cover it. -/
theorem cover0_B_4 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) (y : S1024x1024.Idx) :
    ∃ pc ∈ (kernelRun0_B c i arg2 harg2 arg3 harg3 arg4 harg4 arg5 harg5 arg6 harg6 arg7 harg7 arg8 harg8 arg9 harg9 hc0 hc1 hc2 x0 x1 x2).2.1, y ∈ pc.1.set :=
  View.cover_of_tiledL (kernelRun0_B c i arg2 harg2 arg3 harg3 arg4 harg4 arg5 harg5 arg6 harg6 arg7 harg7 arg8 harg8 arg9 harg9 hc0 hc1 hc2 x0 x1 x2).2.1 S1024x256.size (by sl_kernel_rfl) y

/-- What case B leaves in output 4's staging buffer: its pieces read back over junk. -/
def out0_B_4 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) : Vec F S1024x1024 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 hc2 x0 x1 x2).2.1)

/-- Case B's pieces for output 5 tile its block (4 stores of `S1024x256`, by `Piece.tiledL`), so they cover it. -/
theorem cover0_B_5 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) (y : S1024x1024.Idx) :
    ∃ pc ∈ (kernelRun0_B c i arg2 harg2 arg3 harg3 arg4 harg4 arg5 harg5 arg6 harg6 arg7 harg7 arg8 harg8 arg9 harg9 hc0 hc1 hc2 x0 x1 x2).2.2.1, y ∈ pc.1.set :=
  View.cover_of_tiledL (kernelRun0_B c i arg2 harg2 arg3 harg3 arg4 harg4 arg5 harg5 arg6 harg6 arg7 harg7 arg8 harg8 arg9 harg9 hc0 hc1 hc2 x0 x1 x2).2.2.1 S1024x256.size (by sl_kernel_rfl) y

/-- What case B leaves in output 5's staging buffer: its pieces read back over junk. -/
def out0_B_5 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) : Vec F S1024x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 hc2 x0 x1 x2).2.2.1)

/-- Case B stores nothing into output 6 (the window is idle at its points and not written back there):
    no pieces — a placeholder (junk read back) that nothing consults, since at these points the window is neither
    written back nor read at the next point. -/
def out0_B_6 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) : Vec F S1024x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 hc2 x0 x1 x2).2.2.2.1)

/-- Case B stores nothing into output 7 (the window is idle at its points and not written back there):
    no pieces — a placeholder (junk read back) that nothing consults, since at these points the window is neither
    written back nor read at the next point. -/
def out0_B_7 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i)
    (x0 : Vec F S1024x2048 .bf16) (x1 : Vec F S2048x1024 .bf16) (x2 : Vec F S2x1024 .f32) : Vec F S1024x1024 .bf16 :=
  VO0_7.read (Elt F) (VO0_7.writes (Elt F) VO0_7.junk (kernelRun0_B c i arg2 harg2 arg3 harg3 arg4 harg4 arg5 harg5 arg6 harg6 arg7 harg7 arg8 harg8 arg9 harg9 hc0 hc1 hc2 x0 x1 x2).2.2.2.2.1)

/-- Case C stores nothing into output 3 and keeps it: its staging buffer holds what the point before left. -/
def out0_C_3 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) : Vec F S1024x1024 .bf16 := xo3

/-- Case C stores nothing into output 4 and keeps it: its staging buffer holds what the point before left. -/
def out0_C_4 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) : Vec F S1024x1024 .f32 := xo4

/-- Case C stores nothing into output 5 and keeps it: its staging buffer holds what the point before left. -/
def out0_C_5 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) : Vec F S1024x1024 .bf16 := xo5

/-- Case C's pieces for output 6 tile its block (4 stores of `S1024x256`, by `Piece.tiledL`), so they cover it. -/
theorem cover0_C_6 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) (y : S1024x1024.Idx) :
    ∃ pc ∈ (kernelRun0_C c i arg2 harg2 arg3 harg3 arg4 harg4 arg5 harg5 arg6 harg6 arg7 harg7 arg8 harg8 arg9 harg9 hc0 hc1 hc2 x0 x1 x2 xo3 xo4 xo5).2.2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 x2 xo3 xo4 xo5).2.2.2.1 S1024x256.size (by sl_kernel_rfl) y

/-- What case C leaves in output 6's staging buffer: its pieces read back over junk. -/
def out0_C_6 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) : Vec F S1024x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 hc2 x0 x1 x2 xo3 xo4 xo5).2.2.2.1)

/-- Case C's pieces for output 7 tile its block (4 stores of `S1024x256`, by `Piece.tiledL`), so they cover it. -/
theorem cover0_C_7 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) (y : S1024x1024.Idx) :
    ∃ pc ∈ (kernelRun0_C c i arg2 harg2 arg3 harg3 arg4 harg4 arg5 harg5 arg6 harg6 arg7 harg7 arg8 harg8 arg9 harg9 hc0 hc1 hc2 x0 x1 x2 xo3 xo4 xo5).2.2.2.2.1, y ∈ pc.1.set :=
  View.cover_of_tiledL (kernelRun0_C c i arg2 harg2 arg3 harg3 arg4 harg4 arg5 harg5 arg6 harg6 arg7 harg7 arg8 harg8 arg9 harg9 hc0 hc1 hc2 x0 x1 x2 xo3 xo4 xo5).2.2.2.2.1 S1024x256.size (by sl_kernel_rfl) y

/-- What case C leaves in output 7's staging buffer: its pieces read back over junk. -/
def out0_C_7 (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i)
    (x0 : Vec F S1024x2048 .bf16) (x1 : Vec F S2048x1024 .bf16) (x2 : Vec F S2x1024 .f32) (xo3 : Vec F S1024x1024 .bf16) (xo4 : Vec F S1024x1024 .f32) (xo5 : Vec F S1024x1024 .bf16) : Vec F S1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 hc0 hc1 hc2 x0 x1 x2 xo3 xo4 xo5).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x1024 .bf16 × Vec F S1024x1024 .f32 × Vec F S1024x1024 .bf16 × Vec F S1024x1024 .f32 × Vec F S1024x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) ((VO0_3.read (Elt F) VO0_3.junk, VO0_4.read (Elt F) VO0_4.junk, VO0_5.read (Elt F) VO0_5.junk, VO0_6.read (Elt F) VO0_6.junk, VO0_7.read (Elt F) VO0_7.junk) : Vec F S1024x1024 .bf16 × Vec F S1024x1024 .f32 × Vec F S1024x1024 .bf16 × Vec F S1024x1024 .f32 × Vec F S1024x1024 .bf16).2.1, out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) ((VO0_3.read (Elt F) VO0_3.junk, VO0_4.read (Elt F) VO0_4.junk, VO0_5.read (Elt F) VO0_5.junk, VO0_6.read (Elt F) VO0_6.junk, VO0_7.read (Elt F) VO0_7.junk) : Vec F S1024x1024 .bf16 × Vec F S1024x1024 .f32 × Vec F S1024x1024 .bf16 × Vec F S1024x1024 .f32 × Vec F S1024x1024 .bf16).2.2.1, out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h0 : (n + 1) % 3 = 0 then
      if h1 : (n + 1) % 3 = 1 then
        False.elim (by have hN : n + 1 < 24 := lt_of_lt_of_eq hn (show cfg0.N = 24 from N_0); omega)
      else
        if h2 : (n + 1) % 3 = 2 then
          False.elim (by have hN : n + 1 < 24 := lt_of_lt_of_eq hn (show cfg0.N = 24 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.1, out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1, out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩))
    else
      if h1 : (n + 1) % 3 = 1 then
        if h2 : (n + 1) % 3 = 2 then
          False.elim (by have hN : n + 1 < 24 := lt_of_lt_of_eq hn (show cfg0.N = 24 from N_0); omega)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩))
      else
        if h2 : (n + 1) % 3 = 2 then
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1)
        else
          False.elim (by have hN : n + 1 < 24 := lt_of_lt_of_eq hn (show cfg0.N = 24 from N_0); omega)

/-- `outsAt0` at a point of case A: that case's contents, over what the point before left. -/
theorem outsAt0_A (c : Dev nD) (t : Fin cfg0.N) (h0 : t.val % 3 = 0) (h1 : ¬t.val % 3 = 1) (h2 : ¬t.val % 3 = 2) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.1, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.1, out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 3 = 0) (h1 : t.val % 3 = 1) (h2 : ¬t.val % 3 = 2) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 3 = 0) (h1 : ¬t.val % 3 = 1) (h2 : t.val % 3 = 2) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-! ## The pipeline's proof data -/

/-- The proof data of the one pipeline on core `c`: the arrays as the region finds them (`V`); after the body at
    point `t` each input's buffer at its block and the outputs' at `outsAt0`; the invariant the class's
    (`ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
    | ⟨6, _⟩ => (outsAt0 m c t.val t.isLt).2.2.2.1
    | ⟨7, _⟩ => (outsAt0 m c t.val t.isLt).2.2.2.2
  Φ _ := Pipeline.ΦA spec0 c
  q _ := fullShare
  owed _ := 0

/-- The proof data's arrays are the region-entry contents: the proof data's definition
    projected. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem after0_6 (c : Dev nD) (t : Fin cfg0.N) : (dats m 0 c).after 6 t = (outsAt0 m c t.val t.isLt).2.2.2.1 := by dsimp only [dats]
theorem after0_7 (c : Dev nD) (t : Fin cfg0.N) : (dats m 0 c).after 7 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 3's contents CARRY through the points that leave it idle: at such a point, its buffer not fresh, the proof data's
    `after` is the point before's (the case there stores nothing into the window and its term says so; a case that stores
    into it is not idle there by `liveAt0_3_κ`) — the hypothesis of `Dat.before_out_traj`. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 24 := lt_of_lt_of_eq t.isLt (show cfg0.N = 24 from N_0)
  rw [after0_3, after0_3]
  by_cases h0 : t.val % 3 = 0
  · by_cases h1 : t.val % 3 = 1
    · exfalso; omega
    · by_cases h2 : t.val % 3 = 2
      · exfalso; omega
      · rw [liveAt0_3_A t ((hcond0_0 t).mpr h0) (fun h => h1 ((hcond0_1 t).mp h)) (fun h => h2 ((hcond0_2 t).mp h))] at hi
        exact absurd hi Bool.false_ne_true
  · by_cases h1 : t.val % 3 = 1
    · by_cases h2 : t.val % 3 = 2
      · exfalso; omega
      · rw [outsAt0_B m c t h0 h1 h2]
        dsimp only
        unfold out0_B_3
        rfl
    · by_cases h2 : t.val % 3 = 2
      · rw [outsAt0_C m c t h0 h1 h2]
        dsimp only
        unfold out0_C_3
        rfl
      · exfalso; omega

/-- Output 4's contents CARRY through the points that leave it idle: at such a point, its buffer not fresh, the proof data's
    `after` is the point before's (the case there stores nothing into the window and its term says so; a case that stores
    into it is not idle there by `liveAt0_4_κ`) — the hypothesis of `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 24 := lt_of_lt_of_eq t.isLt (show cfg0.N = 24 from N_0)
  rw [after0_4, after0_4]
  by_cases h0 : t.val % 3 = 0
  · by_cases h1 : t.val % 3 = 1
    · exfalso; omega
    · by_cases h2 : t.val % 3 = 2
      · exfalso; omega
      · rw [outsAt0_A m c t h0 h1 h2]
        dsimp only
        unfold out0_A_4
        rfl
  · by_cases h1 : t.val % 3 = 1
    · by_cases h2 : t.val % 3 = 2
      · exfalso; omega
      · rw [liveAt0_4_B t (fun h => h0 ((hcond0_0 t).mp h)) ((hcond0_1 t).mpr h1) (fun h => h2 ((hcond0_2 t).mp h))] at hi
        exact absurd hi Bool.false_ne_true
    · by_cases h2 : t.val % 3 = 2
      · rw [outsAt0_C m c t h0 h1 h2]
        dsimp only
        unfold out0_C_4
        rfl
      · exfalso; omega

/-- Output 5's contents CARRY through the points that leave it idle: at such a point, its buffer not fresh, the proof data's
    `after` is the point before's (the case there stores nothing into the window and its term says so; a case that stores
    into it is not idle there by `liveAt0_5_κ`) — the hypothesis of `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 24 := lt_of_lt_of_eq t.isLt (show cfg0.N = 24 from N_0)
  rw [after0_5, after0_5]
  by_cases h0 : t.val % 3 = 0
  · by_cases h1 : t.val % 3 = 1
    · exfalso; omega
    · by_cases h2 : t.val % 3 = 2
      · exfalso; omega
      · rw [outsAt0_A m c t h0 h1 h2]
        dsimp only
        unfold out0_A_5
        rfl
  · by_cases h1 : t.val % 3 = 1
    · by_cases h2 : t.val % 3 = 2
      · exfalso; omega
      · rw [liveAt0_5_B t (fun h => h0 ((hcond0_0 t).mp h)) ((hcond0_1 t).mpr h1) (fun h => h2 ((hcond0_2 t).mp h))] at hi
        exact absurd hi Bool.false_ne_true
    · by_cases h2 : t.val % 3 = 2
      · rw [outsAt0_C m c t h0 h1 h2]
        dsimp only
        unfold out0_C_5
        rfl
      · exfalso; omega
/-- At a point of case C output 3's current staging buffer holds what the point before left: the buffer is not fresh
    there (`notFresh0_3_C`: stored into since the region's entry or the last write-back, carried through the points that
    leave it idle by `hcarry0_3`; `Dat.before_out_traj`). -/
theorem before0_3_C (c : Dev nD) (t : Fin cfg0.N) (h0 : ¬t.val % 3 = 0) (h1 : ¬t.val % 3 = 1) (h2 : t.val % 3 = 2) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_C t (fun h => h0 ((hcond0_0 t).mp h)) (fun h => h1 ((hcond0_1 t).mp h)) ((hcond0_2 t).mpr h2)]; exact Bool.false_ne_true)]
  dsimp only [dats]
/-- At a point of case C output 4's current staging buffer holds what the point before left: the buffer is not fresh
    there (`notFresh0_4_C`: stored into since the region's entry or the last write-back, carried through the points that
    leave it idle by `hcarry0_4`; `Dat.before_out_traj`). -/
theorem before0_4_C (c : Dev nD) (t : Fin cfg0.N) (h0 : ¬t.val % 3 = 0) (h1 : ¬t.val % 3 = 1) (h2 : t.val % 3 = 2) (d) :
    (dats m 0 c).before 4 t d = (outsAt0 m c (t.val - 1) (Nat.lt_of_le_of_lt (Nat.sub_le _ _) t.isLt)).2.1 := by
  rw [Dat.before_out_traj _ 4 rfl (fun _ _ => rfl) (hcarry0_4 m c) t.val t rfl d,
    if_neg (by rw [notFresh0_4_C t (fun h => h0 ((hcond0_0 t).mp h)) (fun h => h1 ((hcond0_1 t).mp h)) ((hcond0_2 t).mpr h2)]; exact Bool.false_ne_true)]
  dsimp only [dats]
/-- At a point of case C output 5's current staging buffer holds what the point before left: the buffer is not fresh
    there (`notFresh0_5_C`: stored into since the region's entry or the last write-back, carried through the points that
    leave it idle by `hcarry0_5`; `Dat.before_out_traj`). -/
theorem before0_5_C (c : Dev nD) (t : Fin cfg0.N) (h0 : ¬t.val % 3 = 0) (h1 : ¬t.val % 3 = 1) (h2 : t.val % 3 = 2) (d) :
    (dats m 0 c).before 5 t d = (outsAt0 m c (t.val - 1) (Nat.lt_of_le_of_lt (Nat.sub_le _ _) t.isLt)).2.2.1 := by
  rw [Dat.before_out_traj _ 5 rfl (fun _ _ => rfl) (hcarry0_5 m c) t.val t rfl d,
    if_neg (by rw [notFresh0_5_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  by_cases h0 : t.val % 3 = 0
  · by_cases h1 : t.val % 3 = 1
    · exfalso; omega
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h)) (fun h => h2 ((hcond0_2 t).mp h))], after0_3]
        rw [Dat.leavesExact_idle (dats m 0 c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
        rw [Dat.leavesExact_idle (dats m 0 c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [Dat.leavesExact_idle (dats m 0 c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
        rw [outsAt0_A m c t h0 h1 h2]
        unfold out0_A_3; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2.2.2.2.2 _ _ _ _ Set.univ _)
        isplitl [H0]; · iexact H0
        isplitl [H1]; · iexact H1
        isplitl [H2]; · iexact H2
        isplitl [H3]; · iexists _; iexact H3
        isplitl [H4]; · iexact H4
        isplitl [H5]; · iexact H5
        isplitl [H6]; · iexact H6
        isplitl [H7]; · iexact H7
        iintro ⟨H0, H1, H2, ⟨%e3, H3⟩, H4, H5, H6, H7⟩
        isplitl [HΦ]; · iexact HΦ
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _ _ _ _ _ _)
        isplitl [H4]; · iexists _; iexact H4
        isplitl [H5]; · iexists _; iexact H5
        isplitl [H6]; · iexists _; iexact H6
        iexists _; iexact H7
  · by_cases h1 : t.val % 3 = 1
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h))], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        rw [outsAt0_B m c t h0 h1 h2]
        unfold out0_B_4 out0_B_5; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t)).2.2.2.2.2 _ _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        iintro ⟨H0, H1, H2, H3, ⟨%e4, H4⟩, ⟨%e5, H5⟩, H6, H7⟩
        isplitl [HΦ]; · iexact HΦ
        isplitl [Ho]; · iexact Ho
        isplitl [H0]; · iexact H0
        isplitl [H1]; · iexact H1
        isplitl [H2]; · iexact H2
        isplitl [H3]; · iexists _; iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _)
        isplitl [H6]; · iexists _; iexact H6
        iexists _; iexact H7
    · by_cases h2 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [idleAt0_3_C t (fun h => h0 ((hcond0_0 t).mp h)) (fun h => h1 ((hcond0_1 t).mp h)) ((hcond0_2 t).mpr h2), flushAt0_3_C t (fun h => h0 ((hcond0_0 t).mp h)) (fun h => h1 ((hcond0_1 t).mp h)) ((hcond0_2 t).mpr h2)], after0_3]
        rw [show (dats m 0 c).leavesExact 4 t = owns (c : Thread nD τ) (ms0_4 t) fullShare ((dats m 0 c).after 4 t) from by
      unfold Dat.leavesExact; rw [idleAt0_4_C t (fun h => h0 ((hcond0_0 t).mp h)) (fun h => h1 ((hcond0_1 t).mp h)) ((hcond0_2 t).mpr h2), flushAt0_4_C t (fun h => h0 ((hcond0_0 t).mp h)) (fun h => h1 ((hcond0_1 t).mp h)) ((hcond0_2 t).mpr h2)], after0_4]
        rw [show (dats m 0 c).leavesExact 5 t = owns (c : Thread nD τ) (ms0_5 t) fullShare ((dats m 0 c).after 5 t) from by
      unfold Dat.leavesExact; rw [idleAt0_5_C t (fun h => h0 ((hcond0_0 t).mp h)) (fun h => h1 ((hcond0_1 t).mp h)) ((hcond0_2 t).mpr h2), flushAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        rw [outsAt0_C m c t h0 h1 h2]
        simp only [before0_3_C m c t h0 h1 h2, before0_4_C m c t h0 h1 h2, before0_5_C m c t h0 h1 h2]
        unfold out0_C_3 out0_C_4 out0_C_5 out0_C_6 out0_C_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        iintro ⟨H0, H1, H2, H3, H4, H5, ⟨%e6, H6⟩, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_QkvIdeal`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.QkvIdeal.Gen

end
-- ==== Proof.QkvValue.lean ====
/-
  The projection to queries, keys and values: the kernel's five results are the reference's, element by element.
-/
module

public import proofs.«01_k».proof.Proof.QkvIdealFrame.Frame
public import proofs.«01_k».proof.Proof.Gen.QkvReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.QkvValue

open Cert.QkvIdeal Cert.QkvIdeal.Gen

/-- The product of the rows and the weights of all three projections, as the reference states it. -/
abbrev prod (H : FVec Ideal S8192x2048 .bf16) (W : FVec Ideal S2048x3072 .f32) : FVec Ideal Cert.QkvReferenceIdeal.S8192x3072 .f32 :=
  Host.dotGeneral Cert.QkvReferenceIdeal.dot_S8192x2048_S2048x3072_S8192x3072_1_0_0_1_n_n none (extf .f32 H Cert.QkvReferenceIdeal.Gen.bitsLt_bf16_f32) W

/-- The columns of the queries, the keys and the values. -/
abbrev queries (H : FVec Ideal S8192x2048 .bf16) (W : FVec Ideal S2048x3072 .f32) : FVec Ideal S8192x1024 .f32 :=
  extractStridedSlice Cert.QkvReferenceIdeal.S8192x1024 ![0, 0] (prod H W) Cert.QkvReferenceIdeal.Gen.slices_S8192x3072_S8192x1024_0_0
abbrev keys (H : FVec Ideal S8192x2048 .bf16) (W : FVec Ideal S2048x3072 .f32) : FVec Ideal S8192x1024 .f32 :=
  extractStridedSlice Cert.QkvReferenceIdeal.S8192x1024 ![0, 1024] (prod H W) Cert.QkvReferenceIdeal.Gen.slices_S8192x3072_S8192x1024_0_1024
abbrev vals (H : FVec Ideal S8192x2048 .bf16) (W : FVec Ideal S2048x3072 .f32) : FVec Ideal S8192x1024 .f32 :=
  extractStridedSlice Cert.QkvReferenceIdeal.S8192x1024 ![0, 2048] (prod H W) Cert.QkvReferenceIdeal.Gen.slices_S8192x3072_S8192x1024_0_2048

/-- The root mean square normalisation of every head of every row, with a gain, as the reference states it. -/
abbrev heads (P : FVec Ideal S8192x1024 .f32) (g : FVec Ideal Cert.QkvReferenceIdeal.S128 .f32) : FVec Ideal S8192x1024 .f32 :=
  shapeCast _ (mulf (mulf (shapeCast _ P Cert.QkvReferenceIdeal.Gen.shapeCasts_S8192x1024_S8192x8x128) (broadcastInDim Cert.QkvReferenceIdeal.S8192x8x128 ![0, 1, 2] Cert.QkvReferenceIdeal.Gen.bcast_S8192x8x1_S8192x8x128_0_1_2
      (Host.rsqrt (addf (Host.divf (broadcastInDim Cert.QkvReferenceIdeal.S8192x8x1 ![0, 1] Cert.QkvReferenceIdeal.Gen.bcast_S8192x8_S8192x8x1_0_1
          (Host.reduceAdd (mulf (shapeCast _ P Cert.QkvReferenceIdeal.Gen.shapeCasts_S8192x1024_S8192x8x128) (shapeCast _ P Cert.QkvReferenceIdeal.Gen.shapeCasts_S8192x1024_S8192x8x128))
            (constant Cert.QkvReferenceIdeal.S_ .f32 0x00000000#32) Cert.QkvReferenceIdeal.Gen.reducesTo_S8192x8x128_S8192x8_d2 Cert.QkvReferenceIdeal.Gen.h_S_))
        (broadcastInDim Cert.QkvReferenceIdeal.S8192x8x1 ![] Cert.QkvReferenceIdeal.Gen.bcast_S_S8192x8x1 (constant Cert.QkvReferenceIdeal.S_ .f32 0x43000000#32)))
        (broadcastInDim Cert.QkvReferenceIdeal.S8192x8x1 ![] Cert.QkvReferenceIdeal.Gen.bcast_S_S8192x8x1 (constant Cert.QkvReferenceIdeal.S_ .f32 0x358637BD#32))))))
    (broadcastInDim Cert.QkvReferenceIdeal.S8192x8x128 ![0, 1, 2] Cert.QkvReferenceIdeal.Gen.bcast_S1x1x128_S8192x8x128_0_1_2
      (broadcastInDim Cert.QkvReferenceIdeal.S1x1x128 ![2] Cert.QkvReferenceIdeal.Gen.bcast_S128_S1x1x128_2 g))) Cert.QkvReferenceIdeal.Gen.shapeCasts_S8192x8x128_S8192x1024

/-- The reference's normalised queries and keys. -/
abbrev qNorm (H : FVec Ideal S8192x2048 .bf16) (W : FVec Ideal S2048x3072 .f32) (A : FVec Ideal S2x128 .f32) : FVec Ideal S8192x1024 .f32 :=
  heads (queries H W) (shapeCast _ (extractStridedSlice Cert.QkvReferenceIdeal.S1x128 ![0, 0] A Cert.QkvReferenceIdeal.Gen.slices_S2x128_S1x128_0_0) Cert.QkvReferenceIdeal.Gen.shapeCasts_S1x128_S128)
abbrev kNorm (H : FVec Ideal S8192x2048 .bf16) (W : FVec Ideal S2048x3072 .f32) (A : FVec Ideal S2x128 .f32) : FVec Ideal S8192x1024 .f32 :=
  heads (keys H W) (shapeCast _ (extractStridedSlice Cert.QkvReferenceIdeal.S1x128 ![1, 0] A Cert.QkvReferenceIdeal.Gen.slices_S2x128_S1x128_1_0) Cert.QkvReferenceIdeal.Gen.shapeCasts_S1x128_S128)

/-- The same rounded to the format of the copies. -/
abbrev narrow (P : FVec Ideal S8192x1024 .f32) : FVec Ideal S8192x1024 .bf16 := truncf .bf16 P Cert.QkvReferenceIdeal.Gen.bitsLt_bf16_f32

/-- A product at an index of a block. -/
def blockProd (H : FVec Ideal S1024x2048 .bf16) (W : FVec Ideal S2048x1024 .bf16) (r e : Fin 1024) : EReal :=
  ∑ d : Fin 2048, H (ix2 r d) * W (ix2 d e)

/-- An element of a normalised head `x` with gain `g`. -/
def headNorm (x : Fin 128 → EReal) (g : EReal) (d : Fin 128) : EReal :=
  x d * Ideal.rsqrt (Ideal.div (∑ e : Fin 128, x e * x e) (Ideal.ofBits .f32 0x43000000#32) + Ideal.ofBits .f32 0x358637BD#32) * g

/-- A normalised projection at an index of a block: column `e` belongs to head `e / 128`. -/
def blockNorm (H : FVec Ideal S1024x2048 .bf16) (W : FVec Ideal S2048x1024 .bf16) (G : FVec Ideal S2x1024 .f32) (k : Fin 2) (r e : Fin 1024) : EReal :=
  headNorm (fun d => blockProd H W r ⟨e.val / 128 * 128 + d.val, by omega⟩) (G (ix2 k e)) ⟨e.val % 128, by omega⟩

/-- The product of one store of two heads. -/
theorem prod_piece (H : FVec Ideal S1024x2048 .bf16) (W : FVec Ideal S2048x256 .bf16) (r : Fin 1024) (e : Fin 256) :
    k0_pay4 (F := Ideal) H W (ix2 r e) = ∑ d : Fin 2048, H (ix2 r d) * W (ix2 d e) := by
  pointwise [k0_pay4]

/-- The normalisation of one store of two heads. -/
theorem norm_piece (P : FVec Ideal S1024x256 .f32) (G : FVec Ideal S1x256 .f32) (r : Fin 1024) (e : Fin 256) :
    k0_pay2 (F := Ideal) P G (ix2 r e)
    = headNorm (fun d => P (ix2 r ⟨e.val / 128 * 128 + d.val, by omega⟩)) (G (ix2 0 e)) ⟨e.val % 128, by omega⟩ := by
  by_cases h : e.val < 128
  · have hd : ∀ d : Fin 128, (⟨e.val / 128 * 128 + d.val, by omega⟩ : Fin 256) = ⟨d.val, by omega⟩ := fun d => Fin.ext (by show e.val / 128 * 128 + d.val = d.val; omega)
    have he : (⟨e.val / 128 * 128 + e.val % 128, by omega⟩ : Fin 256) = e := Fin.ext (by show e.val / 128 * 128 + e.val % 128 = e.val; omega)
    pointwise [k0_pay2, headNorm]
    rw [dif_pos h]
    simp only [hd, he]
  · have hd : ∀ d : Fin 128, (⟨e.val / 128 * 128 + d.val, by omega⟩ : Fin 256) = ⟨128 + d.val, by omega⟩ := fun d => Fin.ext (by show e.val / 128 * 128 + d.val = 128 + d.val; omega)
    have he : (⟨e.val / 128 * 128 + e.val % 128, by omega⟩ : Fin 256) = e := Fin.ext (by show e.val / 128 * 128 + e.val % 128 = e.val; omega)
    have he' : (⟨128 + (e.val - 128), by omega⟩ : Fin 256) = e := Fin.ext (by show 128 + (e.val - 128) = e.val; omega)
    pointwise [k0_pay2, headNorm]
    rw [dif_neg h]
    simp only [hd, he, he']

/-- A store of two normalised heads, its weights and gains the columns from `o` on. -/
theorem norm_store (H : Vec Ideal S1024x2048 .bf16) (W : Vec Ideal S2048x1024 .bf16) (G : Vec Ideal S2x1024 .f32) (k : Fin 2) (o : ℕ) (ho : o % 256 = 0)
    (cols : ∀ a, (![0, o] : Fin 2 → ℕ) a + (![2048, 256] : Fin 2 → ℕ) a ≤ S2048x1024.size a) (gain : ∀ a, (![k.val, o] : Fin 2 → ℕ) a + (![1, 256] : Fin 2 → ℕ) a ≤ S2x1024.size a)
    (y : S1024x1024.Idx) (x : S1024x256.Idx) (h0 : (y 0 : ℕ) = x 0) (h1 : (y 1 : ℕ) = o + x 1) :
    k0_pay2 (F := Ideal) (k0_pay4 (F := Ideal) H (View.ld W (Rect.unit (s := S2048x1024) ![0, o] ![2048, 256] cols)))
      (View.ld G (Rect.unit (s := S2x1024) ![k.val, o] ![1, 256] gain)) x = blockNorm H W G k (y 0) (y 1) := by
  have hx1 : (x 1).val < 256 := (x 1).isLt
  have hy1 : (y 1).val < 1024 := (y 1).isLt
  have hw : ∀ (d : Fin 2048) (e : Fin 256) (f : Fin 1024), f.val = o + e.val →
      View.ld W (Rect.unit (s := S2048x1024) ![0, o] ![2048, 256] cols) (ix2 d e) = W (ix2 d f) := fun d e f h =>
    View.ld_unit_apply_of W _ _ _ _ _ (Fin.forall_fin_two.mpr ⟨(Nat.zero_add _).symm, h⟩)
  have hg : ∀ (e : Fin 256) (f : Fin 1024), f.val = o + e.val →
      View.ld G (Rect.unit (s := S2x1024) ![k.val, o] ![1, 256] gain) (ix2 0 e) = G (ix2 k f) := fun e f h =>
    View.ld_unit_apply_of G _ _ _ _ _ (Fin.forall_fin_two.mpr ⟨(Nat.add_zero _).symm, h⟩)
  generalize View.ld W (Rect.unit (s := S2048x1024) ![0, o] ![2048, 256] cols) = w at hw ⊢
  generalize View.ld G (Rect.unit (s := S2x1024) ![k.val, o] ![1, 256] gain) = g at hg ⊢
  obtain ⟨x0, x1, rfl⟩ : ∃ (r : Fin 1024) (e : Fin 256), x = (ix2 r e : S1024x256.Idx) := ⟨x 0, x 1, by blk_ext⟩
  refine (norm_piece _ _ x0 x1).trans ?_
  unfold blockNorm
  change (y 1 : ℕ) = o + x1.val at h1
  have e1 : (⟨x1.val % 128, by omega⟩ : Fin 128) = ⟨(y 1).val % 128, by omega⟩ := Fin.ext (by show x1.val % 128 = (y 1).val % 128; omega)
  rw [hg x1 (y 1) h1, e1]
  refine congrArg (fun z => headNorm z _ _) (funext fun d => (prod_piece _ _ _ _).trans ?_)
  unfold blockProd
  refine Finset.sum_congr rfl fun j _ => congrArg₂ (· * ·) (congrArg (fun r => H (ix2 r j)) (Fin.ext h0.symm)) (hw _ _ _ ?_)
  show (y 1).val / 128 * 128 + d.val = o + (x1.val / 128 * 128 + d.val)
  omega

variable (m : (ℓ : Loc nD τ sig) → Buf (Elt Ideal) ℓ)

/-- What the first point over a block of rows leaves in its block of the queries. -/
theorem q_at (c : Dev nD) (t : Fin cfg0.N) (h0 : t.val % 3 = 0) (h1 : ¬t.val % 3 = 1) (h2 : ¬t.val % 3 = 2) (y : S1024x1024.Idx) :
    (outsAt0 m c t.val t.isLt).1 y = blockNorm (iblk m c 0 t) (iblk m c 1 t) (iblk m c 2 t) 0 (y 0) (y 1) := by
  rw [outsAt0_A m c t h0 h1 h2]
  dsimp only
  frame_out
  canon_tiles x w
  case piece0 => exact norm_store (iblk m c 0 t) (iblk m c 1 t) (iblk m c 2 t) 0 768 rfl _ _ y x w0 w1
  case piece1 => exact norm_store (iblk m c 0 t) (iblk m c 1 t) (iblk m c 2 t) 0 512 rfl _ _ y x w0 w1
  case piece2 => exact norm_store (iblk m c 0 t) (iblk m c 1 t) (iblk m c 2 t) 0 256 rfl _ _ y x w0 w1
  case piece3 => exact norm_store (iblk m c 0 t) (iblk m c 1 t) (iblk m c 2 t) 0 0 rfl _ _ y x w0 (w1.trans (Nat.zero_add _).symm)

/-- What the second point leaves in its block of the keys. -/
theorem k32_at (c : Dev nD) (t : Fin cfg0.N) (h0 : ¬t.val % 3 = 0) (h1 : t.val % 3 = 1) (h2 : ¬t.val % 3 = 2) (y : S1024x1024.Idx) :
    (outsAt0 m c t.val t.isLt).2.1 y = blockNorm (iblk m c 0 t) (iblk m c 1 t) (iblk m c 2 t) 1 (y 0) (y 1) := by
  rw [outsAt0_B m c t h0 h1 h2]
  dsimp only
  frame_out
  canon_tiles x w
  case piece0 => exact norm_store (iblk m c 0 t) (iblk m c 1 t) (iblk m c 2 t) 1 768 rfl _ _ y x w0 w1
  case piece1 => exact norm_store (iblk m c 0 t) (iblk m c 1 t) (iblk m c 2 t) 1 512 rfl _ _ y x w0 w1
  case piece2 => exact norm_store (iblk m c 0 t) (iblk m c 1 t) (iblk m c 2 t) 1 256 rfl _ _ y x w0 w1
  case piece3 => exact norm_store (iblk m c 0 t) (iblk m c 1 t) (iblk m c 2 t) 1 0 rfl _ _ y x w0 (w1.trans (Nat.zero_add _).symm)

/-- The same of the rounded copy. -/
theorem k16_at (c : Dev nD) (t : Fin cfg0.N) (h0 : ¬t.val % 3 = 0) (h1 : t.val % 3 = 1) (h2 : ¬t.val % 3 = 2) (y : S1024x1024.Idx) :
    (outsAt0 m c t.val t.isLt).2.2.1 y = blockNorm (iblk m c 0 t) (iblk m c 1 t) (iblk m c 2 t) 1 (y 0) (y 1) := by
  rw [outsAt0_B m c t h0 h1 h2]
  dsimp only
  frame_out
  canon_tiles x w
  case piece0 => exact norm_store (iblk m c 0 t) (iblk m c 1 t) (iblk m c 2 t) 1 768 rfl _ _ y x w0 w1
  case piece1 => exact norm_store (iblk m c 0 t) (iblk m c 1 t) (iblk m c 2 t) 1 512 rfl _ _ y x w0 w1
  case piece2 => exact norm_store (iblk m c 0 t) (iblk m c 1 t) (iblk m c 2 t) 1 256 rfl _ _ y x w0 w1
  case piece3 => exact norm_store (iblk m c 0 t) (iblk m c 1 t) (iblk m c 2 t) 1 0 rfl _ _ y x w0 (w1.trans (Nat.zero_add _).symm)

/-- What the third point leaves in its block of the values. -/
theorem v32_at (c : Dev nD) (t : Fin cfg0.N) (h0 : ¬t.val % 3 = 0) (h1 : ¬t.val % 3 = 1) (h2 : t.val % 3 = 2) (y : S1024x1024.Idx) :
    (outsAt0 m c t.val t.isLt).2.2.2.1 y = blockProd (iblk m c 0 t) (iblk m c 1 t) (y 0) (y 1) := by
  rw [outsAt0_C m c t h0 h1 h2]
  dsimp only
  frame_out
  canon_tiles x w
  all_goals (open_payloads; pointwise [blockProd])
  all_goals (blk_point [])

/-- The same of the rounded copy. -/
theorem v16_at (c : Dev nD) (t : Fin cfg0.N) (h0 : ¬t.val % 3 = 0) (h1 : ¬t.val % 3 = 1) (h2 : t.val % 3 = 2) (y : S1024x1024.Idx) :
    (outsAt0 m c t.val t.isLt).2.2.2.2 y = blockProd (iblk m c 0 t) (iblk m c 1 t) (y 0) (y 1) := by
  rw [outsAt0_C m c t h0 h1 h2]
  dsimp only
  frame_out
  canon_tiles x w
  all_goals (open_payloads; pointwise [blockProd])
  all_goals (blk_point [])

/-- The third point passes the queries and the keys on. -/
theorem pass_C (c : Dev nD) (t : Fin cfg0.N) (h0 : ¬t.val % 3 = 0) (h1 : ¬t.val % 3 = 1) (h2 : t.val % 3 = 2) (hp : t.val - 1 < cfg0.N) :
    (outsAt0 m c t.val t.isLt).1 = (outsAt0 m c (t.val - 1) hp).1 ∧ (outsAt0 m c t.val t.isLt).2.1 = (outsAt0 m c (t.val - 1) hp).2.1
    ∧ (outsAt0 m c t.val t.isLt).2.2.1 = (outsAt0 m c (t.val - 1) hp).2.2.1 := by
  rw [outsAt0_C m c t h0 h1 h2]
  exact ⟨rfl, rfl, rfl⟩

/-- The second point passes the queries on. -/
theorem pass_B (c : Dev nD) (t : Fin cfg0.N) (h0 : ¬t.val % 3 = 0) (h1 : t.val % 3 = 1) (h2 : ¬t.val % 3 = 2) (hp : t.val - 1 < cfg0.N) :
    (outsAt0 m c t.val t.isLt).1 = (outsAt0 m c (t.val - 1) hp).1 := by
  rw [outsAt0_B m c t h0 h1 h2]
  rfl

/-- Where the windows stand at a point. -/
theorem idx : ∀ t : Fin cfg0.N, win0_0.index t = ![t.val / 3, 0] ∧ win0_1.index t = ![0, t.val % 3] ∧ win0_2.index t = ![0, 0] ∧ win0_3.index t = ![t.val / 3, 0]
    ∧ win0_4.index t = ![t.val / 3, 0] ∧ win0_5.index t = ![t.val / 3, 0] ∧ win0_6.index t = ![t.val / 3, 0] ∧ win0_7.index t = ![t.val / 3, 0] :=
  (by decide +kernel : ∀ t : Fin grid0.N, _)

theorem lt_24 (t : Fin cfg0.N) : t.val < 24 := lt_of_lt_of_eq t.isLt N_0

/-- A block of the rows. -/
theorem rows_at (c : Dev nD) (t : Fin cfg0.N) (r : Fin 1024) (d : Fin 2048) :
    (iblk m c 0 t : FVec Ideal S1024x2048 .bf16) (ix2 r d) = m ((c : Thread nD τ).loc main_arg0) (ix2 ⟨t.val / 3 * 1024 + r.val, by have := lt_24 t; omega⟩ d) := by
  blk_ext [iblk, V, idx t]

/-- A block of the weights. -/
theorem cols_at (c : Dev nD) (t : Fin cfg0.N) (d : Fin 2048) (e : Fin 1024) :
    (iblk m c 1 t : FVec Ideal S2048x1024 .bf16) (ix2 d e) = m ((c : Thread nD τ).loc main_arg1) (ix2 d ⟨t.val % 3 * 1024 + e.val, by omega⟩) := by
  have h : V m c main_v0 = m ((c : Thread nD τ).loc main_arg1) := by entry_read; rfl
  show ((cfg0.win 1).blk t).view.read (Elt Ideal) (V m c main_v0) _ = _
  rw [h]
  generalize m ((c : Thread nD τ).loc main_arg1) = N
  blk_ext [idx t]

/-- The gains, repeated for every head. -/
theorem gain_at (c : Dev nD) (t : Fin cfg0.N) (k : Fin 2) (e : Fin 1024) :
    (iblk m c 2 t : FVec Ideal S2x1024 .f32) (ix2 k e) = m ((c : Thread nD τ).loc main_arg2) (ix2 k ⟨e.val % 128, by omega⟩) := by
  have h : (V m c main_v3 : FVec Ideal S2x1024 .f32) (ix2 k e) = m ((c : Thread nD τ).loc main_arg2) (ix2 k ⟨e.val % 128, by omega⟩) := by
    entry_read
    pointwise
  refine Eq.trans ?_ h
  show ((cfg0.win 2).blk t).view.read (Elt Ideal) (V m c main_v3) _ = _
  generalize V m c main_v3 = N
  blk_ext [idx t]

/-- An element of the product. -/
def prodAt (H : FVec Ideal S8192x2048 .bf16) (W : FVec Ideal S2048x3072 .f32) (r : Fin 8192) (j : Fin 3072) : EReal := ∑ d : Fin 2048, H (ix2 r d) * W (ix2 d j)

/-- An element of a normalised projection. -/
def normAt (H : FVec Ideal S8192x2048 .bf16) (W : FVec Ideal S2048x3072 .f32) (A : FVec Ideal S2x128 .f32) (k : Fin 2) (r : Fin 8192) (e : Fin 1024) : EReal :=
  headNorm (fun d => prodAt H W r ⟨k.val * 1024 + (e.val / 128 * 128 + d.val), by omega⟩) (A (ix2 k ⟨e.val % 128, by omega⟩)) ⟨e.val % 128, by omega⟩

/-- The reference's normalisation at an index. -/
theorem heads_at (P : FVec Ideal S8192x1024 .f32) (g : FVec Ideal Cert.QkvReferenceIdeal.S128 .f32) (r : Fin 8192) (e : Fin 1024) :
    heads P g (ix2 r e) = headNorm (fun d => P (ix2 r ⟨e.val / 128 * 128 + d.val, by omega⟩)) (g (ix1 ⟨e.val % 128, by omega⟩)) ⟨e.val % 128, by omega⟩ := by
  have he : (⟨e.val / 128 * 128 + e.val % 128, by omega⟩ : Fin 1024) = e := Fin.ext (by show e.val / 128 * 128 + e.val % 128 = e.val; omega)
  pointwise [heads, headNorm]
  simp only [he]

theorem qNorm_at (H : FVec Ideal S8192x2048 .bf16) (W : FVec Ideal S2048x3072 .f32) (A : FVec Ideal S2x128 .f32) (r : Fin 8192) (e : Fin 1024) : qNorm H W A (ix2 r e) = normAt H W A 0 r e := by
  refine (heads_at _ _ r e).trans ?_
  unfold normAt
  refine congrArg₂ (fun z g => headNorm z g _) (funext fun d => ?_) ?_
  · pointwise [queries, prod, prodAt]
  · pointwise

theorem kNorm_at (H : FVec Ideal S8192x2048 .bf16) (W : FVec Ideal S2048x3072 .f32) (A : FVec Ideal S2x128 .f32) (r : Fin 8192) (e : Fin 1024) : kNorm H W A (ix2 r e) = normAt H W A 1 r e := by
  refine (heads_at _ _ r e).trans ?_
  unfold normAt
  refine congrArg₂ (fun z g => headNorm z g _) (funext fun d => ?_) ?_
  · pointwise [keys, prod, prodAt]
  · pointwise

theorem vals_at (H : FVec Ideal S8192x2048 .bf16) (W : FVec Ideal S2048x3072 .f32) (r : Fin 8192) (e : Fin 1024) : vals H W (ix2 r e) = prodAt H W r ⟨2048 + e.val, by omega⟩ := by
  pointwise [vals, prod, prodAt]

/-- A product at an index of a point's blocks. -/
theorem prod_point (c : Dev nD) (t : Fin cfg0.N) (r e : Fin 1024) (R : Fin 8192) (hR : R.val = t.val / 3 * 1024 + r.val) (j : Fin 3072) (hj : j.val = t.val % 3 * 1024 + e.val) :
    blockProd (iblk m c 0 t) (iblk m c 1 t) r e = prodAt (m ((c : Thread nD τ).loc main_arg0)) (m ((c : Thread nD τ).loc main_arg1)) R j :=
  Finset.sum_congr rfl fun d _ => congrArg₂ (· * ·)
    ((rows_at m c t r d).trans (congrArg (fun q => m ((c : Thread nD τ).loc main_arg0) (ix2 q d)) (Fin.ext hR.symm)))
    ((cols_at m c t d e).trans (congrArg (fun q => m ((c : Thread nD τ).loc main_arg1) (ix2 d q)) (Fin.ext hj.symm)))

/-- A normalised projection at an index of a point's blocks. -/
theorem norm_point (c : Dev nD) (t : Fin cfg0.N) (k : Fin 2) (hk : t.val % 3 = k.val) (r e : Fin 1024) (R : Fin 8192) (hR : R.val = t.val / 3 * 1024 + r.val) :
    blockNorm (iblk m c 0 t) (iblk m c 1 t) (iblk m c 2 t) k r e = normAt (m ((c : Thread nD τ).loc main_arg0)) (m ((c : Thread nD τ).loc main_arg1)) (m ((c : Thread nD τ).loc main_arg2)) k R e := by
  unfold blockNorm normAt
  rw [gain_at m c t k e]
  refine congrArg (fun z => headNorm z _ _) (funext fun d => prod_point m c t r _ R hR _ ?_)
  rw [hk]

/-- What a point that writes a block back is. -/
theorem last_point (t : Fin cfg0.N) (h : t.val % 3 = 2) : ¬t.val % 3 = 0 ∧ ¬t.val % 3 = 1 ∧ t.val % 3 = 2 ∧ t.val < 24 :=
  ⟨by omega, by omega, h, lt_24 t⟩

/-- The queries that the kernel leaves. -/
theorem q_eq (c : Dev nD) : (dats m 0 c).arrAt 3 cfg0.N = narrow (qNorm (m ((c : Thread nD τ).loc main_arg0)) (m ((c : Thread nD τ).loc main_arg1)) (m ((c : Thread nD τ).loc main_arg2))) := by
  refine (dats m 0 c).arrAt_eq_of_covers 3 _ (by decide +kernel) fun t hf y => ?_
  obtain ⟨h0, h1, h2, ht⟩ := last_point t ((flush0_3 t).mp hf)
  have hy0 : (y 0).val < 1024 := (y 0).isLt
  have hy1 : (y 1).val < 1024 := (y 1).isLt
  have e : (((cfg0.win 3).blk t).view.emb y : S8192x1024.Idx) = ix2 ⟨t.val / 3 * 1024 + (y 0).val, by omega⟩ ⟨(y 1).val, hy1⟩ := by
    blk_ext [idx t]
  blk_simp
  rw [after0_3]
  refine Eq.trans ?_ (congrArg (narrow (qNorm (m ((c : Thread nD τ).loc main_arg0)) (m ((c : Thread nD τ).loc main_arg1)) (m ((c : Thread nD τ).loc main_arg2)))) e.symm)
  refine Eq.trans ?_ (qNorm_at (m ((c : Thread nD τ).loc main_arg0)) (m ((c : Thread nD τ).loc main_arg1)) (m ((c : Thread nD τ).loc main_arg2)) _ _).symm
  have p1 : t.val - 1 < cfg0.N := by have := t.isLt; omega
  have p2 : t.val - 1 - 1 < cfg0.N := by have := t.isLt; omega
  have s : (outsAt0 m c t.val t.isLt).1 = (outsAt0 m c (t.val - 1 - 1) p2).1 :=
    (pass_C m c t h0 h1 h2 p1).1.trans (pass_B m c ⟨t.val - 1, p1⟩ (show ¬(t.val - 1) % 3 = 0 by omega) (show (t.val - 1) % 3 = 1 by omega) (show ¬(t.val - 1) % 3 = 2 by omega) p2)
  refine (congrFun s y).trans ((q_at m c ⟨t.val - 1 - 1, p2⟩ (show (t.val - 1 - 1) % 3 = 0 by omega) (show ¬(t.val - 1 - 1) % 3 = 1 by omega) (show ¬(t.val - 1 - 1) % 3 = 2 by omega) y).trans ?_)
  exact norm_point m c ⟨t.val - 1 - 1, p2⟩ 0 (show (t.val - 1 - 1) % 3 = 0 by omega) (y 0) (y 1) ⟨t.val / 3 * 1024 + (y 0).val, by omega⟩
    (show t.val / 3 * 1024 + (y 0).val = (t.val - 1 - 1) / 3 * 1024 + (y 0).val by omega)

/-- The keys that the kernel leaves. -/
theorem k32_eq (c : Dev nD) : (dats m 0 c).arrAt 4 cfg0.N = kNorm (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨h0, h1, h2, ht⟩ := last_point t ((flush0_4 t).mp hf)
  have hy0 : (y 0).val < 1024 := (y 0).isLt
  have hy1 : (y 1).val < 1024 := (y 1).isLt
  have e : (((cfg0.win 4).blk t).view.emb y : S8192x1024.Idx) = ix2 ⟨t.val / 3 * 1024 + (y 0).val, by omega⟩ ⟨(y 1).val, hy1⟩ := by
    blk_ext [idx t]
  blk_simp
  rw [after0_4]
  refine Eq.trans ?_ (congrArg (kNorm (m ((c : Thread nD τ).loc main_arg0)) (m ((c : Thread nD τ).loc main_arg1)) (m ((c : Thread nD τ).loc main_arg2))) e.symm)
  refine Eq.trans ?_ (kNorm_at (m ((c : Thread nD τ).loc main_arg0)) (m ((c : Thread nD τ).loc main_arg1)) (m ((c : Thread nD τ).loc main_arg2)) _ _).symm
  have p1 : t.val - 1 < cfg0.N := by have := t.isLt; omega
  refine (congrFun (pass_C m c t h0 h1 h2 p1).2.1 y).trans ((k32_at m c ⟨t.val - 1, p1⟩ (show ¬(t.val - 1) % 3 = 0 by omega) (show (t.val - 1) % 3 = 1 by omega) (show ¬(t.val - 1) % 3 = 2 by omega) y).trans ?_)
  exact norm_point m c ⟨t.val - 1, p1⟩ 1 (show (t.val - 1) % 3 = 1 by omega) (y 0) (y 1) ⟨t.val / 3 * 1024 + (y 0).val, by omega⟩
    (show t.val / 3 * 1024 + (y 0).val = (t.val - 1) / 3 * 1024 + (y 0).val by omega)

/-- Their rounded copy. -/
theorem k16_eq (c : Dev nD) : (dats m 0 c).arrAt 5 cfg0.N = narrow (kNorm (m ((c : Thread nD τ).loc main_arg0)) (m ((c : Thread nD τ).loc main_arg1)) (m ((c : Thread nD τ).loc main_arg2))) := by
  refine (dats m 0 c).arrAt_eq_of_covers 5 _ (by decide +kernel) fun t hf y => ?_
  obtain ⟨h0, h1, h2, ht⟩ := last_point t ((flush0_5 t).mp hf)
  have hy0 : (y 0).val < 1024 := (y 0).isLt
  have hy1 : (y 1).val < 1024 := (y 1).isLt
  have e : (((cfg0.win 5).blk t).view.emb y : S8192x1024.Idx) = ix2 ⟨t.val / 3 * 1024 + (y 0).val, by omega⟩ ⟨(y 1).val, hy1⟩ := by
    blk_ext [idx t]
  blk_simp
  rw [after0_5]
  refine Eq.trans ?_ (congrArg (narrow (kNorm (m ((c : Thread nD τ).loc main_arg0)) (m ((c : Thread nD τ).loc main_arg1)) (m ((c : Thread nD τ).loc main_arg2)))) e.symm)
  refine Eq.trans ?_ (kNorm_at (m ((c : Thread nD τ).loc main_arg0)) (m ((c : Thread nD τ).loc main_arg1)) (m ((c : Thread nD τ).loc main_arg2)) _ _).symm
  have p1 : t.val - 1 < cfg0.N := by have := t.isLt; omega
  refine (congrFun (pass_C m c t h0 h1 h2 p1).2.2 y).trans ((k16_at m c ⟨t.val - 1, p1⟩ (show ¬(t.val - 1) % 3 = 0 by omega) (show (t.val - 1) % 3 = 1 by omega) (show ¬(t.val - 1) % 3 = 2 by omega) y).trans ?_)
  exact norm_point m c ⟨t.val - 1, p1⟩ 1 (show (t.val - 1) % 3 = 1 by omega) (y 0) (y 1) ⟨t.val / 3 * 1024 + (y 0).val, by omega⟩
    (show t.val / 3 * 1024 + (y 0).val = (t.val - 1) / 3 * 1024 + (y 0).val by omega)

/-- The values that the kernel leaves. -/
theorem v32_eq (c : Dev nD) : (dats m 0 c).arrAt 6 cfg0.N = vals (m ((c : Thread nD τ).loc main_arg0)) (m ((c : Thread nD τ).loc main_arg1)) := by
  refine (dats m 0 c).arrAt_eq_of_covers 6 _ (by decide +kernel) fun t hf y => ?_
  obtain ⟨h0, h1, h2, ht⟩ := last_point t ((flush0_6 t).mp hf)
  have hy0 : (y 0).val < 1024 := (y 0).isLt
  have hy1 : (y 1).val < 1024 := (y 1).isLt
  have e : (((cfg0.win 6).blk t).view.emb y : S8192x1024.Idx) = ix2 ⟨t.val / 3 * 1024 + (y 0).val, by omega⟩ ⟨(y 1).val, hy1⟩ := by
    blk_ext [idx t]
  blk_simp
  rw [after0_6]
  refine Eq.trans ?_ (congrArg (vals (m ((c : Thread nD τ).loc main_arg0)) (m ((c : Thread nD τ).loc main_arg1))) e.symm)
  refine Eq.trans ?_ (vals_at (m ((c : Thread nD τ).loc main_arg0)) (m ((c : Thread nD τ).loc main_arg1)) _ _).symm
  exact (v32_at m c t h0 h1 h2 y).trans (prod_point m c t (y 0) (y 1) ⟨t.val / 3 * 1024 + (y 0).val, by omega⟩ rfl ⟨2048 + (y 1).val, by omega⟩
    (show 2048 + (y 1).val = t.val % 3 * 1024 + (y 1).val by omega))

/-- Their rounded copy. -/
theorem v16_eq (c : Dev nD) : (dats m 0 c).arrAt 7 cfg0.N = narrow (vals (m ((c : Thread nD τ).loc main_arg0)) (m ((c : Thread nD τ).loc main_arg1))) := by
  refine (dats m 0 c).arrAt_eq_of_covers 7 _ (by decide +kernel) fun t hf y => ?_
  obtain ⟨h0, h1, h2, ht⟩ := last_point t ((flush0_7 t).mp hf)
  have hy0 : (y 0).val < 1024 := (y 0).isLt
  have hy1 : (y 1).val < 1024 := (y 1).isLt
  have e : (((cfg0.win 7).blk t).view.emb y : S8192x1024.Idx) = ix2 ⟨t.val / 3 * 1024 + (y 0).val, by omega⟩ ⟨(y 1).val, hy1⟩ := by
    blk_ext [idx t]
  blk_simp
  rw [after0_7]
  refine Eq.trans ?_ (congrArg (narrow (vals (m ((c : Thread nD τ).loc main_arg0)) (m ((c : Thread nD τ).loc main_arg1)))) e.symm)
  refine Eq.trans ?_ (vals_at (m ((c : Thread nD τ).loc main_arg0)) (m ((c : Thread nD τ).loc main_arg1)) _ _).symm
  exact (v16_at m c t h0 h1 h2 y).trans (prod_point m c t (y 0) (y 1) ⟨t.val / 3 * 1024 + (y 0).val, by omega⟩ rfl ⟨2048 + (y 1).val, by omega⟩
    (show 2048 + (y 1).val = t.val % 3 * 1024 + (y 1).val by omega))

/-- The kernel's run: its results are the reference's functions of the arguments, which stay as they were. -/
theorem run_values (ρ : Dev nD → PrngReg) : θ_run defs (onTc (τ := τ) (main (F := Ideal))) ⟨m, fun _ => 0, ρ⟩ fun r => ∀ c : Dev nD,
      r.2.mem ((c : Thread nD τ).loc main_v4_0) = narrow (qNorm (m ((c : Thread nD τ).loc main_arg0)) (m ((c : Thread nD τ).loc main_arg1)) (m ((c : Thread nD τ).loc main_arg2)))
      ∧ r.2.mem ((c : Thread nD τ).loc main_v4_1) = kNorm (m ((c : Thread nD τ).loc main_arg0)) (m ((c : Thread nD τ).loc main_arg1)) (m ((c : Thread nD τ).loc main_arg2))
      ∧ r.2.mem ((c : Thread nD τ).loc main_v4_2) = narrow (kNorm (m ((c : Thread nD τ).loc main_arg0)) (m ((c : Thread nD τ).loc main_arg1)) (m ((c : Thread nD τ).loc main_arg2)))
      ∧ r.2.mem ((c : Thread nD τ).loc main_v4_3) = vals (m ((c : Thread nD τ).loc main_arg0)) (m ((c : Thread nD τ).loc main_arg1))
      ∧ r.2.mem ((c : Thread nD τ).loc main_v4_4) = narrow (vals (m ((c : Thread nD τ).loc main_arg0)) (m ((c : Thread nD τ).loc main_arg1)))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2)) :=
  (θ_run defs _ _).mono (fun r h c => ⟨((h c).1 3).trans (q_eq m c), ((h c).1 4).trans (k32_eq m c), ((h c).1 5).trans (k16_eq m c),
      ((h c).1 6).trans (v32_eq m c), ((h c).1 7).trans (v16_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Proof.QkvValue

end
-- ==== Proof.NormValue.lean ====
/-
  The normalisation before the projections: the kernel's result is the reference's, element by element. The reference's formula
  is the one of the merge's second result.
-/
module

public import proofs.«01_k».proof.Proof.MergeValue
public import proofs.«01_k».proof.Proof.Gen.NormIdeal.Value
public import proofs.«01_k».proof.Proof.Gen.NormReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.NormValue

open Cert.NormIdeal Cert.NormIdeal.Gen
open Cert.Proof.MergeValue (normed rowNorm normed_at)

variable (m : (ℓ : Loc nD τ sig) → Buf (Elt Ideal) ℓ)

/-- Where the windows stand at a point. -/
theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt N_0

/-- A point's result at an index of its block. -/
theorem out_at (X : FVec Ideal S1024x2048 .f32) (G : FVec Ideal S1x2048 .f32) (r : Fin 1024) (d : Fin 2048) :
    k0_pay1 (F := Ideal) X G (ix2 r d) = rowNorm (fun e => X (ix2 r e)) (G (ix2 0 d)) d := by
  pointwise [k0_pay1, rowNorm]

/-- A block of the rows. -/
theorem rows_at (c : Dev nD) (t : Fin cfg0.N) (r : Fin 1024) (d : Fin 2048) :
    (iblk m c 0 t : FVec Ideal S1024x2048 .f32) (ix2 r d) = m ((c : Thread nD τ).loc main_arg0) (ix2 ⟨t.val * 1024 + r.val, by have := lt_8 t; omega⟩ d) := by
  blk_ext [iblk, V, idx t]

/-- The gain at every point. -/
theorem gain_at (c : Dev nD) (t : Fin cfg0.N) (d : Fin 2048) :
    (iblk m c 1 t : FVec Ideal S1x2048 .f32) (ix2 0 d) = m ((c : Thread nD τ).loc main_arg1) (ix1 d) := by
  have h : (V m c main_v0 : FVec Ideal S1x2048 .f32) (ix2 0 d) = m ((c : Thread nD τ).loc main_arg1) (ix1 d) := by
    entry_read
    pointwise
  refine Eq.trans ?_ h
  show ((cfg0.win 1).blk t).view.read (Elt Ideal) (V m c main_v0) _ = _
  generalize V m c main_v0 = N
  blk_ext [idx t]

/-- The normalised rows that the kernel leaves. -/
theorem norm_eq (c : Dev nD) : (dats m 0 c).arrAt 2 cfg0.N = normed (m ((c : Thread nD τ).loc main_arg0)) (m ((c : Thread nD τ).loc main_arg1)) := by
  refine (dats m 0 c).arrAt_eq_of_covers 2 _ (by decide +kernel) fun t _ y => ?_
  have ht := lt_8 t
  have hy0 : (y 0).val < 1024 := (y 0).isLt
  have hy1 : (y 1).val < 2048 := (y 1).isLt
  have e : (((cfg0.win 2).blk t).view.emb y : S8192x2048.Idx) = ix2 ⟨t.val * 1024 + (y 0).val, by omega⟩ ⟨(y 1).val, hy1⟩ := by
    blk_ext [idx t]
  have ey : y = (ix2 ⟨(y 0).val, hy0⟩ ⟨(y 1).val, hy1⟩ : S1024x2048.Idx) := by blk_ext
  blk_simp
  rw [after0_2]; frame_out
  refine Eq.trans ?_ (congrArg (normed (m ((c : Thread nD τ).loc main_arg0)) (m ((c : Thread nD τ).loc main_arg1))) e.symm)
  refine Eq.trans ?_ (normed_at _ _ _ _).symm
  refine (congrArg _ ey).trans ((out_at _ _ _ _).trans ?_)
  rw [gain_at m c t]
  exact congrArg (fun x => rowNorm x _ _) (funext fun d => rows_at m c t _ d)

end Cert.Proof.NormValue

end
-- ==== Proof.ExpertsValue.lean ====
/-
  The experts of the prompt batch: the kernel's result is the reference's, element by element. A point of the grid adds to 512
  rows of the stream what 1024 experts give; a row of points goes through all 16384.
-/
module

public import proofs.«01_k».proof.Proof.Gen.ExpertsIdeal.Value
public import proofs.«01_k».proof.Proof.Gen.ExpertsReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.ExpertsValue

open Cert.ExpertsIdeal Cert.ExpertsIdeal.Gen

/-- The rows of the thresholds and factors that a point reads: its expert row, whichever the point. -/
theorem off1 (i : grid0.Coords) (r : Fin 8) : k0_off1 i (BitVec.ofNat 32 r.val) = ![0, r.val, 0] := by
  have h : ∀ e : Fin 16, ∀ r : Fin 8, k0_off1 (fun | 0 => (0 : Fin 16) | 1 => e) (BitVec.ofNat 32 r.val) 1 = r.val := by decide +kernel
  exact congrArg (fun x => (![0, x, 0] : Fin 3 → ℕ)) (h (i 1) r : k0_off1 i (BitVec.ofNat 32 r.val) 1 = r.val)

theorem offs (i : grid0.Coords) (r : Fin 8) :
    k0_off2 i (BitVec.ofNat 32 r.val) = ![1, r.val, 0] ∧ k0_off3 i (BitVec.ofNat 32 r.val) = ![2, r.val, 0]
    ∧ k0_off4 i (BitVec.ofNat 32 r.val) = ![3, r.val, 0] ∧ k0_off5 i (BitVec.ofNat 32 r.val) = ![4, r.val, 0]
    ∧ k0_off6 i (BitVec.ofNat 32 r.val) = ![5, r.val, 0] ∧ k0_off7 i (BitVec.ofNat 32 r.val) = ![6, r.val, 0]
    ∧ k0_off8 i (BitVec.ofNat 32 r.val) = ![7, r.val, 0] := by
  have h1 : k0_off1 i (BitVec.ofNat 32 r.val) 1 = r.val := congrFun (off1 i r) 1
  have h : ∀ n : ℕ, (![n, k0_off1 i (BitVec.ofNat 32 r.val) 1, 0] : Fin 3 → ℕ) = ![n, r.val, 0] := fun n => by rw [h1]
  exact ⟨h 1, h 2, h 3, h 4, h 5, h 6, h 7⟩

/-- One head's part of the gate of an expert: the second factor where the second score reaches the threshold, times the first. -/
def kept (thr e0 s1 e1 : EReal) : EReal := (if thr ≤ s1 then e1 else 0) * e0

theorem kept_at (thr e0 : FVec Ideal S1x1x512 .f32) (s1 e1 : FVec Ideal S1x128x512 .f32) (j : Fin 128) (n : Fin 512) :
    k0_pay3 (F := Ideal) thr e0 s1 e1 (ix2 j n) = kept (thr (ix3 0 0 n)) (e0 (ix3 0 0 n)) (s1 (ix3 0 j n)) (e1 (ix3 0 j n)) := by
  pointwise [k0_pay3, kept]

/-- An expert's activation with its gate: `gelu(a) g`, the halved constant and the root of a half as they stand in both programs. -/
def weight (a g : EReal) : EReal :=
  Ideal.ofBits .f32 0x3F000000#32 * a * (1 + Ideal.erf (a * Ideal.ofBits .f32 0x3F3504F3#32)) * g

/-- The gates of a point's experts, one expert row of 128 after another. -/
abbrev cat (g : Fin 8 → FVec Ideal S128x512 .f32) : FVec Ideal S1024x512 .f32 :=
  concatenate S1024x512 0 [⟨S128x512, g 0⟩, ⟨S128x512, g 1⟩, ⟨S128x512, g 2⟩, ⟨S128x512, g 3⟩, ⟨S128x512, g 4⟩, ⟨S128x512, g 5⟩, ⟨S128x512, g 6⟩, ⟨S128x512, g 7⟩]
    concatenates_S128x512_S128x512_S128x512_S128x512_S128x512_S128x512_S128x512_S128x512_S1024x512_d0

theorem pick (g : Fin 8 → FVec Ideal S128x512 .f32) (k : Fin 1024) (n : Fin 512) (q : Fin 8) (a : Fin 128) (h : k.val = q.val * 128 + a.val) :
    g q (ix2 a n) = g ⟨k / 128, by omega⟩ (ix2 ⟨k % 128, by omega⟩ n) := by
  have hq : (⟨k / 128, by omega⟩ : Fin 8) = q := Fin.ext (show k.val / 128 = q.val by omega)
  have ha : (⟨k % 128, by omega⟩ : Fin 128) = a := Fin.ext (show k.val % 128 = a.val by omega)
  rw [hq, ha]

theorem cat_at (g : Fin 8 → FVec Ideal S128x512 .f32) (k : Fin 1024) (n : Fin 512) :
    cat g (ix2 k n) = g ⟨k / 128, by omega⟩ (ix2 ⟨k % 128, by omega⟩ n) := by
  have hk := k.isLt
  pointwise [cat]
  split_ifs
  all_goals (refine pick g k n _ _ ?_; simp <;> omega)

/-- What the experts of a point add: their weights times their values. -/
def part (a : FVec Ideal S1024x512 .f32) (g : Fin 8 → FVec Ideal S128x512 .f32) (v : FVec Ideal S1024x2048 .bf16) (r : Fin 512) (d : Fin 2048) : EReal :=
  ∑ k : Fin 1024, weight (a (ix2 k r)) (g ⟨k / 128, by omega⟩ (ix2 ⟨k % 128, by omega⟩ r)) * v (ix2 k d)

theorem part_at (a : FVec Ideal S1024x512 .f32) (g : Fin 8 → FVec Ideal S128x512 .f32) (p : FVec Ideal S128x512 .f32) (thr e0 : FVec Ideal S1x1x512 .f32)
    (s1 e1 : FVec Ideal S1x128x512 .f32) (v : FVec Ideal S1024x2048 .bf16) (hp : addf p (k0_pay3 thr e0 s1 e1) = g 7) (r : Fin 512) (d : Fin 2048) :
    k0_pay92 (F := Ideal) a (g 0) (g 1) (g 2) (g 3) (g 4) (g 5) (g 6) p thr e0 s1 e1 v (ix2 r d) = part a g v r d := by
  have h : k0_pay92 (F := Ideal) a (g 0) (g 1) (g 2) (g 3) (g 4) (g 5) (g 6) p thr e0 s1 e1 v
      = matmul dot_S512x1024_S1024x2048_S512x2048_1_0_0_1_n_n none
          (truncf .bf16 (transpose S512x1024 [1, 0] (mulf (mulf (mulf (broadcast S1024x512 (Scalar.ofBits .f32 0x3F000000#32)) a)
            (addf (broadcast S1024x512 (Scalar.ofBits .f32 0x3F800000#32)) (erf (mulf a (broadcast S1024x512 (Scalar.ofBits .f32 0x3F3504F3#32)))))) (cat g))
            transposes_S1024x512_p1_0_S512x1024) bitsLt_bf16_f32)
          (shapeCast S1024x2048 v shapeCasts_S1024x2048_S1024x2048) (constant S512x2048 .f32 0x00000000#32) := by rw [cat, ← hp]; rfl
  rw [h]
  generalize hG : cat g = G
  have hG' := fun k n => (congrFun hG (ix2 k n)).symm.trans (cat_at g k n)
  pointwise [part, weight]
  simp only [hG']
  rfl

section

variable (T E : FVec Ideal S8x8x512 .f32) (S W : FVec Ideal S8x128x512 .f32)

/-- A head's part of the gates of an expert row, over the blocks of the tables. -/
def head (h : ℕ) (hb : ∀ a, (![h, 0, 0] : Fin 3 → ℕ) a + S1x128x512.size a ≤ S8x128x512.size a) (o : Fin 3 → ℕ)
    (ho : ∀ a, o a + S1x1x512.size a ≤ S8x8x512.size a) : FVec Ideal S128x512 .f32 :=
  k0_pay3 (F := Ideal)
    (View.ld (Val := Elt Ideal) (e' := .f32) (S := S8x8x512) T (Rect.unit o S1x1x512.size ho))
    (View.ld (Val := Elt Ideal) (e' := .f32) (S := S8x8x512) E (Rect.unit o S1x1x512.size ho))
    (View.ld (Val := Elt Ideal) (e' := .f32) (S := S8x128x512) S (Rect.unit ![h, 0, 0] S1x128x512.size hb))
    (View.ld (Val := Elt Ideal) (e' := .f32) (S := S8x128x512) W (Rect.unit ![h, 0, 0] S1x128x512.size hb))

theorem head_at (h : Fin 8) (hb) (o : Fin 3 → ℕ) (ho) (r : Fin 8) (e : o = ![h.val, r.val, 0]) (j : Fin 128) (n : Fin 512) :
    head T E S W h.val hb o ho (ix2 j n) = kept (T (ix3 h r n)) (E (ix3 h r n)) (S (ix3 h j n)) (W (ix3 h j n)) := by
  subst e
  refine (kept_at _ _ _ _ j n).trans ?_
  have row : ∀ X : FVec Ideal S8x8x512 .f32, View.ld (Val := Elt Ideal) (e' := .f32) (S := S8x8x512) X (Rect.unit ![h.val, r.val, 0] S1x1x512.size ho) (ix3 0 0 n)
      = X (ix3 h r n) := fun X => by
    pointwise
  have col : ∀ X : FVec Ideal S8x128x512 .f32, View.ld (Val := Elt Ideal) (e' := .f32) (S := S8x128x512) X (Rect.unit ![h.val, 0, 0] S1x128x512.size hb) (ix3 0 j n)
      = X (ix3 h j n) := fun X => by
    pointwise
  rw [row, row, col, col]

/-- The gates of an expert row as the kernel adds them up. -/
def gates (i : grid0.Coords) (r : Fin 8) : FVec Ideal S128x512 .f32 :=
  addf (addf (addf (addf (addf (addf (addf
    (head T E S W 0 inb_S8x128x512_S1x128x512_0_0_0 _ (k0_off1_inb i r)) (head T E S W 1 inb_S8x128x512_S1x128x512_1_0_0 _ (k0_off2_inb i r)))
    (head T E S W 2 inb_S8x128x512_S1x128x512_2_0_0 _ (k0_off3_inb i r))) (head T E S W 3 inb_S8x128x512_S1x128x512_3_0_0 _ (k0_off4_inb i r)))
    (head T E S W 4 inb_S8x128x512_S1x128x512_4_0_0 _ (k0_off5_inb i r))) (head T E S W 5 inb_S8x128x512_S1x128x512_5_0_0 _ (k0_off6_inb i r)))
    (head T E S W 6 inb_S8x128x512_S1x128x512_6_0_0 _ (k0_off7_inb i r))) (head T E S W 7 inb_S8x128x512_S1x128x512_7_0_0 _ (k0_off8_inb i r))

/-- The gate of an expert: the sum over the heads of what they keep. -/
theorem gates_at (i : grid0.Coords) (r : Fin 8) (j : Fin 128) (n : Fin 512) :
    gates T E S W i r (ix2 j n) = ∑ h : Fin 8, kept (T (ix3 h r n)) (E (ix3 h r n)) (S (ix3 h j n)) (W (ix3 h j n)) := by
  obtain ⟨o2, o3, o4, o5, o6, o7, o8⟩ := offs i r
  simp only [Fin.sum_univ_eight]
  rw [← head_at T E S W 0 inb_S8x128x512_S1x128x512_0_0_0 _ (k0_off1_inb i r) r (off1 i r),
    ← head_at T E S W 1 inb_S8x128x512_S1x128x512_1_0_0 _ (k0_off2_inb i r) r o2, ← head_at T E S W 2 inb_S8x128x512_S1x128x512_2_0_0 _ (k0_off3_inb i r) r o3,
    ← head_at T E S W 3 inb_S8x128x512_S1x128x512_3_0_0 _ (k0_off4_inb i r) r o4, ← head_at T E S W 4 inb_S8x128x512_S1x128x512_4_0_0 _ (k0_off5_inb i r) r o5,
    ← head_at T E S W 5 inb_S8x128x512_S1x128x512_5_0_0 _ (k0_off6_inb i r) r o6, ← head_at T E S W 6 inb_S8x128x512_S1x128x512_6_0_0 _ (k0_off7_inb i r) r o7,
    ← head_at T E S W 7 inb_S8x128x512_S1x128x512_7_0_0 _ (k0_off8_inb i r) r o8]
  rfl

end

variable (m : (ℓ : Loc nD τ sig) → Buf (Elt Ideal) ℓ)

/-- What a point adds to its rows of the stream. -/
abbrev added (c : Dev nD) (t : Fin cfg0.N) : Fin 512 → Fin 2048 → EReal :=
  part (k0_pay2 (F := Ideal) (iblk m c 2 t) (iblk m c 0 t)) (gates (iblk m c 4 t) (iblk m c 5 t) (iblk m c 6 t) (iblk m c 7 t) (grid0.coords t)) (iblk m c 3 t)

/-- A point's rows of the stream. -/
abbrev stream (c : Dev nD) (t : Fin cfg0.N) : FVec Ideal S512x2048 .f32 := iblk m c 1 t

/-- The first point of a row of points starts from the stream. -/
theorem first (c : Dev nD) (t : Fin cfg0.N) (h0 : t.val % 16 = 0) (r : Fin 512) (d : Fin 2048) :
    outsAt0 m c t.val t.isLt (ix2 r d) = stream m c t (ix2 r d) + added m c t r d := by
  rw [outsAt0_A m c t h0 (by omega)]
  frame_out
  refine congrArg (stream m c t (ix2 r d) + ·) ?_
  exact part_at (k0_pay2 (F := Ideal) (iblk m c 2 t) (iblk m c 0 t)) (gates (iblk m c 4 t) (iblk m c 5 t) (iblk m c 6 t) (iblk m c 7 t) (grid0.coords t)) _ _ _ _ _ (iblk m c 3 t) rfl r d

theorem onto (p : FVec Ideal S512x2048 .f32) (o : FVec Ideal S512x2048 .f32) (r : Fin 512) (d : Fin 2048) :
    k0_pay1 (F := Ideal) p o (ix2 r d) = o (ix2 r d) + p (ix2 r d) := by
  pointwise [k0_pay1]

/-- The others add to what the point before left. -/
theorem next (c : Dev nD) (t : Fin cfg0.N) (h0 : ¬t.val % 16 = 0) (r : Fin 512) (d : Fin 2048) :
    outsAt0 m c t.val t.isLt (ix2 r d) = outsAt0 m c (t.val - 1) (by omega) (ix2 r d) + added m c t r d := by
  rw [outsAt0_B m c t h0 (by omega)]
  frame_out
  refine (onto _ _ r d).trans (congrArg (outsAt0 m c (t.val - 1) _ (ix2 r d) + ·) ?_)
  exact part_at (k0_pay2 (F := Ideal) (iblk m c 2 t) (iblk m c 0 t)) (gates (iblk m c 4 t) (iblk m c 5 t) (iblk m c 6 t) (iblk m c 7 t) (grid0.coords t)) _ _ _ _ _ (iblk m c 3 t) rfl r d

theorem lt_256 (t : Fin cfg0.N) : t.val < 256 := lt_of_lt_of_eq t.isLt N_0

/-- Where the windows stand at a point: its rows, and its experts. -/
theorem idx : ∀ t : Fin cfg0.N, win0_0.index t = ![t.val / 16, 0] ∧ win0_1.index t = ![t.val / 16, 0] ∧ win0_2.index t = ![t.val % 16, 0] ∧ win0_3.index t = ![t.val % 16, 0]
    ∧ win0_4.index t = ![0, t.val % 16, t.val / 16] ∧ win0_5.index t = ![0, t.val % 16, t.val / 16] ∧ win0_6.index t = ![0, 0, t.val / 16] ∧ win0_7.index t = ![0, 0, t.val / 16]
    ∧ win0_8.index t = ![t.val / 16, 0] :=
  (by decide +kernel : ∀ t : Fin grid0.N, _)

/-- A point's row of the whole array, its expert row, and its expert. -/
abbrev rowOf (t : Fin cfg0.N) (r : Fin 512) : Fin 8192 := ⟨t.val / 16 * 512 + r, by have := lt_256 t; omega⟩

theorem rows_at (c : Dev nD) (t : Fin cfg0.N) (r : Fin 512) (d : Fin 2048) :
    (iblk m c 0 t : FVec Ideal S512x2048 .bf16) (ix2 r d) = m ((c : Thread nD τ).loc main_arg0) (ix2 (rowOf t r) d) := by
  blk_ext [iblk, V, idx t]

theorem stream_at (c : Dev nD) (t : Fin cfg0.N) (r : Fin 512) (d : Fin 2048) :
    stream m c t (ix2 r d) = m ((c : Thread nD τ).loc main_arg1) (ix2 (rowOf t r) d) := by
  blk_ext [iblk, V, idx t]

/-- The experts' weights of a point; the narrower type is the same to the ideal program. -/
theorem keys_at (c : Dev nD) (t : Fin cfg0.N) (k : Fin 1024) (d : Fin 2048) :
    (iblk m c 2 t : FVec Ideal S1024x2048 .bf16) (ix2 k d) = m ((c : Thread nD τ).loc main_arg2) (ix2 ⟨t.val % 16 * 1024 + k, by omega⟩ d) := by
  have h : V m c main_v0 = m ((c : Thread nD τ).loc main_arg2) := by entry_read; rfl
  show ((cfg0.win 2).blk t).view.read (Elt Ideal) (V m c main_v0) _ = _
  rw [h]
  generalize m ((c : Thread nD τ).loc main_arg2) = N
  blk_ext [idx t]

theorem values_at (c : Dev nD) (t : Fin cfg0.N) (k : Fin 1024) (d : Fin 2048) :
    (iblk m c 3 t : FVec Ideal S1024x2048 .bf16) (ix2 k d) = m ((c : Thread nD τ).loc main_arg3) (ix2 ⟨t.val % 16 * 1024 + k, by omega⟩ d) := by
  have h : V m c main_v1 = m ((c : Thread nD τ).loc main_arg3) := by entry_read; rfl
  show ((cfg0.win 3).blk t).view.read (Elt Ideal) (V m c main_v1) _ = _
  rw [h]
  generalize m ((c : Thread nD τ).loc main_arg3) = N
  blk_ext [idx t]

theorem thr_at (c : Dev nD) (t : Fin cfg0.N) (h q : Fin 8) (r : Fin 512) :
    (iblk m c 4 t : FVec Ideal S8x8x512 .f32) (ix3 h q r) = m ((c : Thread nD τ).loc main_arg4) (ix3 h ⟨t.val % 16 * 8 + q, by omega⟩ (rowOf t r)) := by
  blk_ext [iblk, V, idx t]

theorem e0_at (c : Dev nD) (t : Fin cfg0.N) (h q : Fin 8) (r : Fin 512) :
    (iblk m c 5 t : FVec Ideal S8x8x512 .f32) (ix3 h q r) = m ((c : Thread nD τ).loc main_arg5) (ix3 h ⟨t.val % 16 * 8 + q, by omega⟩ (rowOf t r)) := by
  blk_ext [iblk, V, idx t]

theorem s1_at (c : Dev nD) (t : Fin cfg0.N) (h : Fin 8) (j : Fin 128) (r : Fin 512) :
    (iblk m c 6 t : FVec Ideal S8x128x512 .f32) (ix3 h j r) = m ((c : Thread nD τ).loc main_arg6) (ix3 h j (rowOf t r)) := by
  blk_ext [iblk, V, idx t]

theorem e1_at (c : Dev nD) (t : Fin cfg0.N) (h : Fin 8) (j : Fin 128) (r : Fin 512) :
    (iblk m c 7 t : FVec Ideal S8x128x512 .f32) (ix3 h j r) = m ((c : Thread nD τ).loc main_arg7) (ix3 h j (rowOf t r)) := by
  blk_ext [iblk, V, idx t]

section

variable (H : FVec Ideal S8192x2048 .bf16) (X : FVec Ideal S8192x2048 .f32) (U Y : FVec Ideal S16384x2048 .f32) (T E S W : FVec Ideal S8x128x8192 .f32)

/-- The gate of an expert in the reference. -/
def gateOf (k : Fin 16384) (n : Fin 8192) : EReal :=
  ∑ h : Fin 8, kept (T (ix3 h ⟨k / 128, by omega⟩ n)) (E (ix3 h ⟨k / 128, by omega⟩ n)) (S (ix3 h ⟨k % 128, by omega⟩ n)) (W (ix3 h ⟨k % 128, by omega⟩ n))

/-- What an expert adds to a row. -/
def given (n : Fin 8192) (d : Fin 2048) (k : Fin 16384) : EReal :=
  weight (∑ q : Fin 2048, H (ix2 n q) * U (ix2 k q)) (gateOf T E S W k n) * Y (ix2 k d)

/-- The reference's stream after the experts. -/
abbrev experts : FVec Ideal S8192x2048 .f32 :=
  addf X (Host.dotGeneral Cert.ExpertsReferenceIdeal.dot_S8192x16384_S16384x2048_S8192x2048_1_0_0_1_n_n none
    (mulf (mulf (mulf (broadcastInDim Cert.ExpertsReferenceIdeal.S8192x16384 ![] Cert.ExpertsReferenceIdeal.Gen.bcast_S_S8192x16384 (constant Cert.ExpertsReferenceIdeal.S_ .f32 0x3F000000#32))
          (Host.dotGeneral Cert.ExpertsReferenceIdeal.dot_S8192x2048_S16384x2048_S8192x16384_1_1_0_0_n_n none (extf .f32 H Cert.ExpertsReferenceIdeal.Gen.bitsLt_bf16_f32) U))
        (addf (broadcastInDim Cert.ExpertsReferenceIdeal.S8192x16384 ![] Cert.ExpertsReferenceIdeal.Gen.bcast_S_S8192x16384 (constant Cert.ExpertsReferenceIdeal.S_ .f32 0x3F800000#32))
          (Host.erf (mulf (Host.dotGeneral Cert.ExpertsReferenceIdeal.dot_S8192x2048_S16384x2048_S8192x16384_1_1_0_0_n_n none (extf .f32 H Cert.ExpertsReferenceIdeal.Gen.bitsLt_bf16_f32) U)
            (broadcastInDim Cert.ExpertsReferenceIdeal.S8192x16384 ![] Cert.ExpertsReferenceIdeal.Gen.bcast_S_S8192x16384 (constant Cert.ExpertsReferenceIdeal.S_ .f32 0x3F3504F3#32))))))
      (transpose Cert.ExpertsReferenceIdeal.S8192x16384 [1, 0] (shapeCast _ (Host.reduceAdd
        (mulf (select (cmpf .oge
              (broadcastInDim Cert.ExpertsReferenceIdeal.S8x128x128x8192 ![0, 1, 2, 3] Cert.ExpertsReferenceIdeal.Gen.bcast_S8x1x128x8192_S8x128x128x8192_0_1_2_3 (broadcastInDim Cert.ExpertsReferenceIdeal.S8x1x128x8192 ![0, 2, 3] Cert.ExpertsReferenceIdeal.Gen.bcast_S8x128x8192_S8x1x128x8192_0_2_3 S))
              (broadcastInDim Cert.ExpertsReferenceIdeal.S8x128x128x8192 ![0, 1, 2, 3] Cert.ExpertsReferenceIdeal.Gen.bcast_S8x128x1x8192_S8x128x128x8192_0_1_2_3 (broadcastInDim Cert.ExpertsReferenceIdeal.S8x128x1x8192 ![0, 1, 3] Cert.ExpertsReferenceIdeal.Gen.bcast_S8x128x8192_S8x128x1x8192_0_1_3 T)))
            (broadcastInDim Cert.ExpertsReferenceIdeal.S8x128x128x8192 ![0, 1, 2, 3] Cert.ExpertsReferenceIdeal.Gen.bcast_S8x1x128x8192_S8x128x128x8192_0_1_2_3 (broadcastInDim Cert.ExpertsReferenceIdeal.S8x1x128x8192 ![0, 2, 3] Cert.ExpertsReferenceIdeal.Gen.bcast_S8x128x8192_S8x1x128x8192_0_2_3 W))
            (broadcastInDim Cert.ExpertsReferenceIdeal.S8x128x128x8192 ![] Cert.ExpertsReferenceIdeal.Gen.bcast_S_S8x128x128x8192 (id (constant Cert.ExpertsReferenceIdeal.S_ .f32 0x00000000#32))))
          (broadcastInDim Cert.ExpertsReferenceIdeal.S8x128x128x8192 ![0, 1, 2, 3] Cert.ExpertsReferenceIdeal.Gen.bcast_S8x128x1x8192_S8x128x128x8192_0_1_2_3 (broadcastInDim Cert.ExpertsReferenceIdeal.S8x128x1x8192 ![0, 1, 3] Cert.ExpertsReferenceIdeal.Gen.bcast_S8x128x8192_S8x128x1x8192_0_1_3 E)))
        (constant Cert.ExpertsReferenceIdeal.S_ .f32 0x00000000#32) Cert.ExpertsReferenceIdeal.Gen.reducesTo_S8x128x128x8192_S128x128x8192_d0 Cert.ExpertsReferenceIdeal.Gen.h_S_)
        Cert.ExpertsReferenceIdeal.Gen.shapeCasts_S128x128x8192_S16384x8192) Cert.ExpertsReferenceIdeal.Gen.transposes_S16384x8192_S8192x16384_1_0)) Y)

/-- The reference at an index. -/
theorem experts_at (n : Fin 8192) (d : Fin 2048) : experts H X U Y T E S W (ix2 n d) = X (ix2 n d) + ∑ k : Fin 16384, given H U Y T E S W n d k := by
  pointwise [experts, given, weight, gateOf, kept]
  have z : id (constant (F := Ideal) Cert.ExpertsReferenceIdeal.S_ .f32 0x00000000#32) ix0 = (0 : EReal) := Ideal.ofBits_zero_f32
  rw [z]

end

/-- A sum over 1024 experts of all, and the sum over all, 1024 after 1024. -/
def chunk (f : Fin 16384 → EReal) (e : ℕ) : EReal := ∑ k : Fin 1024, f ⟨e % 16 * 1024 + k, by omega⟩

theorem chunk_mod (f : Fin 16384 → EReal) (e : ℕ) : chunk f (e % 16) = chunk f e := by
  simp only [chunk, Nat.mod_mod]

theorem chunks (f : Fin 16384 → EReal) : ∑ e ∈ Finset.range 16, chunk f e = ∑ k : Fin 16384, f k := by
  rw [Finset.sum_range]
  simp only [chunk]
  rw [← Fintype.sum_prod_type' (f := fun (e : Fin 16) (k : Fin 1024) => f ⟨e.val % 16 * 1024 + k, by omega⟩)]
  refine Fintype.sum_equiv (finProdFinEquiv (m := 16) (n := 1024)) _ _ fun x => congrArg f (Fin.ext ?_)
  have hx := x.1.isLt
  show x.1.val % 16 * 1024 + x.2.val = x.2.val + 1024 * x.1.val
  omega

variable (c : Dev nD)

/-- The stream before the experts. -/
abbrev before : FVec Ideal S8192x2048 .f32 := m ((c : Thread nD τ).loc main_arg1)

/-- What each expert gives a row, from the program's arguments. -/
abbrev giveTo (n : Fin 8192) (d : Fin 2048) : Fin 16384 → EReal :=
  given (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) n d

theorem act_at (U : FVec Ideal S1024x2048 .bf16) (H : FVec Ideal S512x2048 .bf16) (k : Fin 1024) (r : Fin 512) :
    k0_pay2 (F := Ideal) U H (ix2 k r) = ∑ q : Fin 2048, H (ix2 r q) * U (ix2 k q) := by
  pointwise [k0_pay2]
  exact Finset.sum_congr rfl fun q _ => mul_comm _ _

/-- A point adds what its experts give. -/
theorem added_at (t : Fin cfg0.N) (r : Fin 512) (d : Fin 2048) :
    added m c t r d = chunk (giveTo m c (rowOf t r) d) t := by
  refine Finset.sum_congr rfl fun k _ => congrArg₂ (· * ·) (congrArg₂ weight ?_ ?_) (values_at m c t k d)
  · refine (act_at _ _ k r).trans (Finset.sum_congr rfl fun q _ => congrArg₂ (· * ·) (rows_at m c t r q) (keys_at m c t k q))
  · have hd : (⟨(t.val % 16 * 1024 + k.val) / 128, by omega⟩ : Fin 128) = ⟨t.val % 16 * 8 + k.val / 128, by omega⟩ := Fin.ext (show (t.val % 16 * 1024 + k.val) / 128 = t.val % 16 * 8 + k.val / 128 by omega)
    have hm : (⟨(t.val % 16 * 1024 + k.val) % 128, by omega⟩ : Fin 128) = ⟨k.val % 128, by omega⟩ := Fin.ext (show (t.val % 16 * 1024 + k.val) % 128 = k.val % 128 by omega)
    rw [gates_at, gateOf, hd, hm]
    refine Finset.sum_congr rfl fun h _ => ?_
    rw [thr_at m c t, e0_at m c t, s1_at m c t, e1_at m c t]

/-- After a point, the rows hold the stream and what the experts so far give. -/
theorem held (n : ℕ) (hn : n < cfg0.N) (r : Fin 512) (d : Fin 2048) :
    outsAt0 m c n hn (ix2 r d) = before m c (ix2 (rowOf ⟨n, hn⟩ r) d)
      + ∑ e ∈ Finset.range (n % 16 + 1), chunk (giveTo m c (rowOf ⟨n, hn⟩ r) d) e := by
  have start : ∀ t : Fin cfg0.N, t.val % 16 = 0 → outsAt0 m c t.val t.isLt (ix2 r d) = before m c (ix2 (rowOf t r) d)
      + ∑ e ∈ Finset.range (t.val % 16 + 1), chunk (giveTo m c (rowOf t r) d) e := fun t h0 => by
    refine (first m c t h0 r d).trans (congrArg₂ (· + ·) (stream_at m c t r d) ((added_at m c t r d).trans ?_))
    rw [h0, Finset.sum_range_one, ← chunk_mod, h0]
  induction n with
  | zero => exact start ⟨0, hn⟩ rfl
  | succ n ih =>
    by_cases h0 : (n + 1) % 16 = 0
    · exact start ⟨n + 1, hn⟩ h0
    · have hr : rowOf ⟨n, by omega⟩ r = rowOf ⟨n + 1, hn⟩ r := Fin.ext (show n / 16 * 512 + r.val = (n + 1) / 16 * 512 + r.val by omega)
      have he : (n + 1) % 16 = n % 16 + 1 := by omega
      refine (next m c ⟨n + 1, hn⟩ h0 r d).trans ((congrArg₂ (· + ·) (ih (by omega)) (added_at m c ⟨n + 1, hn⟩ r d)).trans ?_)
      rw [hr, add_assoc, Finset.sum_range_succ _ ((n + 1) % 16), chunk_mod, he]

/-- The stream that the kernel leaves. -/
theorem experts_eq : (dats m 0 c).arrAt 8 cfg0.N
    = experts (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht := lt_256 t
  have hl : t.val % 16 = 15 := (flush0_8 t).mp hf
  have hy0 : (y 0).val < 512 := (y 0).isLt
  have hy1 : (y 1).val < 2048 := (y 1).isLt
  have e : (((cfg0.win 8).blk t).view.emb y : S8192x2048.Idx) = ix2 (rowOf t ⟨(y 0).val, hy0⟩) ⟨(y 1).val, hy1⟩ := by
    blk_ext [idx t]
  have ey : y = (ix2 ⟨(y 0).val, hy0⟩ ⟨(y 1).val, hy1⟩ : S512x2048.Idx) := by blk_ext
  blk_simp
  rw [after0_8]
  refine Eq.trans ?_ (congrArg (experts _ _ _ _ _ _ _ _) e.symm)
  refine Eq.trans ?_ (experts_at _ _ _ _ _ _ _ _ _ _).symm
  refine (congrArg _ ey).trans ((held m c t.val t.isLt _ _).trans ?_)
  rw [hl]
  exact congrArg (_ + ·) (chunks _)

end Cert.Proof.ExpertsValue

end
-- ==== Proof.LayerValue.lean ====
/-
  From the layer's input to two of its results, the log forget gates and the indexer's keys. The normalisation and the small
  projections one after the other, and the columns taken out of what they leave, are what the reference states of the layer's
  input: the first call leaves the normalised rows, which the second finds as its own input.
-/
module

public import proofs.«01_k».proof.Proof.NormValue
public import proofs.«01_k».proof.Proof.SmallValue
public import proofs.«01_k».proof.Proof.Gen.LayerIdeal.Frame
public import proofs.«01_k».proof.Proof.Gen.LayerReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.LayerValue

open Cert.LayerIdeal Cert.LayerIdeal.Gen
open Cert.Proof.MergeValue (normed rowNorm normed_at)
open Cert.Proof.SmallValue (small smallAt small_at weights weights_at weightAt bias bias_at_col biasAt lsig)

/-- The reference's normalisation of the input, batch by batch. -/
def batchNorm (X : FVec Ideal Cert.LayerReferenceIdeal.S4x2048x2048 .f32) (G : FVec Ideal Cert.LayerReferenceIdeal.S2048 .f32) : FVec Ideal Cert.LayerReferenceIdeal.S4x2048x2048 .f32 :=
  mulf (mulf X (broadcastInDim Cert.LayerReferenceIdeal.S4x2048x2048 ![0, 1, 2] Cert.LayerReferenceIdeal.Gen.bcast_S4x2048x1_S4x2048x2048_0_1_2 (Host.rsqrt (addf (Host.divf (broadcastInDim Cert.LayerReferenceIdeal.S4x2048x1 ![0, 1] Cert.LayerReferenceIdeal.Gen.bcast_S4x2048_S4x2048x1_0_1 (Host.reduceAdd (mulf X X) (constant Cert.LayerReferenceIdeal.S_ .f32 0x00000000#32) Cert.LayerReferenceIdeal.Gen.reducesTo_S4x2048x2048_S4x2048_d2 Cert.LayerReferenceIdeal.Gen.h_S_)) (broadcastInDim Cert.LayerReferenceIdeal.S4x2048x1 ![] Cert.LayerReferenceIdeal.Gen.bcast_S_S4x2048x1 (constant Cert.LayerReferenceIdeal.S_ .f32 0x45000000#32))) (broadcastInDim Cert.LayerReferenceIdeal.S4x2048x1 ![] Cert.LayerReferenceIdeal.Gen.bcast_S_S4x2048x1 (constant Cert.LayerReferenceIdeal.S_ .f32 0x358637BD#32)))))) (broadcastInDim Cert.LayerReferenceIdeal.S4x2048x2048 ![0, 1, 2] Cert.LayerReferenceIdeal.Gen.bcast_S1x1x2048_S4x2048x2048_0_1_2 (broadcastInDim Cert.LayerReferenceIdeal.S1x1x2048 ![2] Cert.LayerReferenceIdeal.Gen.bcast_S2048_S1x1x2048_2 G))

/-- The reference's projection of the normalised input by all columns of the weights. -/
def projected (X : FVec Ideal Cert.LayerReferenceIdeal.S4x2048x2048 .f32) (G : FVec Ideal Cert.LayerReferenceIdeal.S2048 .f32) (W : FVec Ideal Cert.LayerReferenceIdeal.S2048x11352 .f32) : FVec Ideal Cert.LayerReferenceIdeal.S4x2048x11352 .f32 :=
  Host.dotGeneral Cert.LayerReferenceIdeal.dot_S4x2048x2048_S2048x11352_S4x2048x11352_2_0_01_1_n_n none (batchNorm X G) W

/-- The logarithm of the logistic function, as the reference states it, batch by batch. -/
def logSigmoid (Z : FVec Ideal Cert.LayerReferenceIdeal.S4x2048x8 .f32) : FVec Ideal Cert.LayerReferenceIdeal.S4x2048x8 .f32 :=
  Host.negf (select (cmpf .une (subf (Host.negf Z) (broadcastInDim Cert.LayerReferenceIdeal.S4x2048x8 ![] Cert.LayerReferenceIdeal.Gen.bcast_S_S4x2048x8 (constant Cert.LayerReferenceIdeal.S_ .f32 0x00000000#32))) (subf (Host.negf Z) (broadcastInDim Cert.LayerReferenceIdeal.S4x2048x8 ![] Cert.LayerReferenceIdeal.Gen.bcast_S_S4x2048x8 (constant Cert.LayerReferenceIdeal.S_ .f32 0x00000000#32)))) (addf (Host.negf Z) (broadcastInDim Cert.LayerReferenceIdeal.S4x2048x8 ![] Cert.LayerReferenceIdeal.Gen.bcast_S_S4x2048x8 (constant Cert.LayerReferenceIdeal.S_ .f32 0x00000000#32))) (addf (maximumf (Host.negf Z) (broadcastInDim Cert.LayerReferenceIdeal.S4x2048x8 ![] Cert.LayerReferenceIdeal.Gen.bcast_S_S4x2048x8 (constant Cert.LayerReferenceIdeal.S_ .f32 0x00000000#32))) (Host.log1p (Host.exp (Host.negf (Host.absf (subf (Host.negf Z) (broadcastInDim Cert.LayerReferenceIdeal.S4x2048x8 ![] Cert.LayerReferenceIdeal.Gen.bcast_S_S4x2048x8 (constant Cert.LayerReferenceIdeal.S_ .f32 0x00000000#32)))))))))

/-- The gates before the logistic function. -/
def gateInput (P : FVec Ideal Cert.LayerReferenceIdeal.S4x2048x11352 .f32) (B : FVec Ideal Cert.LayerReferenceIdeal.S8 .f32) : FVec Ideal Cert.LayerReferenceIdeal.S4x2048x8 .f32 :=
  addf (extractStridedSlice Cert.LayerReferenceIdeal.S4x2048x8 ![0, 0, 3072] P Cert.LayerReferenceIdeal.Gen.slices_S4x2048x11352_S4x2048x8_0_0_3072) (broadcastInDim Cert.LayerReferenceIdeal.S4x2048x8 ![0, 1, 2] Cert.LayerReferenceIdeal.Gen.bcast_S1x1x8_S4x2048x8_0_1_2 (broadcastInDim Cert.LayerReferenceIdeal.S1x1x8 ![2] Cert.LayerReferenceIdeal.Gen.bcast_S8_S1x1x8_2 B))

/-- The reference's log forget gates. -/
def refGates (P : FVec Ideal Cert.LayerReferenceIdeal.S4x2048x11352 .f32) (B : FVec Ideal Cert.LayerReferenceIdeal.S8 .f32) : FVec Ideal Cert.LayerReferenceIdeal.S1x4x2048x8 .f32 :=
  broadcastInDim Cert.LayerReferenceIdeal.S1x4x2048x8 ![1, 2, 3] Cert.LayerReferenceIdeal.Gen.bcast_S4x2048x8_S1x4x2048x8_1_2_3 (logSigmoid (gateInput P B))

/-- The reference's keys of the indexer. -/
def refKeys (P : FVec Ideal Cert.LayerReferenceIdeal.S4x2048x11352 .f32) : FVec Ideal Cert.LayerReferenceIdeal.S1x4x2048x64 .f32 :=
  broadcastInDim Cert.LayerReferenceIdeal.S1x4x2048x64 ![1, 2, 3] Cert.LayerReferenceIdeal.Gen.bcast_S4x2048x64_S1x4x2048x64_1_2_3 (extractStridedSlice Cert.LayerReferenceIdeal.S4x2048x64 ![0, 0, 7176] P Cert.LayerReferenceIdeal.Gen.slices_S4x2048x11352_S4x2048x64_0_0_7176)

theorem batchNorm_at (X : FVec Ideal Cert.LayerReferenceIdeal.S4x2048x2048 .f32) (G : FVec Ideal Cert.LayerReferenceIdeal.S2048 .f32) (b : Fin 4) (t d : Fin 2048) :
    batchNorm X G (ix3 b t d) = rowNorm (fun e => X (ix3 b t e)) (G (ix1 d)) d := by
  pointwise [batchNorm, rowNorm]

theorem projected_at (X : FVec Ideal Cert.LayerReferenceIdeal.S4x2048x2048 .f32) (G : FVec Ideal Cert.LayerReferenceIdeal.S2048 .f32) (W : FVec Ideal Cert.LayerReferenceIdeal.S2048x11352 .f32) (b : Fin 4) (t : Fin 2048) (e : Fin 11352) :
    projected X G W (ix3 b t e) = ∑ d : Fin 2048, rowNorm (fun d => X (ix3 b t d)) (G (ix1 d)) d * W (ix2 d e) := by
  have h := fun d => batchNorm_at X G b t d
  unfold projected
  generalize batchNorm X G = N at h ⊢
  refine Eq.trans ?_ (Finset.sum_congr rfl fun d _ => congrArg (· * W (ix2 d e)) (h d))
  pointwise

theorem logSigmoid_at (Z : FVec Ideal Cert.LayerReferenceIdeal.S4x2048x8 .f32) (b : Fin 4) (t : Fin 2048) (e : Fin 8) : logSigmoid Z (ix3 b t e) = lsig (Z (ix3 b t e)) := by
  refine Eq.trans ?_ (SmallValue.lsig_eq _)
  pointwise [logSigmoid]
  rw [if_neg (by simp)]
  rfl

theorem refGates_at (P : FVec Ideal Cert.LayerReferenceIdeal.S4x2048x11352 .f32) (B : FVec Ideal Cert.LayerReferenceIdeal.S8 .f32) (b : Fin 4) (t : Fin 2048) (e : Fin 8) :
    refGates P B (ix4 0 b t e) = lsig (P (ix3 b t ⟨3072 + e.val, by omega⟩) + B (ix1 e)) := by
  have L := logSigmoid_at (gateInput P B) b t e
  unfold refGates
  generalize logSigmoid _ = Y at L ⊢
  refine Eq.trans ?_ (L.trans (congrArg lsig ?_))
  · pointwise
  · pointwise [gateInput]

theorem refKeys_at (P : FVec Ideal Cert.LayerReferenceIdeal.S4x2048x11352 .f32) (b : Fin 4) (t : Fin 2048) (e : Fin 64) :
    refKeys P (ix4 0 b t e) = P (ix3 b t ⟨7176 + e.val, by omega⟩) := by
  pointwise [refKeys]

/-- The input's rows, one batch after the other. -/
def rowsOf (X : FVec Ideal S4x2048x2048 .f32) : FVec Ideal S8192x2048 .f32 := shapeCast _ X shapeCasts_S4x2048x2048_S8192x2048

/-- The gain of the one layer. -/
def gainOf (G : FVec Ideal S1x2048 .f32) : FVec Ideal S2048 .f32 := shapeCast _ G shapeCasts_S1x2048_S2048

/-- The weights of the one layer, and their columns for keys, heads and gates. -/
def layerOf (W : FVec Ideal S1x2048x11352 .f32) : FVec Ideal S2048x11352 .f32 := shapeCast _ W shapeCasts_S1x2048x11352_S2048x11352

def keyCols (W : FVec Ideal S1x2048x11352 .f32) : FVec Ideal S2048x64 .f32 := extractStridedSlice S2048x64 ![0, 7176] (layerOf W) slices_S2048x11352_S2048x64_0_7176

def headCols (W : FVec Ideal S1x2048x11352 .f32) : FVec Ideal S2048x16 .f32 := extractStridedSlice S2048x16 ![0, 7240] (layerOf W) slices_S2048x11352_S2048x16_0_7240

def gateCols (W : FVec Ideal S1x2048x11352 .f32) : FVec Ideal S2048x8 .f32 := extractStridedSlice S2048x8 ![0, 3072] (layerOf W) slices_S2048x11352_S2048x8_0_3072

/-- The bias of the one layer. -/
def biasOf (B : FVec Ideal S1x8 .f32) : FVec Ideal S8 .f32 := shapeCast _ B shapeCasts_S1x8_S8

/-- What the two calls make of the layer's arguments. -/
def sides (X : FVec Ideal S4x2048x2048 .f32) (G : FVec Ideal S1x2048 .f32) (W : FVec Ideal S1x2048x11352 .f32) (B : FVec Ideal S1x8 .f32) : FVec Ideal S8192x128 .f32 :=
  small (normed (rowsOf X) (gainOf G)) (keyCols W) (headCols W) (gateCols W) (biasOf B)

/-- The log forget gates taken out of the projections. -/
def gates (A : FVec Ideal S8192x128 .f32) : FVec Ideal S1x4x2048x8 .f32 :=
  broadcastInDim S1x4x2048x8 ![1, 2, 3] bcast_S4x2048x8_S1x4x2048x8_1_2_3 (shapeCast _ (extractStridedSlice S8192x8 ![0, 80] A slices_S8192x128_S8192x8_0_80) shapeCasts_S8192x8_S4x2048x8)

/-- The keys of the indexer taken out of the projections. -/
def keys (A : FVec Ideal S8192x128 .f32) : FVec Ideal S1x4x2048x64 .f32 :=
  broadcastInDim S1x4x2048x64 ![1, 2, 3] bcast_S4x2048x64_S1x4x2048x64_1_2_3 (shapeCast _ (extractStridedSlice S8192x64 ![0, 0] A slices_S8192x128_S8192x64_0_0) shapeCasts_S8192x64_S4x2048x64)

theorem rowsOf_at (X : FVec Ideal S4x2048x2048 .f32) (b : Fin 4) (t d : Fin 2048) :
    rowsOf X (ix2 ⟨b.val * 2048 + t.val, by omega⟩ d) = X (ix3 b t d) := by
  pointwise [rowsOf]

theorem gates_at (A : FVec Ideal S8192x128 .f32) (b : Fin 4) (t : Fin 2048) (e : Fin 8) :
    gates A (ix4 0 b t e) = A (ix2 ⟨b.val * 2048 + t.val, by omega⟩ ⟨80 + e.val, by omega⟩) := by
  pointwise [gates]

theorem keys_at (A : FVec Ideal S8192x128 .f32) (b : Fin 4) (t : Fin 2048) (e : Fin 64) :
    keys A (ix4 0 b t e) = A (ix2 ⟨b.val * 2048 + t.val, by omega⟩ ⟨e.val, by omega⟩) := by
  pointwise [keys]

/-- A projection's element, of the row of a batch. -/
theorem row_sum (X : FVec Ideal S4x2048x2048 .f32) (G : FVec Ideal S1x2048 .f32) (b : Fin 4) (t : Fin 2048) (w : Fin 2048 → EReal) :
    ∑ d : Fin 2048, normed (rowsOf X) (gainOf G) (ix2 ⟨b.val * 2048 + t.val, by omega⟩ d) * w d
    = ∑ d : Fin 2048, rowNorm (fun d => X (ix3 b t d)) (gainOf G (ix1 d)) d * w d := by
  refine Finset.sum_congr rfl fun d _ => congrArg (· * w d) ?_
  rw [normed_at]
  exact congrArg (fun x => rowNorm x _ d) (funext fun d => rowsOf_at X b t d)

/-- The gates are the reference's. -/
theorem gates_eq (X : FVec Ideal S4x2048x2048 .f32) (G : FVec Ideal S1x2048 .f32) (W : FVec Ideal S1x2048x11352 .f32) (B : FVec Ideal S1x8 .f32) :
    gates (sides X G W B) = refGates (projected X (gainOf G) (layerOf W)) (biasOf B) := by
  funext i
  obtain ⟨b, t, e, rfl⟩ : ∃ (b : Fin 4) (t : Fin 2048) (e : Fin 8), i = ix4 0 b t e := ⟨i 1, i 2, i 3, by blk_ext⟩
  rw [gates_at, refGates_at, sides, small_at, projected_at]
  unfold smallAt
  rw [if_pos (by constructor <;> simp <;> omega), row_sum]
  refine congrArg lsig (congrArg₂ (· + ·) (Finset.sum_congr rfl fun d _ => congrArg₂ (fun a b : EReal => a * b) rfl ?_) ?_)
  · unfold weightAt
    rw [dif_neg (by simp; omega), dif_neg (by simp), dif_pos (by simp; omega)]
    pointwise [gateCols]
  · unfold biasAt
    rw [dif_pos (by constructor <;> simp <;> omega)]
    exact congrArg (fun k => biasOf B (ix1 k)) (Fin.ext (by simp))

/-- The keys are the reference's. -/
theorem keys_eq (X : FVec Ideal S4x2048x2048 .f32) (G : FVec Ideal S1x2048 .f32) (W : FVec Ideal S1x2048x11352 .f32) (B : FVec Ideal S1x8 .f32) :
    keys (sides X G W B) = refKeys (projected X (gainOf G) (layerOf W)) := by
  funext i
  obtain ⟨b, t, e, rfl⟩ : ∃ (b : Fin 4) (t : Fin 2048) (e : Fin 64), i = ix4 0 b t e := ⟨i 1, i 2, i 3, by blk_ext⟩
  rw [keys_at, refKeys_at, sides, small_at, projected_at]
  unfold smallAt
  rw [if_neg (by simp; omega), row_sum]
  refine Finset.sum_congr rfl fun d _ => congrArg₂ (fun a b : EReal => a * b) rfl ?_
  unfold weightAt
  rw [dif_pos (by simp)]
  pointwise [keyCols]

variable (m : (ℓ : Loc nD τ sig) → Buf (Elt Ideal) ℓ) (ρ : Dev nD → PrngReg)

/-- What the host takes out of the second call's array. -/
theorem out_gates (c : Dev nD) : W5 m ρ c (Proc.devRef .tc main_v23) = gates ((dat1 (V3 m ρ) c).arrAt 3 cfg1.N) := by
  have h : W5 m ρ c (Proc.devRef .tc main_v23) = gates (W4 m ρ c (Proc.devRef .tc main_v18)) := rfl
  rw [h]
  exact congrArg gates (W4_arr m ρ c 3)

theorem out_keys (c : Dev nD) : W5 m ρ c (Proc.devRef .tc main_v24) = keys ((dat1 (V3 m ρ) c).arrAt 3 cfg1.N) := by
  have h : W5 m ρ c (Proc.devRef .tc main_v24) = keys (W4 m ρ c (Proc.devRef .tc main_v18)) := rfl
  rw [h]
  exact congrArg keys (W4_arr m ρ c 3)

set_option backward.isDefEq.respectTransparency.types false in
/-- The run of the two calls, with the array that the second one leaves. -/
theorem run : θ_run defs (onTc (τ := τ) (main (F := Ideal))) ⟨m, fun _ => 0, ρ⟩ (fun r => ∀ c : Dev nD,
      r.2.mem ((c.tc : Thread nD τ).loc main_v23) = gates ((dat1 (V3 m ρ) c).arrAt 3 cfg1.N)
      ∧ r.2.mem ((c.tc : Thread nD τ).loc main_v24) = keys ((dat1 (V3 m ρ) c).arrAt 3 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v23 (by decide))).trans (out_gates m ρ c),
      (h c _ (mem_uc main_v24 (by decide))).trans (out_keys m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩)

/-- Where the windows of the normalisation stand at a point. -/
theorem idx0 : ∀ t : Fin cfg0.N, win0_0.index t = ![t.val, 0] ∧ win0_1.index t = ![0, 0] ∧ win0_2.index t = ![t.val, 0] :=
  (by decide +kernel : ∀ t : Fin grid0.N, _)

/-- Where the windows of the projections stand at a point. -/
theorem idx1 : ∀ t : Fin cfg1.N, win1_0.index t = ![t.val, 0] ∧ win1_1.index t = ![0, 0] ∧ win1_2.index t = ![0, 0] ∧ win1_3.index t = ![t.val, 0] :=
  (by decide +kernel : ∀ t : Fin grid1.N, _)

theorem lt0 (t : Fin cfg0.N) : t.val < 8 := lt_of_lt_of_eq t.isLt N_0

theorem lt1 (t : Fin cfg1.N) : t.val < 8 := lt_of_lt_of_eq t.isLt N_1

/-- A block of the input's rows. -/
theorem input_at (c : Dev nD) (t : Fin cfg0.N) (r : Fin 1024) (d : Fin 2048) :
    (iblk0 (V1 m ρ) c 0 t : FVec Ideal S1024x2048 .f32) (ix2 r d) = rowsOf (m ((c : Thread nD τ).loc main_arg0)) (ix2 ⟨t.val * 1024 + r.val, by have := lt0 t; omega⟩ d) := by
  show ((cfg0.win 0).blk t).view.read (Elt Ideal) (V1 m ρ c main_v0) _ = _
  rw [show V1 m ρ c main_v0 = rowsOf (m ((c : Thread nD τ).loc main_arg0)) from rfl]
  generalize rowsOf (m ((c : Thread nD τ).loc main_arg0)) = N
  blk_ext [idx0 t]

/-- The gain at every point. -/
theorem gain_at (c : Dev nD) (t : Fin cfg0.N) (d : Fin 2048) :
    (iblk0 (V1 m ρ) c 1 t : FVec Ideal S1x2048 .f32) (ix2 0 d) = gainOf (m ((c : Thread nD τ).loc main_arg1)) (ix1 d) := by
  have h : (V1 m ρ c main_v2 : FVec Ideal S1x2048 .f32) (ix2 0 d) = gainOf (m ((c : Thread nD τ).loc main_arg1)) (ix1 d) := by
    rw [show V1 m ρ c main_v2 = (shapeCast _ (gainOf (m ((c : Thread nD τ).loc main_arg1))) shapeCasts_S2048_S1x2048 : FVec Ideal S1x2048 .f32) from rfl]
    generalize gainOf (m ((c : Thread nD τ).loc main_arg1)) = N
    pointwise
  refine Eq.trans ?_ h
  show ((cfg0.win 1).blk t).view.read (Elt Ideal) (V1 m ρ c main_v2) _ = _
  generalize V1 m ρ c main_v2 = N
  blk_ext [idx0 t]

/-- The normalised rows that the first call leaves. -/
theorem norm_of (c : Dev nD) (X : FVec Ideal S8192x2048 .f32) (G : FVec Ideal S2048 .f32)
    (hX : ∀ (t : Fin cfg0.N) (r : Fin 1024) (d : Fin 2048), (iblk0 (V1 m ρ) c 0 t : FVec Ideal S1024x2048 .f32) (ix2 r d) = X (ix2 ⟨t.val * 1024 + r.val, by have := lt0 t; omega⟩ d))
    (hG : ∀ (t : Fin cfg0.N) (d : Fin 2048), (iblk0 (V1 m ρ) c 1 t : FVec Ideal S1x2048 .f32) (ix2 0 d) = G (ix1 d)) : (dat0 (V1 m ρ) c).arrAt 2 cfg0.N = normed X G := by
  refine (dat0 (V1 m ρ) c).arrAt_eq_of_covers 2 _ (by decide +kernel) fun t _ y => ?_
  have ht := lt0 t
  have hy0 : (y 0).val < 1024 := (y 0).isLt
  have hy1 : (y 1).val < 2048 := (y 1).isLt
  have e : (((cfg0.win 2).blk t).view.emb y : S8192x2048.Idx) = ix2 ⟨t.val * 1024 + (y 0).val, by omega⟩ ⟨(y 1).val, hy1⟩ := by
    blk_ext [idx0 t]
  have ey : y = (ix2 ⟨(y 0).val, hy0⟩ ⟨(y 1).val, hy1⟩ : S1024x2048.Idx) := by blk_ext
  blk_simp
  rw [after0_2]; frame_out
  refine Eq.trans ?_ (congrArg (normed X G) e.symm)
  refine Eq.trans ?_ (normed_at _ _ _ _).symm
  refine (congrArg _ ey).trans ((NormValue.out_at _ _ _ _).trans ?_)
  rw [hG t]
  simp only [shapeCast_self]
  exact congrArg (fun x => rowNorm x _ _) (funext fun d => hX t _ d)

theorem norm_eq (c : Dev nD) : (dat0 (V1 m ρ) c).arrAt 2 cfg0.N = normed (rowsOf (m ((c : Thread nD τ).loc main_arg0))) (gainOf (m ((c : Thread nD τ).loc main_arg1))) :=
  norm_of m ρ c _ _ (input_at m ρ c) (gain_at m ρ c)

/-- What the second call finds: the rows that the first one left, the weights and the bias. -/
theorem found_rows (c : Dev nD) : V3 m ρ c main_v3 = normed (rowsOf (m ((c : Thread nD τ).loc main_arg0))) (gainOf (m ((c : Thread nD τ).loc main_arg1))) :=
  (W3_of m ρ c main_v3 (by decide)).trans ((W2_arr m ρ c 2).trans (norm_eq m ρ c))

theorem found_weights (c : Dev nD) : V3 m ρ c main_v13 = weights (keyCols (m ((c : Thread nD τ).loc main_arg2))) (headCols (m ((c : Thread nD τ).loc main_arg2))) (gateCols (m ((c : Thread nD τ).loc main_arg2))) := by
  have h : V3 m ρ c main_v13 = weights (keyCols (V2 m ρ c main_arg2)) (headCols (V2 m ρ c main_arg2)) (gateCols (V2 m ρ c main_arg2)) := rfl
  rw [h]
  exact congrArg (fun W => weights (keyCols W) (headCols W) (gateCols W)) (W2_args m ρ c main_arg2 (by decide))

theorem found_bias (c : Dev nD) : V3 m ρ c main_v17 = bias (biasOf (m ((c : Thread nD τ).loc main_arg3))) := by
  have h : V3 m ρ c main_v17 = bias (biasOf (V2 m ρ c main_arg3)) := rfl
  rw [h]
  exact congrArg (fun B => bias (biasOf B)) (W2_args m ρ c main_arg3 (by decide))

/-- A block of the normalised rows. -/
theorem rows_at (c : Dev nD) (t : Fin cfg1.N) (r : Fin 1024) (d : Fin 2048) :
    (iblk1 (V3 m ρ) c 0 t : FVec Ideal S1024x2048 .bf16) (ix2 r d) = normed (rowsOf (m ((c : Thread nD τ).loc main_arg0))) (gainOf (m ((c : Thread nD τ).loc main_arg1))) (ix2 ⟨t.val * 1024 + r.val, by have := lt1 t; omega⟩ d) := by
  show ((cfg1.win 0).blk t).view.read (Elt Ideal) (V3 m ρ c main_v3) _ = _
  rw [found_rows m ρ c]
  generalize normed (rowsOf (m ((c : Thread nD τ).loc main_arg0))) (gainOf (m ((c : Thread nD τ).loc main_arg1))) = N
  blk_ext [idx1 t]

/-- The weights at every point. -/
theorem cols_at (c : Dev nD) (t : Fin cfg1.N) (d : Fin 2048) (e : Fin 128) :
    (iblk1 (V3 m ρ) c 1 t : FVec Ideal S2048x128 .bf16) (ix2 d e) = weightAt (keyCols (m ((c : Thread nD τ).loc main_arg2))) (headCols (m ((c : Thread nD τ).loc main_arg2))) (gateCols (m ((c : Thread nD τ).loc main_arg2))) d e := by
  refine Eq.trans ?_ (weights_at (keyCols (m ((c : Thread nD τ).loc main_arg2))) (headCols (m ((c : Thread nD τ).loc main_arg2))) (gateCols (m ((c : Thread nD τ).loc main_arg2))) d e)
  show ((cfg1.win 1).blk t).view.read (Elt Ideal) (V3 m ρ c main_v13) _ = _
  rw [found_weights m ρ c]
  generalize weights (keyCols (m ((c : Thread nD τ).loc main_arg2))) (headCols (m ((c : Thread nD τ).loc main_arg2))) (gateCols (m ((c : Thread nD τ).loc main_arg2))) = N
  blk_ext [idx1 t]

/-- The bias at every point. -/
theorem bias_at (c : Dev nD) (t : Fin cfg1.N) (e : Fin 128) :
    (iblk1 (V3 m ρ) c 2 t : FVec Ideal S1x128 .f32) (ix2 0 e) = biasAt (biasOf (m ((c : Thread nD τ).loc main_arg3))) e := by
  refine Eq.trans ?_ (bias_at_col (biasOf (m ((c : Thread nD τ).loc main_arg3))) e)
  show ((cfg1.win 2).blk t).view.read (Elt Ideal) (V3 m ρ c main_v17) _ = _
  rw [found_bias m ρ c]
  generalize bias (biasOf (m ((c : Thread nD τ).loc main_arg3))) = N
  blk_ext [idx1 t]

/-- The projections that the two calls leave. -/
theorem layer_eq (c : Dev nD) : (dat1 (V3 m ρ) c).arrAt 3 cfg1.N = small (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3))) := by
  refine (dat1 (V3 m ρ) c).arrAt_eq_of_covers 3 _ (by decide +kernel) fun t _ y => ?_
  have ht := lt1 t
  have hy0 : (y 0).val < 1024 := (y 0).isLt
  have hy1 : (y 1).val < 128 := (y 1).isLt
  have e : (((cfg1.win 3).blk t).view.emb y : S8192x128.Idx) = ix2 ⟨t.val * 1024 + (y 0).val, by omega⟩ ⟨(y 1).val, hy1⟩ := by
    blk_ext [idx1 t]
  have ey : y = (ix2 ⟨(y 0).val, hy0⟩ ⟨(y 1).val, hy1⟩ : S1024x128.Idx) := by blk_ext
  blk_simp
  rw [after1_3]; frame_out
  refine Eq.trans ?_ (congrArg (small (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3)))) e.symm)
  refine Eq.trans ?_ (small_at (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3))) _ _).symm
  refine (congrArg _ ey).trans ((SmallValue.out_at _ _ _ _ _).trans ?_)
  unfold smallAt
  rw [bias_at m ρ c t]
  simp only [shapeCast_self]
  have hs := fun j : Fin 128 => Finset.sum_congr (rfl : (Finset.univ : Finset (Fin 2048)) = _) fun d _ => congrArg₂ (fun a b : EReal => a * b) (rows_at m ρ c t ⟨(y 0).val, hy0⟩ d) (cols_at m ρ c t d j)
  dsimp only at hs ⊢
  rw [hs]

/-- The reference's log forget gates, by its parts. -/
theorem reference_eq (m' : (ℓ : Loc Cert.LayerReferenceIdeal.nD Cert.LayerReferenceIdeal.τ Cert.LayerReferenceIdeal.sig) → Buf (Elt Ideal) ℓ) (c : Dev Cert.LayerReferenceIdeal.nD) :
    Cert.LayerReferenceIdeal.Value.res_main_v22 m' c = refGates (projected (m' ((c.tc : Thread Cert.LayerReferenceIdeal.nD Cert.LayerReferenceIdeal.τ).loc Cert.LayerReferenceIdeal.main_arg0)) (gainOf (m' ((c.tc : Thread Cert.LayerReferenceIdeal.nD Cert.LayerReferenceIdeal.τ).loc Cert.LayerReferenceIdeal.main_arg1))) (layerOf (m' ((c.tc : Thread Cert.LayerReferenceIdeal.nD Cert.LayerReferenceIdeal.τ).loc Cert.LayerReferenceIdeal.main_arg2)))) (biasOf (m' ((c.tc : Thread Cert.LayerReferenceIdeal.nD Cert.LayerReferenceIdeal.τ).loc Cert.LayerReferenceIdeal.main_arg3))) := by
  unfold Cert.LayerReferenceIdeal.Value.res_main_v22 refGates gateInput logSigmoid projected batchNorm
  rfl

end Cert.Proof.LayerValue

end
-- ==== Proof.SampleValue.lean ====
/-
  The sample batch's part of the same two results, the log forget gates and the indexer's keys: the normalisation and the small
  projections of its 512 rows, from the layer's input to the columns taken out of what the second call leaves.
-/
module

public import proofs.«01_k».proof.Proof.LayerValue
public import proofs.«01_k».proof.Proof.Gen.SampleIdeal.Frame
public import proofs.«01_k».proof.Proof.Gen.SampleReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.SampleValue

open Cert.SampleIdeal Cert.SampleIdeal.Gen
open Cert.Proof.MergeValue (rowNorm)
open Cert.Proof.LayerValue (gainOf layerOf keyCols headCols gateCols biasOf)
open Cert.Proof.SmallValue (weights weights_at weightAt bias bias_at_col biasAt lsig)

/-- The rows normalised, with the gain. -/
def normed (S : FVec Ideal S512x2048 .f32) (G : FVec Ideal S2048 .f32) : FVec Ideal S512x2048 .bf16 :=
  fun i => rowNorm (fun e => S (ix2 (i 0) e)) (G (ix1 (i 1))) (i 1)

theorem normed_at (S : FVec Ideal S512x2048 .f32) (G : FVec Ideal S2048 .f32) (r : Fin 512) (d : Fin 2048) :
    normed S G (ix2 r d) = rowNorm (fun e => S (ix2 r e)) (G (ix1 d)) d := rfl

/-- An element of the small projections of the rows. -/
def smallAt (H : FVec Ideal S512x2048 .bf16) (W1 : FVec Ideal S2048x64 .f32) (W2 : FVec Ideal S2048x16 .f32) (W3 : FVec Ideal S2048x8 .f32) (B : FVec Ideal S8 .f32) (r : Fin 512) (e : Fin 128) : EReal :=
  if 80 ≤ e.val ∧ e.val < 88 then lsig ((∑ d : Fin 2048, H (ix2 r d) * weightAt W1 W2 W3 d e) + biasAt B e) else ∑ d : Fin 2048, H (ix2 r d) * weightAt W1 W2 W3 d e

/-- The small projections of the rows. -/
def small (H : FVec Ideal S512x2048 .bf16) (W1 : FVec Ideal S2048x64 .f32) (W2 : FVec Ideal S2048x16 .f32) (W3 : FVec Ideal S2048x8 .f32) (B : FVec Ideal S8 .f32) : FVec Ideal S512x128 .f32 :=
  fun i => smallAt H W1 W2 W3 B (i 0) (i 1)

theorem small_at (H : FVec Ideal S512x2048 .bf16) (W1 : FVec Ideal S2048x64 .f32) (W2 : FVec Ideal S2048x16 .f32) (W3 : FVec Ideal S2048x8 .f32) (B : FVec Ideal S8 .f32) (r : Fin 512) (e : Fin 128) :
    small H W1 W2 W3 B (ix2 r e) = smallAt H W1 W2 W3 B r e := rfl

/-- The normalisation's result at an index of its block. -/
theorem norm_out (X : FVec Ideal S512x2048 .f32) (G : FVec Ideal S1x2048 .f32) (r : Fin 512) (d : Fin 2048) :
    k0_pay1 (F := Ideal) X G (ix2 r d) = rowNorm (fun e => X (ix2 r e)) (G (ix2 0 d)) d := by
  pointwise [k0_pay1, rowNorm]

/-- The projections' result at an index of their block. -/
theorem small_out (H : FVec Ideal S512x2048 .bf16) (W : FVec Ideal S2048x128 .bf16) (B : FVec Ideal S1x128 .f32) (r : Fin 512) (e : Fin 128) :
    k1_pay1 (F := Ideal) H W B (ix2 r e)
    = if 80 ≤ e.val ∧ e.val < 88 then lsig ((∑ d : Fin 2048, H (ix2 r d) * W (ix2 d e)) + B (ix2 0 e)) else ∑ d : Fin 2048, H (ix2 r d) * W (ix2 d e) := by
  pointwise [k1_pay1]
  rw [SmallValue.gate_columns e]
  split
  · rfl
  · rfl

/-- The reference's normalisation of the input, batch by batch. -/
def batchNorm (X : FVec Ideal Cert.SampleReferenceIdeal.S128x4x2048 .f32) (G : FVec Ideal Cert.SampleReferenceIdeal.S2048 .f32) : FVec Ideal Cert.SampleReferenceIdeal.S128x4x2048 .f32 :=
  mulf (mulf X (broadcastInDim Cert.SampleReferenceIdeal.S128x4x2048 ![0, 1, 2] Cert.SampleReferenceIdeal.Gen.bcast_S128x4x1_S128x4x2048_0_1_2 (Host.rsqrt (addf (Host.divf (broadcastInDim Cert.SampleReferenceIdeal.S128x4x1 ![0, 1] Cert.SampleReferenceIdeal.Gen.bcast_S128x4_S128x4x1_0_1 (Host.reduceAdd (mulf X X) (constant Cert.SampleReferenceIdeal.S_ .f32 0x00000000#32) Cert.SampleReferenceIdeal.Gen.reducesTo_S128x4x2048_S128x4_d2 Cert.SampleReferenceIdeal.Gen.h_S_)) (broadcastInDim Cert.SampleReferenceIdeal.S128x4x1 ![] Cert.SampleReferenceIdeal.Gen.bcast_S_S128x4x1 (constant Cert.SampleReferenceIdeal.S_ .f32 0x45000000#32))) (broadcastInDim Cert.SampleReferenceIdeal.S128x4x1 ![] Cert.SampleReferenceIdeal.Gen.bcast_S_S128x4x1 (constant Cert.SampleReferenceIdeal.S_ .f32 0x358637BD#32)))))) (broadcastInDim Cert.SampleReferenceIdeal.S128x4x2048 ![0, 1, 2] Cert.SampleReferenceIdeal.Gen.bcast_S1x1x2048_S128x4x2048_0_1_2 (broadcastInDim Cert.SampleReferenceIdeal.S1x1x2048 ![2] Cert.SampleReferenceIdeal.Gen.bcast_S2048_S1x1x2048_2 G))

/-- The reference's projection of the normalised input by all columns of the weights. -/
def projected (X : FVec Ideal Cert.SampleReferenceIdeal.S128x4x2048 .f32) (G : FVec Ideal Cert.SampleReferenceIdeal.S2048 .f32) (W : FVec Ideal Cert.SampleReferenceIdeal.S2048x11352 .f32) : FVec Ideal Cert.SampleReferenceIdeal.S128x4x11352 .f32 :=
  Host.dotGeneral Cert.SampleReferenceIdeal.dot_S128x4x2048_S2048x11352_S128x4x11352_2_0_01_1_n_n none (batchNorm X G) W

/-- The logarithm of the logistic function, as the reference states it, batch by batch. -/
def logSigmoid (Z : FVec Ideal Cert.SampleReferenceIdeal.S128x4x8 .f32) : FVec Ideal Cert.SampleReferenceIdeal.S128x4x8 .f32 :=
  Host.negf (select (cmpf .une (subf (Host.negf Z) (broadcastInDim Cert.SampleReferenceIdeal.S128x4x8 ![] Cert.SampleReferenceIdeal.Gen.bcast_S_S128x4x8 (constant Cert.SampleReferenceIdeal.S_ .f32 0x00000000#32))) (subf (Host.negf Z) (broadcastInDim Cert.SampleReferenceIdeal.S128x4x8 ![] Cert.SampleReferenceIdeal.Gen.bcast_S_S128x4x8 (constant Cert.SampleReferenceIdeal.S_ .f32 0x00000000#32)))) (addf (Host.negf Z) (broadcastInDim Cert.SampleReferenceIdeal.S128x4x8 ![] Cert.SampleReferenceIdeal.Gen.bcast_S_S128x4x8 (constant Cert.SampleReferenceIdeal.S_ .f32 0x00000000#32))) (addf (maximumf (Host.negf Z) (broadcastInDim Cert.SampleReferenceIdeal.S128x4x8 ![] Cert.SampleReferenceIdeal.Gen.bcast_S_S128x4x8 (constant Cert.SampleReferenceIdeal.S_ .f32 0x00000000#32))) (Host.log1p (Host.exp (Host.negf (Host.absf (subf (Host.negf Z) (broadcastInDim Cert.SampleReferenceIdeal.S128x4x8 ![] Cert.SampleReferenceIdeal.Gen.bcast_S_S128x4x8 (constant Cert.SampleReferenceIdeal.S_ .f32 0x00000000#32)))))))))

/-- The gates before the logistic function. -/
def gateInput (P : FVec Ideal Cert.SampleReferenceIdeal.S128x4x11352 .f32) (B : FVec Ideal Cert.SampleReferenceIdeal.S8 .f32) : FVec Ideal Cert.SampleReferenceIdeal.S128x4x8 .f32 :=
  addf (extractStridedSlice Cert.SampleReferenceIdeal.S128x4x8 ![0, 0, 3072] P Cert.SampleReferenceIdeal.Gen.slices_S128x4x11352_S128x4x8_0_0_3072) (broadcastInDim Cert.SampleReferenceIdeal.S128x4x8 ![0, 1, 2] Cert.SampleReferenceIdeal.Gen.bcast_S1x1x8_S128x4x8_0_1_2 (broadcastInDim Cert.SampleReferenceIdeal.S1x1x8 ![2] Cert.SampleReferenceIdeal.Gen.bcast_S8_S1x1x8_2 B))

/-- The reference's log forget gates. -/
def refGates (P : FVec Ideal Cert.SampleReferenceIdeal.S128x4x11352 .f32) (B : FVec Ideal Cert.SampleReferenceIdeal.S8 .f32) : FVec Ideal Cert.SampleReferenceIdeal.S1x128x4x8 .f32 :=
  broadcastInDim Cert.SampleReferenceIdeal.S1x128x4x8 ![1, 2, 3] Cert.SampleReferenceIdeal.Gen.bcast_S128x4x8_S1x128x4x8_1_2_3 (logSigmoid (gateInput P B))

/-- The reference's keys of the indexer. -/
def refKeys (P : FVec Ideal Cert.SampleReferenceIdeal.S128x4x11352 .f32) : FVec Ideal Cert.SampleReferenceIdeal.S1x128x4x64 .f32 :=
  broadcastInDim Cert.SampleReferenceIdeal.S1x128x4x64 ![1, 2, 3] Cert.SampleReferenceIdeal.Gen.bcast_S128x4x64_S1x128x4x64_1_2_3 (extractStridedSlice Cert.SampleReferenceIdeal.S128x4x64 ![0, 0, 7176] P Cert.SampleReferenceIdeal.Gen.slices_S128x4x11352_S128x4x64_0_0_7176)

theorem batchNorm_at (X : FVec Ideal Cert.SampleReferenceIdeal.S128x4x2048 .f32) (G : FVec Ideal Cert.SampleReferenceIdeal.S2048 .f32) (b : Fin 128) (t : Fin 4) (d : Fin 2048) :
    batchNorm X G (ix3 b t d) = rowNorm (fun e => X (ix3 b t e)) (G (ix1 d)) d := by
  pointwise [batchNorm, rowNorm]

theorem projected_at (X : FVec Ideal Cert.SampleReferenceIdeal.S128x4x2048 .f32) (G : FVec Ideal Cert.SampleReferenceIdeal.S2048 .f32) (W : FVec Ideal Cert.SampleReferenceIdeal.S2048x11352 .f32) (b : Fin 128) (t : Fin 4) (e : Fin 11352) :
    projected X G W (ix3 b t e) = ∑ d : Fin 2048, rowNorm (fun d => X (ix3 b t d)) (G (ix1 d)) d * W (ix2 d e) := by
  have h := fun d => batchNorm_at X G b t d
  unfold projected
  generalize batchNorm X G = N at h ⊢
  refine Eq.trans ?_ (Finset.sum_congr rfl fun d _ => congrArg (· * W (ix2 d e)) (h d))
  pointwise

theorem logSigmoid_at (Z : FVec Ideal Cert.SampleReferenceIdeal.S128x4x8 .f32) (b : Fin 128) (t : Fin 4) (e : Fin 8) : logSigmoid Z (ix3 b t e) = lsig (Z (ix3 b t e)) := by
  refine Eq.trans ?_ (SmallValue.lsig_eq _)
  pointwise [logSigmoid]
  rw [if_neg (by simp)]
  rfl

theorem refGates_at (P : FVec Ideal Cert.SampleReferenceIdeal.S128x4x11352 .f32) (B : FVec Ideal Cert.SampleReferenceIdeal.S8 .f32) (b : Fin 128) (t : Fin 4) (e : Fin 8) :
    refGates P B (ix4 0 b t e) = lsig (P (ix3 b t ⟨3072 + e.val, by omega⟩) + B (ix1 e)) := by
  have L := logSigmoid_at (gateInput P B) b t e
  unfold refGates
  generalize logSigmoid _ = Y at L ⊢
  refine Eq.trans ?_ (L.trans (congrArg lsig ?_))
  · pointwise
  · pointwise [gateInput]

theorem refKeys_at (P : FVec Ideal Cert.SampleReferenceIdeal.S128x4x11352 .f32) (b : Fin 128) (t : Fin 4) (e : Fin 64) :
    refKeys P (ix4 0 b t e) = P (ix3 b t ⟨7176 + e.val, by omega⟩) := by
  pointwise [refKeys]

/-- The input's rows, one batch after the other. -/
def rowsOf (X : FVec Ideal S128x4x2048 .f32) : FVec Ideal S512x2048 .f32 := shapeCast _ X shapeCasts_S128x4x2048_S512x2048

/-- What the two calls make of the layer's arguments. -/
def sides (X : FVec Ideal S128x4x2048 .f32) (G : FVec Ideal S1x2048 .f32) (W : FVec Ideal S1x2048x11352 .f32) (B : FVec Ideal S1x8 .f32) : FVec Ideal S512x128 .f32 :=
  small (normed (rowsOf X) (gainOf G)) (keyCols W) (headCols W) (gateCols W) (biasOf B)

/-- The log forget gates taken out of the projections. -/
def gates (A : FVec Ideal S512x128 .f32) : FVec Ideal S1x128x4x8 .f32 :=
  broadcastInDim S1x128x4x8 ![1, 2, 3] bcast_S128x4x8_S1x128x4x8_1_2_3 (shapeCast _ (extractStridedSlice S512x8 ![0, 80] A slices_S512x128_S512x8_0_80) shapeCasts_S512x8_S128x4x8)

/-- The keys of the indexer taken out of the projections. -/
def keys (A : FVec Ideal S512x128 .f32) : FVec Ideal S1x128x4x64 .f32 :=
  broadcastInDim S1x128x4x64 ![1, 2, 3] bcast_S128x4x64_S1x128x4x64_1_2_3 (shapeCast _ (extractStridedSlice S512x64 ![0, 0] A slices_S512x128_S512x64_0_0) shapeCasts_S512x64_S128x4x64)

theorem rowsOf_at (X : FVec Ideal S128x4x2048 .f32) (b : Fin 128) (t : Fin 4) (d : Fin 2048) :
    rowsOf X (ix2 ⟨b.val * 4 + t.val, by omega⟩ d) = X (ix3 b t d) := by
  pointwise [rowsOf]

theorem gates_at (A : FVec Ideal S512x128 .f32) (b : Fin 128) (t : Fin 4) (e : Fin 8) :
    gates A (ix4 0 b t e) = A (ix2 ⟨b.val * 4 + t.val, by omega⟩ ⟨80 + e.val, by omega⟩) := by
  pointwise [gates]

theorem keys_at (A : FVec Ideal S512x128 .f32) (b : Fin 128) (t : Fin 4) (e : Fin 64) :
    keys A (ix4 0 b t e) = A (ix2 ⟨b.val * 4 + t.val, by omega⟩ ⟨e.val, by omega⟩) := by
  pointwise [keys]

/-- A projection's element, of the row of a batch. -/
theorem row_sum (X : FVec Ideal S128x4x2048 .f32) (G : FVec Ideal S1x2048 .f32) (b : Fin 128) (t : Fin 4) (w : Fin 2048 → EReal) :
    ∑ d : Fin 2048, normed (rowsOf X) (gainOf G) (ix2 ⟨b.val * 4 + t.val, by omega⟩ d) * w d
    = ∑ d : Fin 2048, rowNorm (fun d => X (ix3 b t d)) (gainOf G (ix1 d)) d * w d := by
  refine Finset.sum_congr rfl fun d _ => congrArg (· * w d) ?_
  rw [normed_at]
  exact congrArg (fun x => rowNorm x _ d) (funext fun d => rowsOf_at X b t d)

/-- The gates are the reference's. -/
theorem gates_eq (X : FVec Ideal S128x4x2048 .f32) (G : FVec Ideal S1x2048 .f32) (W : FVec Ideal S1x2048x11352 .f32) (B : FVec Ideal S1x8 .f32) :
    gates (sides X G W B) = refGates (projected X (gainOf G) (layerOf W)) (biasOf B) := by
  funext i
  obtain ⟨b, t, e, rfl⟩ : ∃ (b : Fin 128) (t : Fin 4) (e : Fin 8), i = ix4 0 b t e := ⟨i 1, i 2, i 3, by blk_ext⟩
  rw [gates_at, refGates_at, sides, small_at, projected_at]
  unfold smallAt
  rw [if_pos (by constructor <;> simp <;> omega), row_sum]
  refine congrArg lsig (congrArg₂ (· + ·) (Finset.sum_congr rfl fun d _ => congrArg₂ (fun a b : EReal => a * b) rfl ?_) ?_)
  · unfold weightAt
    rw [dif_neg (by simp; omega), dif_neg (by simp), dif_pos (by simp; omega)]
    pointwise [gateCols]
  · unfold biasAt
    rw [dif_pos (by constructor <;> simp <;> omega)]
    exact congrArg (fun k => biasOf B (ix1 k)) (Fin.ext (by simp))

/-- The keys are the reference's. -/
theorem keys_eq (X : FVec Ideal S128x4x2048 .f32) (G : FVec Ideal S1x2048 .f32) (W : FVec Ideal S1x2048x11352 .f32) (B : FVec Ideal S1x8 .f32) :
    keys (sides X G W B) = refKeys (projected X (gainOf G) (layerOf W)) := by
  funext i
  obtain ⟨b, t, e, rfl⟩ : ∃ (b : Fin 128) (t : Fin 4) (e : Fin 64), i = ix4 0 b t e := ⟨i 1, i 2, i 3, by blk_ext⟩
  rw [keys_at, refKeys_at, sides, small_at, projected_at]
  unfold smallAt
  rw [if_neg (by simp; omega), row_sum]
  refine Finset.sum_congr rfl fun d _ => congrArg₂ (fun a b : EReal => a * b) rfl ?_
  unfold weightAt
  rw [dif_pos (by simp)]
  pointwise [keyCols]

variable (m : (ℓ : Loc nD τ sig) → Buf (Elt Ideal) ℓ) (ρ : Dev nD → PrngReg)

/-- What the host takes out of the second call's array. -/
theorem out_gates (c : Dev nD) : W5 m ρ c (Proc.devRef .tc main_v23) = gates ((dat1 (V3 m ρ) c).arrAt 3 cfg1.N) := by
  have h : W5 m ρ c (Proc.devRef .tc main_v23) = gates (W4 m ρ c (Proc.devRef .tc main_v18)) := rfl
  rw [h]
  exact congrArg gates (W4_arr m ρ c 3)

theorem out_keys (c : Dev nD) : W5 m ρ c (Proc.devRef .tc main_v24) = keys ((dat1 (V3 m ρ) c).arrAt 3 cfg1.N) := by
  have h : W5 m ρ c (Proc.devRef .tc main_v24) = keys (W4 m ρ c (Proc.devRef .tc main_v18)) := rfl
  rw [h]
  exact congrArg keys (W4_arr m ρ c 3)

set_option backward.isDefEq.respectTransparency.types false in
/-- The run of the two calls, with the array that the second one leaves. -/
theorem run : θ_run defs (onTc (τ := τ) (main (F := Ideal))) ⟨m, fun _ => 0, ρ⟩ (fun r => ∀ c : Dev nD,
      r.2.mem ((c.tc : Thread nD τ).loc main_v23) = gates ((dat1 (V3 m ρ) c).arrAt 3 cfg1.N)
      ∧ r.2.mem ((c.tc : Thread nD τ).loc main_v24) = keys ((dat1 (V3 m ρ) c).arrAt 3 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨(h c _ (mem_uc main_v23 (by decide))).trans (out_gates m ρ c),
      (h c _ (mem_uc main_v24 (by decide))).trans (out_keys m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩)

/-- Where the windows of the normalisation stand at a point. -/
theorem idx0 : ∀ t : Fin cfg0.N, win0_0.index t = ![t.val, 0] ∧ win0_1.index t = ![0, 0] ∧ win0_2.index t = ![t.val, 0] :=
  (by decide +kernel : ∀ t : Fin grid0.N, _)

/-- Where the windows of the projections stand at a point. -/
theorem idx1 : ∀ t : Fin cfg1.N, win1_0.index t = ![t.val, 0] ∧ win1_1.index t = ![0, 0] ∧ win1_2.index t = ![0, 0] ∧ win1_3.index t = ![t.val, 0] :=
  (by decide +kernel : ∀ t : Fin grid1.N, _)

theorem lt0 (t : Fin cfg0.N) : t.val < 1 := lt_of_lt_of_eq t.isLt N_0

theorem lt1 (t : Fin cfg1.N) : t.val < 1 := lt_of_lt_of_eq t.isLt N_1

/-- A block of the input's rows. -/
theorem input_at (c : Dev nD) (t : Fin cfg0.N) (r : Fin 512) (d : Fin 2048) :
    (iblk0 (V1 m ρ) c 0 t : FVec Ideal S512x2048 .f32) (ix2 r d) = rowsOf (m ((c : Thread nD τ).loc main_arg0)) (ix2 ⟨t.val * 512 + r.val, by have := lt0 t; omega⟩ d) := by
  show ((cfg0.win 0).blk t).view.read (Elt Ideal) (V1 m ρ c main_v0) _ = _
  rw [show V1 m ρ c main_v0 = rowsOf (m ((c : Thread nD τ).loc main_arg0)) from rfl]
  generalize rowsOf (m ((c : Thread nD τ).loc main_arg0)) = N
  blk_ext [idx0 t]

/-- The gain at every point. -/
theorem gain_at (c : Dev nD) (t : Fin cfg0.N) (d : Fin 2048) :
    (iblk0 (V1 m ρ) c 1 t : FVec Ideal S1x2048 .f32) (ix2 0 d) = gainOf (m ((c : Thread nD τ).loc main_arg1)) (ix1 d) := by
  have h : (V1 m ρ c main_v2 : FVec Ideal S1x2048 .f32) (ix2 0 d) = gainOf (m ((c : Thread nD τ).loc main_arg1)) (ix1 d) := by
    rw [show V1 m ρ c main_v2 = (shapeCast _ (gainOf (m ((c : Thread nD τ).loc main_arg1))) shapeCasts_S2048_S1x2048 : FVec Ideal S1x2048 .f32) from rfl]
    generalize gainOf (m ((c : Thread nD τ).loc main_arg1)) = N
    pointwise
  refine Eq.trans ?_ h
  show ((cfg0.win 1).blk t).view.read (Elt Ideal) (V1 m ρ c main_v2) _ = _
  generalize V1 m ρ c main_v2 = N
  blk_ext [idx0 t]

/-- The normalised rows that the first call leaves. -/
theorem norm_of (c : Dev nD) (X : FVec Ideal S512x2048 .f32) (G : FVec Ideal S2048 .f32)
    (hX : ∀ (t : Fin cfg0.N) (r : Fin 512) (d : Fin 2048), (iblk0 (V1 m ρ) c 0 t : FVec Ideal S512x2048 .f32) (ix2 r d) = X (ix2 ⟨t.val * 512 + r.val, by have := lt0 t; omega⟩ d))
    (hG : ∀ (t : Fin cfg0.N) (d : Fin 2048), (iblk0 (V1 m ρ) c 1 t : FVec Ideal S1x2048 .f32) (ix2 0 d) = G (ix1 d)) : (dat0 (V1 m ρ) c).arrAt 2 cfg0.N = normed X G := by
  refine (dat0 (V1 m ρ) c).arrAt_eq_of_covers 2 _ (by decide +kernel) fun t _ y => ?_
  have ht := lt0 t
  have hy0 : (y 0).val < 512 := (y 0).isLt
  have hy1 : (y 1).val < 2048 := (y 1).isLt
  have e : (((cfg0.win 2).blk t).view.emb y : S512x2048.Idx) = ix2 ⟨t.val * 512 + (y 0).val, by omega⟩ ⟨(y 1).val, hy1⟩ := by
    blk_ext [idx0 t]
  have ey : y = (ix2 ⟨(y 0).val, hy0⟩ ⟨(y 1).val, hy1⟩ : S512x2048.Idx) := by blk_ext
  blk_simp
  rw [after0_2]; frame_out
  refine Eq.trans ?_ (congrArg (normed X G) e.symm)
  refine Eq.trans ?_ (normed_at _ _ _ _).symm
  refine (congrArg _ ey).trans ((norm_out _ _ _ _).trans ?_)
  rw [hG t]
  simp only [shapeCast_self]
  exact congrArg (fun x => rowNorm x _ _) (funext fun d => hX t _ d)

theorem norm_eq (c : Dev nD) : (dat0 (V1 m ρ) c).arrAt 2 cfg0.N = normed (rowsOf (m ((c : Thread nD τ).loc main_arg0))) (gainOf (m ((c : Thread nD τ).loc main_arg1))) :=
  norm_of m ρ c _ _ (input_at m ρ c) (gain_at m ρ c)

/-- What the second call finds: the rows that the first one left, the weights and the bias. -/
theorem found_rows (c : Dev nD) : V3 m ρ c main_v3 = normed (rowsOf (m ((c : Thread nD τ).loc main_arg0))) (gainOf (m ((c : Thread nD τ).loc main_arg1))) :=
  (W3_of m ρ c main_v3 (by decide)).trans ((W2_arr m ρ c 2).trans (norm_eq m ρ c))

theorem found_weights (c : Dev nD) : V3 m ρ c main_v13 = weights (keyCols (m ((c : Thread nD τ).loc main_arg2))) (headCols (m ((c : Thread nD τ).loc main_arg2))) (gateCols (m ((c : Thread nD τ).loc main_arg2))) := by
  have h : V3 m ρ c main_v13 = weights (keyCols (V2 m ρ c main_arg2)) (headCols (V2 m ρ c main_arg2)) (gateCols (V2 m ρ c main_arg2)) := rfl
  rw [h]
  exact congrArg (fun W => weights (keyCols W) (headCols W) (gateCols W)) (W2_args m ρ c main_arg2 (by decide))

theorem found_bias (c : Dev nD) : V3 m ρ c main_v17 = bias (biasOf (m ((c : Thread nD τ).loc main_arg3))) := by
  have h : V3 m ρ c main_v17 = bias (biasOf (V2 m ρ c main_arg3)) := rfl
  rw [h]
  exact congrArg (fun B => bias (biasOf B)) (W2_args m ρ c main_arg3 (by decide))

/-- A block of the normalised rows. -/
theorem rows_at (c : Dev nD) (t : Fin cfg1.N) (r : Fin 512) (d : Fin 2048) :
    (iblk1 (V3 m ρ) c 0 t : FVec Ideal S512x2048 .bf16) (ix2 r d) = normed (rowsOf (m ((c : Thread nD τ).loc main_arg0))) (gainOf (m ((c : Thread nD τ).loc main_arg1))) (ix2 ⟨t.val * 512 + r.val, by have := lt1 t; omega⟩ d) := by
  show ((cfg1.win 0).blk t).view.read (Elt Ideal) (V3 m ρ c main_v3) _ = _
  rw [found_rows m ρ c]
  generalize normed (rowsOf (m ((c : Thread nD τ).loc main_arg0))) (gainOf (m ((c : Thread nD τ).loc main_arg1))) = N
  blk_ext [idx1 t]

/-- The weights at every point. -/
theorem cols_at (c : Dev nD) (t : Fin cfg1.N) (d : Fin 2048) (e : Fin 128) :
    (iblk1 (V3 m ρ) c 1 t : FVec Ideal S2048x128 .bf16) (ix2 d e) = weightAt (keyCols (m ((c : Thread nD τ).loc main_arg2))) (headCols (m ((c : Thread nD τ).loc main_arg2))) (gateCols (m ((c : Thread nD τ).loc main_arg2))) d e := by
  refine Eq.trans ?_ (weights_at (keyCols (m ((c : Thread nD τ).loc main_arg2))) (headCols (m ((c : Thread nD τ).loc main_arg2))) (gateCols (m ((c : Thread nD τ).loc main_arg2))) d e)
  show ((cfg1.win 1).blk t).view.read (Elt Ideal) (V3 m ρ c main_v13) _ = _
  rw [found_weights m ρ c]
  generalize weights (keyCols (m ((c : Thread nD τ).loc main_arg2))) (headCols (m ((c : Thread nD τ).loc main_arg2))) (gateCols (m ((c : Thread nD τ).loc main_arg2))) = N
  blk_ext [idx1 t]

/-- The bias at every point. -/
theorem bias_at (c : Dev nD) (t : Fin cfg1.N) (e : Fin 128) :
    (iblk1 (V3 m ρ) c 2 t : FVec Ideal S1x128 .f32) (ix2 0 e) = biasAt (biasOf (m ((c : Thread nD τ).loc main_arg3))) e := by
  refine Eq.trans ?_ (bias_at_col (biasOf (m ((c : Thread nD τ).loc main_arg3))) e)
  show ((cfg1.win 2).blk t).view.read (Elt Ideal) (V3 m ρ c main_v17) _ = _
  rw [found_bias m ρ c]
  generalize bias (biasOf (m ((c : Thread nD τ).loc main_arg3))) = N
  blk_ext [idx1 t]

/-- The projections that the two calls leave. -/
theorem layer_eq (c : Dev nD) : (dat1 (V3 m ρ) c).arrAt 3 cfg1.N = small (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3))) := by
  refine (dat1 (V3 m ρ) c).arrAt_eq_of_covers 3 _ (by decide +kernel) fun t _ y => ?_
  have ht := lt1 t
  have hy0 : (y 0).val < 512 := (y 0).isLt
  have hy1 : (y 1).val < 128 := (y 1).isLt
  have e : (((cfg1.win 3).blk t).view.emb y : S512x128.Idx) = ix2 ⟨t.val * 512 + (y 0).val, by omega⟩ ⟨(y 1).val, hy1⟩ := by
    blk_ext [idx1 t]
  have ey : y = (ix2 ⟨(y 0).val, hy0⟩ ⟨(y 1).val, hy1⟩ : S512x128.Idx) := by blk_ext
  blk_simp
  rw [after1_3]; frame_out
  refine Eq.trans ?_ (congrArg (small (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3)))) e.symm)
  refine Eq.trans ?_ (small_at (normed (rowsOf (m ((c : Thread nD τ).loc main_arg0))) (gainOf (m ((c : Thread nD τ).loc main_arg1)))) (keyCols (m ((c : Thread nD τ).loc main_arg2))) (headCols (m ((c : Thread nD τ).loc main_arg2))) (gateCols (m ((c : Thread nD τ).loc main_arg2))) (biasOf (m ((c : Thread nD τ).loc main_arg3))) _ _).symm
  refine (congrArg _ ey).trans ((small_out _ _ _ _ _).trans ?_)
  unfold smallAt
  rw [bias_at m ρ c t]
  simp only [shapeCast_self]
  have hs := fun j : Fin 128 => Finset.sum_congr (rfl : (Finset.univ : Finset (Fin 2048)) = _) fun d _ => congrArg₂ (fun a b : EReal => a * b) (rows_at m ρ c t ⟨(y 0).val, hy0⟩ d) (cols_at m ρ c t d j)
  dsimp only at hs ⊢
  rw [hs]

/-- The reference's log forget gates, by its parts. -/
theorem reference_eq (m' : (ℓ : Loc Cert.SampleReferenceIdeal.nD Cert.SampleReferenceIdeal.τ Cert.SampleReferenceIdeal.sig) → Buf (Elt Ideal) ℓ) (c : Dev Cert.SampleReferenceIdeal.nD) :
    Cert.SampleReferenceIdeal.Value.res_main_v22 m' c = refGates (projected (m' ((c.tc : Thread Cert.SampleReferenceIdeal.nD Cert.SampleReferenceIdeal.τ).loc Cert.SampleReferenceIdeal.main_arg0)) (gainOf (m' ((c.tc : Thread Cert.SampleReferenceIdeal.nD Cert.SampleReferenceIdeal.τ).loc Cert.SampleReferenceIdeal.main_arg1))) (layerOf (m' ((c.tc : Thread Cert.SampleReferenceIdeal.nD Cert.SampleReferenceIdeal.τ).loc Cert.SampleReferenceIdeal.main_arg2)))) (biasOf (m' ((c.tc : Thread Cert.SampleReferenceIdeal.nD Cert.SampleReferenceIdeal.τ).loc Cert.SampleReferenceIdeal.main_arg3))) := by
  unfold Cert.SampleReferenceIdeal.Value.res_main_v22 refGates gateInput logSigmoid projected batchNorm
  rfl

end Cert.Proof.SampleValue

end
-- ==== Proof.lean ====
/-
  The certificate of calls of the layer: the prompt group's forgetting attention, the merge of the two mixers with the
  normalised residual stream, the output gates, the indexer's queries, the small projections, the projection to queries, keys
  and values, the normalisation before the projections, and the experts of the prompt batch; and of two of them joined, from the layer's input to its log forget gates and indexer's keys, for the prompt batch and for the sample batch. For each: the frames, the ideal reading, and, in
  exact arithmetic, the equality of its results with the plain mathematics.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.Index.Frame
public import proofs.«01_k».proof.Proof.Gen.IndexIdeal.Frame
public import proofs.«01_k».proof.Proof.Gen.IndexIdeal.Value
public import proofs.«01_k».proof.Proof.Gen.IndexReferenceIdeal.Run
public import proofs.«01_k».proof.Proof.Gen.Small.Frame
public import proofs.«01_k».proof.Proof.Gen.SmallIdeal.Frame
public import proofs.«01_k».proof.Proof.Gen.SmallIdeal.Value
public import proofs.«01_k».proof.Proof.Gen.SmallReferenceIdeal.Run
public import proofs.«01_k».proof.Proof.Gen.Qkv
public import proofs.«01_k».proof.Proof.Gen.QkvIdeal
public import proofs.«01_k».proof.Proof.Gen.Qkv.Points
public import proofs.«01_k».proof.Proof.Gen.Qkv.Skeleton
public import proofs.«01_k».proof.Proof.Gen.QkvIdeal.Skeleton
public import proofs.«01_k».proof.Proof.Gen.QkvIdeal.Points
public import proofs.«01_k».proof.Proof.Gen.Qkv.Launch
public import proofs.«01_k».proof.Proof.Gen.QkvIdeal.Launch
public import proofs.«01_k».proof.Proof.Gen.QkvReferenceIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import proofs.«01_k».proof.Proof.Gen.Experts.Frame
public import proofs.«01_k».proof.Proof.Gen.ExpertsIdeal.Frame
public import proofs.«01_k».proof.Proof.Gen.ExpertsIdeal.Value
public import proofs.«01_k».proof.Proof.Gen.ExpertsReferenceIdeal.Run
public import proofs.«01_k».proof.Proof.Gen.Layer.Frame
public import proofs.«01_k».proof.Proof.Gen.LayerIdeal.Frame
public import proofs.«01_k».proof.Proof.Gen.LayerReferenceIdeal.Run
public import proofs.«01_k».proof.Proof.Gen.Sample.Frame
public import proofs.«01_k».proof.Proof.Gen.SampleIdeal.Frame
public import proofs.«01_k».proof.Proof.Gen.SampleReferenceIdeal.Run
public import proofs.«01_k».proof.Proof.Final
public import proofs.«01_k».proof.Proof.MergeValue
public import proofs.«01_k».proof.Proof.GateValue
public import proofs.«01_k».proof.Proof.IndexValue
public import proofs.«01_k».proof.Proof.SmallValue
public import proofs.«01_k».proof.Proof.QkvFrame.Frame
public import proofs.«01_k».proof.Proof.QkvIdealFrame.Frame
public import proofs.«01_k».proof.Proof.QkvValue
public import proofs.«01_k».proof.Proof.NormValue
public import proofs.«01_k».proof.Proof.ExpertsValue
public import proofs.«01_k».proof.Proof.LayerValue
public import proofs.«01_k».proof.Proof.SampleValue
public import Idealize.ShloMosaic.Lib.Claim

@[expose] public section

set_option maxRecDepth 16384

noncomputable section

namespace Cert.Proof

open Idealize.ShloMosaic Idealize.SL.Sem

/-- The reference ends with its arguments unchanged and no counter raised. -/
theorem frame_reference : Cert.quiescent_ReferenceIdeal (hReferenceIdeal := Cert.ReferenceIdeal.Gen.facts) := fun m ρ _ => by
  refine (θ_run _ _ _).mono (fun r h => ⟨fun c => (h c).2, ?_⟩) (Cert.ReferenceIdeal.Value.run (F := Ideal) m ρ)
  exact Idealize.ShloMosaic.sem_eq_zero_of_no_sems (by decide) r.2

/-- The kernel's result is the reference's. -/
theorem attention_equal : Cert.algebraic_KernelIdeal_ReferenceIdeal_pre_finite_scores (hKernelIdeal := Cert.KernelIdeal.Gen.facts)
    (hReferenceIdeal := Cert.ReferenceIdeal.Gen.facts) (hPre_finite_scores := Finite.facts) := by
  intro m g m' g' hpre hargs
  refine ⟨fun c => Cert.ReferenceIdeal.Value.res_out0 (F := Ideal) m' c, (θ_run _ _ _).mono (fun r h c => ?_) (Cert.KernelIdeal.Value.run_blocks (F := Ideal) m g),
    Cert.ReferenceIdeal.Value.run (F := Ideal) m' g'⟩
  obtain ⟨hr, h⟩ := h c
  refine ⟨hr.trans ?_, h⟩
  obtain ⟨hQ, hK, hG⟩ := Finite.of_pre _ _ _ _ (hpre c)
  obtain ⟨e0, e1, e2, e3⟩ := hargs c
  rw [Final.array_eq m c hQ hK hG]
  refine Eq.trans ?_ (Reference.res_eq m' c).symm
  rw [e0, e1, e2, e3]
  rfl

/-- The reference of the merge ends with its arguments unchanged and no counter raised. -/
theorem frame_merge_reference : Cert.quiescent_MergeReferenceIdeal (hMergeReferenceIdeal := Cert.MergeReferenceIdeal.Gen.facts) := fun m ρ _ => by
  refine (θ_run _ _ _).mono (fun r h => ⟨fun c => (h c).2.2, ?_⟩) (Cert.MergeReferenceIdeal.Value.run (F := Ideal) m ρ)
  exact Idealize.ShloMosaic.sem_eq_zero_of_no_sems (by decide) r.2

/-- The reference of the gates ends with its arguments unchanged and no counter raised. -/
theorem frame_gates_reference : Cert.quiescent_GatesReferenceIdeal (hGatesReferenceIdeal := Cert.GatesReferenceIdeal.Gen.facts) := fun m ρ _ => by
  refine (θ_run _ _ _).mono (fun r h => ⟨fun c => (h c).2, ?_⟩) (Cert.GatesReferenceIdeal.Value.run (F := Ideal) m ρ)
  exact Idealize.ShloMosaic.sem_eq_zero_of_no_sems (by decide) r.2

/-- The reference of the indexer queries ends with its arguments unchanged and no counter raised. -/
theorem frame_index_reference : Cert.quiescent_IndexReferenceIdeal (hIndexReferenceIdeal := Cert.IndexReferenceIdeal.Gen.facts) := fun m ρ _ => by
  refine (θ_run _ _ _).mono (fun r h => ⟨fun c => (h c).2, ?_⟩) (Cert.IndexReferenceIdeal.Value.run (F := Ideal) m ρ)
  exact Idealize.ShloMosaic.sem_eq_zero_of_no_sems (by decide) r.2

/-- The reference of the small projections ends with its arguments unchanged and no counter raised. -/
theorem frame_small_reference : Cert.quiescent_SmallReferenceIdeal (hSmallReferenceIdeal := Cert.SmallReferenceIdeal.Gen.facts) := fun m ρ _ => by
  refine (θ_run _ _ _).mono (fun r h => ⟨fun c => (h c).2, ?_⟩) (Cert.SmallReferenceIdeal.Value.run (F := Ideal) m ρ)
  exact Idealize.ShloMosaic.sem_eq_zero_of_no_sems (by decide) r.2

/-- The reference of the queries, keys and values ends with its arguments unchanged and no counter raised. -/
theorem frame_qkv_reference : Cert.quiescent_QkvReferenceIdeal (hQkvReferenceIdeal := Cert.QkvReferenceIdeal.Gen.facts) := fun m ρ _ => by
  refine (θ_run _ _ _).mono (fun r h => ⟨fun c => (h c).2.2.2.2.2, ?_⟩) (Cert.QkvReferenceIdeal.Value.run (F := Ideal) m ρ)
  exact Idealize.ShloMosaic.sem_eq_zero_of_no_sems (by decide) r.2

/-- The reference of the normalisation ends with its arguments unchanged and no counter raised. -/
theorem frame_norm_reference : Cert.quiescent_NormReferenceIdeal (hNormReferenceIdeal := Cert.NormReferenceIdeal.Gen.facts) := fun m ρ _ => by
  refine (θ_run _ _ _).mono (fun r h => ⟨fun c => (h c).2, ?_⟩) (Cert.NormReferenceIdeal.Value.run (F := Ideal) m ρ)
  exact Idealize.ShloMosaic.sem_eq_zero_of_no_sems (by decide) r.2

/-- The reference of the experts ends with its arguments unchanged and no counter raised. -/
theorem frame_experts_reference : Cert.quiescent_ExpertsReferenceIdeal (hExpertsReferenceIdeal := Cert.ExpertsReferenceIdeal.Gen.facts) := fun m ρ _ => by
  refine (θ_run _ _ _).mono (fun r h => ⟨fun c => (h c).2, ?_⟩) (Cert.ExpertsReferenceIdeal.Value.run (F := Ideal) m ρ)
  exact Idealize.ShloMosaic.sem_eq_zero_of_no_sems (by decide) r.2

/-- The reference of the two joined calls ends with its arguments unchanged and no counter raised. -/
theorem frame_layer_reference : Cert.quiescent_LayerReferenceIdeal (hLayerReferenceIdeal := Cert.LayerReferenceIdeal.Gen.facts) := fun m ρ _ => by
  refine (θ_run _ _ _).mono (fun r h => ⟨fun c => (h c).2.2, ?_⟩) (Cert.LayerReferenceIdeal.Value.run (F := Ideal) m ρ)
  exact Idealize.ShloMosaic.sem_eq_zero_of_no_sems (by decide) r.2

/-- The reference of the two joined calls on the sample batch ends with its arguments unchanged and no counter raised. -/
theorem frame_sample_reference : Cert.quiescent_SampleReferenceIdeal (hSampleReferenceIdeal := Cert.SampleReferenceIdeal.Gen.facts) := fun m ρ _ => by
  refine (θ_run _ _ _).mono (fun r h => ⟨fun c => (h c).2.2, ?_⟩) (Cert.SampleReferenceIdeal.Value.run (F := Ideal) m ρ)
  exact Idealize.ShloMosaic.sem_eq_zero_of_no_sems (by decide) r.2

/-- The merge's two results, the stream and the normalised stream, are the reference's. -/
theorem merge_equal : Cert.algebraic_MergeIdeal_MergeReferenceIdeal (hMergeIdeal := Cert.MergeIdeal.Gen.facts) (hMergeReferenceIdeal := Cert.MergeReferenceIdeal.Gen.facts) := by
  intro m g m' g' _ hargs
  refine ⟨fun c => MergeValue.stream (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)), fun c => MergeValue.normed (MergeValue.stream (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6))) (m' ((c.tc : Thread Cert.MergeReferenceIdeal.nD Cert.MergeReferenceIdeal.τ).loc Cert.MergeReferenceIdeal.main_arg7)), (θ_run _ _ _).mono (fun r h c => ?_) (Cert.MergeIdeal.Value.run_blocks (F := Ideal) m g),
    Cert.MergeReferenceIdeal.Value.run (F := Ideal) m' g'⟩
  obtain ⟨h0, h1, h⟩ := h c
  obtain ⟨e0, e1, e2, e3, e4, e5, e6, e7⟩ := hargs c
  refine ⟨h0.trans ((MergeValue.stream_eq m c).trans ?_), h1.trans ((MergeValue.normed_eq m c).trans ?_), h⟩
  · rw [← e0, ← e1, ← e2, ← e3, ← e4, ← e5, ← e6]
  · rw [← e0, ← e1, ← e2, ← e3, ← e4, ← e5, ← e6, ← e7]

/-- The gates are the reference's. -/
theorem gates_equal : Cert.algebraic_GatesIdeal_GatesReferenceIdeal (hGatesIdeal := Cert.GatesIdeal.Gen.facts) (hGatesReferenceIdeal := Cert.GatesReferenceIdeal.Gen.facts) := by
  intro m g m' g' _ hargs
  refine ⟨fun c => GateValue.gate (m' ((c.tc : Thread Cert.GatesReferenceIdeal.nD Cert.GatesReferenceIdeal.τ).loc Cert.GatesReferenceIdeal.main_arg0)) (m' ((c.tc : Thread Cert.GatesReferenceIdeal.nD Cert.GatesReferenceIdeal.τ).loc Cert.GatesReferenceIdeal.main_arg1)) (m' ((c.tc : Thread Cert.GatesReferenceIdeal.nD Cert.GatesReferenceIdeal.τ).loc Cert.GatesReferenceIdeal.main_arg2)), (θ_run _ _ _).mono (fun r h c => ?_) (Cert.GatesIdeal.Value.run_blocks (F := Ideal) m g),
    Cert.GatesReferenceIdeal.Value.run (F := Ideal) m' g'⟩
  obtain ⟨h0, h⟩ := h c
  obtain ⟨e0, e1, e2⟩ := hargs c
  refine ⟨h0.trans ((GateValue.gate_eq m c).trans ?_), h⟩
  rw [← e0, ← e1, ← e2]

/-- The indexer's queries are the reference's. -/
theorem index_equal : Cert.algebraic_IndexIdeal_IndexReferenceIdeal (hIndexIdeal := Cert.IndexIdeal.Gen.facts) (hIndexReferenceIdeal := Cert.IndexReferenceIdeal.Gen.facts) := by
  intro m g m' g' _ hargs
  refine ⟨fun c => IndexValue.index (m' ((c.tc : Thread Cert.IndexReferenceIdeal.nD Cert.IndexReferenceIdeal.τ).loc Cert.IndexReferenceIdeal.main_arg0)) (m' ((c.tc : Thread Cert.IndexReferenceIdeal.nD Cert.IndexReferenceIdeal.τ).loc Cert.IndexReferenceIdeal.main_arg1)), (θ_run _ _ _).mono (fun r h c => ?_) (Cert.IndexIdeal.Value.run_blocks (F := Ideal) m g),
    Cert.IndexReferenceIdeal.Value.run (F := Ideal) m' g'⟩
  obtain ⟨h0, h⟩ := h c
  obtain ⟨e0, e1⟩ := hargs c
  refine ⟨h0.trans ((IndexValue.index_eq m c).trans ?_), h⟩
  rw [← e0, ← e1]

/-- The small projections are the reference's. -/
theorem small_equal : Cert.algebraic_SmallIdeal_SmallReferenceIdeal (hSmallIdeal := Cert.SmallIdeal.Gen.facts) (hSmallReferenceIdeal := Cert.SmallReferenceIdeal.Gen.facts) := by
  intro m g m' g' _ hargs
  refine ⟨fun c => SmallValue.small (m' ((c.tc : Thread Cert.SmallReferenceIdeal.nD Cert.SmallReferenceIdeal.τ).loc Cert.SmallReferenceIdeal.main_arg0)) (m' ((c.tc : Thread Cert.SmallReferenceIdeal.nD Cert.SmallReferenceIdeal.τ).loc Cert.SmallReferenceIdeal.main_arg1)) (m' ((c.tc : Thread Cert.SmallReferenceIdeal.nD Cert.SmallReferenceIdeal.τ).loc Cert.SmallReferenceIdeal.main_arg2)) (m' ((c.tc : Thread Cert.SmallReferenceIdeal.nD Cert.SmallReferenceIdeal.τ).loc Cert.SmallReferenceIdeal.main_arg3)) (m' ((c.tc : Thread Cert.SmallReferenceIdeal.nD Cert.SmallReferenceIdeal.τ).loc Cert.SmallReferenceIdeal.main_arg4)),
    (θ_run _ _ _).mono (fun r h c => ?_) (Cert.SmallIdeal.Value.run_blocks (F := Ideal) m g), Cert.SmallReferenceIdeal.Value.run (F := Ideal) m' g'⟩
  obtain ⟨h0, h⟩ := h c
  obtain ⟨e0, e1, e2, e3, e4⟩ := hargs c
  refine ⟨h0.trans ((SmallValue.small_eq m c).trans ?_), h⟩
  rw [← e0, ← e1, ← e2, ← e3, ← e4]

/-- The queries, keys and values are the reference's. -/
theorem qkv_equal : Cert.algebraic_QkvIdeal_QkvReferenceIdeal (hQkvIdeal := Cert.QkvIdeal.Gen.facts) (hQkvReferenceIdeal := Cert.QkvReferenceIdeal.Gen.facts) := by
  intro m g m' g' _ hargs
  refine ⟨fun c => QkvValue.narrow (QkvValue.qNorm (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)) (m' ((c.tc : Thread Cert.QkvReferenceIdeal.nD Cert.QkvReferenceIdeal.τ).loc Cert.QkvReferenceIdeal.main_arg2))),
    fun c => QkvValue.kNorm (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)) (m' ((c.tc : Thread Cert.QkvReferenceIdeal.nD Cert.QkvReferenceIdeal.τ).loc Cert.QkvReferenceIdeal.main_arg2)),
    fun c => QkvValue.narrow (QkvValue.kNorm (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)) (m' ((c.tc : Thread Cert.QkvReferenceIdeal.nD Cert.QkvReferenceIdeal.τ).loc Cert.QkvReferenceIdeal.main_arg2))),
    fun c => QkvValue.vals (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)), fun c => QkvValue.narrow (QkvValue.vals (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1))),
    (θ_run _ _ _).mono (fun r h c => ?_) (QkvValue.run_values m g), Cert.QkvReferenceIdeal.Value.run (F := Ideal) m' g'⟩
  obtain ⟨h0, h1, h2, h3, h4, h⟩ := h c
  obtain ⟨e0, e1, e2⟩ := hargs c
  refine ⟨h0.trans ?_, h1.trans ?_, h2.trans ?_, h3.trans ?_, h4.trans ?_, h⟩
  · rw [← e0, ← e1, ← e2]
  · rw [← e0, ← e1, ← e2]
  · rw [← e0, ← e1, ← e2]
  · rw [← e0, ← e1]
  · rw [← e0, ← e1]

/-- The normalised rows are the reference's. -/
theorem norm_equal : Cert.algebraic_NormIdeal_NormReferenceIdeal (hNormIdeal := Cert.NormIdeal.Gen.facts) (hNormReferenceIdeal := Cert.NormReferenceIdeal.Gen.facts) := by
  intro m g m' g' _ hargs
  refine ⟨fun c => MergeValue.normed (m' ((c.tc : Thread Cert.NormReferenceIdeal.nD Cert.NormReferenceIdeal.τ).loc Cert.NormReferenceIdeal.main_arg0)) (m' ((c.tc : Thread Cert.NormReferenceIdeal.nD Cert.NormReferenceIdeal.τ).loc Cert.NormReferenceIdeal.main_arg1)),
    (θ_run _ _ _).mono (fun r h c => ?_) (Cert.NormIdeal.Value.run_blocks (F := Ideal) m g), Cert.NormReferenceIdeal.Value.run (F := Ideal) m' g'⟩
  obtain ⟨h0, h⟩ := h c
  obtain ⟨e0, e1⟩ := hargs c
  refine ⟨h0.trans ((NormValue.norm_eq m c).trans ?_), h⟩
  rw [← e0, ← e1]

/-- The stream after the experts is the reference's. -/
theorem experts_equal : Cert.algebraic_ExpertsIdeal_ExpertsReferenceIdeal (hExpertsIdeal := Cert.ExpertsIdeal.Gen.facts) (hExpertsReferenceIdeal := Cert.ExpertsReferenceIdeal.Gen.facts) := by
  intro m g m' g' _ hargs
  refine ⟨fun c => ExpertsValue.experts (m' ((c.tc : Thread Cert.ExpertsReferenceIdeal.nD Cert.ExpertsReferenceIdeal.τ).loc Cert.ExpertsReferenceIdeal.main_arg0)) (m' ((c.tc : Thread Cert.ExpertsReferenceIdeal.nD Cert.ExpertsReferenceIdeal.τ).loc Cert.ExpertsReferenceIdeal.main_arg1))
      (m' ((c.tc : Thread Cert.ExpertsReferenceIdeal.nD Cert.ExpertsReferenceIdeal.τ).loc Cert.ExpertsReferenceIdeal.main_arg2)) (m' ((c.tc : Thread Cert.ExpertsReferenceIdeal.nD Cert.ExpertsReferenceIdeal.τ).loc Cert.ExpertsReferenceIdeal.main_arg3))
      (m' ((c.tc : Thread Cert.ExpertsReferenceIdeal.nD Cert.ExpertsReferenceIdeal.τ).loc Cert.ExpertsReferenceIdeal.main_arg4)) (m' ((c.tc : Thread Cert.ExpertsReferenceIdeal.nD Cert.ExpertsReferenceIdeal.τ).loc Cert.ExpertsReferenceIdeal.main_arg5))
      (m' ((c.tc : Thread Cert.ExpertsReferenceIdeal.nD Cert.ExpertsReferenceIdeal.τ).loc Cert.ExpertsReferenceIdeal.main_arg6)) (m' ((c.tc : Thread Cert.ExpertsReferenceIdeal.nD Cert.ExpertsReferenceIdeal.τ).loc Cert.ExpertsReferenceIdeal.main_arg7)),
    (θ_run _ _ _).mono (fun r h c => ?_) (Cert.ExpertsIdeal.Value.run_blocks (F := Ideal) m g), Cert.ExpertsReferenceIdeal.Value.run (F := Ideal) m' g'⟩
  obtain ⟨h0, h⟩ := h c
  obtain ⟨e0, e1, e2, e3, e4, e5, e6, e7⟩ := hargs c
  refine ⟨h0.trans ((ExpertsValue.experts_eq m c).trans ?_), h⟩
  rw [← e0, ← e1, ← e2, ← e3, ← e4, ← e5, ← e6, ← e7]

/-- From the layer's input, the log forget gates and the indexer's keys are the reference's. -/
theorem layer_equal : Cert.algebraic_LayerIdeal_LayerReferenceIdeal (hLayerIdeal := Cert.LayerIdeal.Gen.facts) (hLayerReferenceIdeal := Cert.LayerReferenceIdeal.Gen.facts) := by
  intro m g m' g' _ hargs
  refine ⟨fun c => Cert.LayerReferenceIdeal.Value.res_main_v22 m' c, fun c => LayerValue.refKeys (LayerValue.projected (m' ((c.tc : Thread Cert.LayerReferenceIdeal.nD Cert.LayerReferenceIdeal.τ).loc Cert.LayerReferenceIdeal.main_arg0)) (LayerValue.gainOf (m' ((c.tc : Thread Cert.LayerReferenceIdeal.nD Cert.LayerReferenceIdeal.τ).loc Cert.LayerReferenceIdeal.main_arg1))) (LayerValue.layerOf (m' ((c.tc : Thread Cert.LayerReferenceIdeal.nD Cert.LayerReferenceIdeal.τ).loc Cert.LayerReferenceIdeal.main_arg2)))),
    (θ_run _ _ _).mono (fun r h c => ?_) (LayerValue.run m g), Cert.LayerReferenceIdeal.Value.run (F := Ideal) m' g'⟩
  obtain ⟨h0, h1, h⟩ := h c
  obtain ⟨e0, e1, e2, e3⟩ := hargs c
  refine ⟨h0.trans ((congrArg LayerValue.gates (LayerValue.layer_eq m g c)).trans (Eq.trans ?_ (LayerValue.reference_eq m' c).symm)),
    h1.trans ((congrArg LayerValue.keys (LayerValue.layer_eq m g c)).trans ?_), h⟩
  · refine (LayerValue.gates_eq _ _ _ _).trans ?_
    rw [← e0, ← e1, ← e2, ← e3]
  · refine (LayerValue.keys_eq _ _ _ _).trans ?_
    rw [← e0, ← e1, ← e2]

/-- From the layer's input, the sample batch's log forget gates and the indexer's keys are the reference's. -/
theorem sample_equal : Cert.algebraic_SampleIdeal_SampleReferenceIdeal (hSampleIdeal := Cert.SampleIdeal.Gen.facts) (hSampleReferenceIdeal := Cert.SampleReferenceIdeal.Gen.facts) := by
  intro m g m' g' _ hargs
  refine ⟨fun c => Cert.SampleReferenceIdeal.Value.res_main_v22 m' c, fun c => SampleValue.refKeys (SampleValue.projected (m' ((c.tc : Thread Cert.SampleReferenceIdeal.nD Cert.SampleReferenceIdeal.τ).loc Cert.SampleReferenceIdeal.main_arg0)) (LayerValue.gainOf (m' ((c.tc : Thread Cert.SampleReferenceIdeal.nD Cert.SampleReferenceIdeal.τ).loc Cert.SampleReferenceIdeal.main_arg1))) (LayerValue.layerOf (m' ((c.tc : Thread Cert.SampleReferenceIdeal.nD Cert.SampleReferenceIdeal.τ).loc Cert.SampleReferenceIdeal.main_arg2)))),
    (θ_run _ _ _).mono (fun r h c => ?_) (SampleValue.run m g), Cert.SampleReferenceIdeal.Value.run (F := Ideal) m' g'⟩
  obtain ⟨h0, h1, h⟩ := h c
  obtain ⟨e0, e1, e2, e3⟩ := hargs c
  refine ⟨h0.trans ((congrArg SampleValue.gates (SampleValue.layer_eq m g c)).trans (Eq.trans ?_ (SampleValue.reference_eq m' c).symm)),
    h1.trans ((congrArg SampleValue.keys (SampleValue.layer_eq m g c)).trans ?_), h⟩
  · refine (SampleValue.gates_eq _ _ _ _).trans ?_
    rw [← e0, ← e1, ← e2, ← e3]
  · refine (SampleValue.keys_eq _ _ _ _).trans ?_
    rw [← e0, ← e1, ← e2]

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Gates.Gen.facts, Cert.GatesIdeal.Gen.facts, Cert.GatesReferenceIdeal.Gen.facts,
  Cert.Index.Gen.facts, Cert.IndexIdeal.Gen.facts, Cert.IndexReferenceIdeal.Gen.facts,
  Cert.Small.Gen.facts, Cert.SmallIdeal.Gen.facts, Cert.SmallReferenceIdeal.Gen.facts,
  Cert.Qkv.Gen.facts, Cert.QkvIdeal.Gen.facts, Cert.QkvReferenceIdeal.Gen.facts,
  Cert.Norm.Gen.facts, Cert.NormIdeal.Gen.facts, Cert.NormReferenceIdeal.Gen.facts,
  Cert.Experts.Gen.facts, Cert.ExpertsIdeal.Gen.facts, Cert.ExpertsReferenceIdeal.Gen.facts,
  Cert.Layer.Gen.facts, Cert.LayerIdeal.Gen.facts, Cert.LayerReferenceIdeal.Gen.facts,
  Cert.Sample.Gen.facts, Cert.SampleIdeal.Gen.facts, Cert.SampleReferenceIdeal.Gen.facts, Finite.facts,
  fun m ρ _ => Cert.Kernel.Gen.frame m ρ, fun m ρ _ => Cert.KernelIdeal.Gen.frame m ρ, fun m ρ _ => Cert.KernelIdeal.Gen.frame m ρ,
  frame_reference, fun m ρ h => frame_reference m ρ trivial,
  fun m ρ _ => Cert.Merge.Gen.frame m ρ, fun m ρ _ => Cert.MergeIdeal.Gen.frame m ρ, frame_merge_reference,
  fun m ρ _ => Cert.Gates.Gen.frame m ρ, fun m ρ _ => Cert.GatesIdeal.Gen.frame m ρ, frame_gates_reference,
  fun m ρ _ => Cert.Index.Gen.frame m ρ, fun m ρ _ => Cert.IndexIdeal.Gen.frame m ρ, frame_index_reference,
  fun m ρ _ => Cert.Small.Gen.frame m ρ, fun m ρ _ => Cert.SmallIdeal.Gen.frame m ρ, frame_small_reference,
  fun m ρ _ => Cert.Qkv.Gen.frame m ρ, fun m ρ _ => Cert.QkvIdeal.Gen.frame m ρ, frame_qkv_reference,
  fun m ρ _ => Cert.Norm.Gen.frame m ρ, fun m ρ _ => Cert.NormIdeal.Gen.frame m ρ, frame_norm_reference,
  fun m ρ _ => Cert.Experts.Gen.frame m ρ, fun m ρ _ => Cert.ExpertsIdeal.Gen.frame m ρ, frame_experts_reference,
  fun m ρ _ => Cert.Layer.Gen.frame m ρ, fun m ρ _ => Cert.LayerIdeal.Gen.frame m ρ, frame_layer_reference,
  fun m ρ _ => Cert.Sample.Gen.frame m ρ, fun m ρ _ => Cert.SampleIdeal.Gen.frame m ρ, frame_sample_reference,
  IdealRules.named_const.statement _ _ _ _ _ rfl, attention_equal,
  trivial, merge_equal, trivial, gates_equal, trivial, index_equal,
  trivial, small_equal, trivial, qkv_equal, trivial, norm_equal, trivial, experts_equal, trivial, layer_equal, trivial, sample_equal⟩

end Cert.Proof

end
